-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_expert_ids : Cert.Pre_expert_ids.Facts] (m : (ℓ : Loc Cert.Kernel3.nD Cert.Kernel3.τ Cert.Kernel3.sig) → Buf (Elt Bits) ℓ) : Prop :=
  ∀ c : Dev Cert.Kernel3.nD,
    (Cert.Pre_expert_ids.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_expert_ids : Cert.Pre_expert_ids.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_expert_ids.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal [hPre_expert_ids : Cert.Pre_expert_ids.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_expert_ids.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_scores [hPre_finite_scores : Cert.Pre_finite_scores.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_scores [hPre_finite_scores : Cert.Pre_finite_scores.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_expert_ids : Cert.Pre_expert_ids.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_expert_ids : Cert.Pre_expert_ids.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] [hPre_expert_ids : Cert.Pre_expert_ids.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_scores [hKernel7Ideal : Cert.Kernel7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_scores m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_scores [hReference7Ideal : Cert.Reference7Ideal.Facts] [hPre_finite_scores : Cert.Pre_finite_scores.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_scores m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_expert_ids : Cert.Pre_expert_ids.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)) (v2 : (c : Dev Cert.Kernel4Ideal.nD) → Buf (Elt Ideal) ((c.tc : Thread Cert.Kernel4Ideal.nD Cert.Kernel4Ideal.τ).loc Cert.Kernel4Ideal.main_v18_2)) (v3 : (c : Dev Cert.Kernel4Ideal.nD) → Buf (Elt Ideal) ((c.tc : Thread Cert.Kernel4Ideal.nD Cert.Kernel4Ideal.τ).loc Cert.Kernel4Ideal.main_v18_3)) (v4 : (c : Dev Cert.Kernel4Ideal.nD) → Buf (Elt Ideal) ((c.tc : Thread Cert.Kernel4Ideal.nD Cert.Kernel4Ideal.τ).loc Cert.Kernel4Ideal.main_v18_4)) (v5 : (c : Dev Cert.Kernel4Ideal.nD) → Buf (Elt Ideal) ((c.tc : Thread Cert.Kernel4Ideal.nD Cert.Kernel4Ideal.τ).loc Cert.Kernel4Ideal.main_v18_5)) (v6 : (c : Dev Cert.Kernel4Ideal.nD) → Buf (Elt Ideal) ((c.tc : Thread Cert.Kernel4Ideal.nD Cert.Kernel4Ideal.τ).loc Cert.Kernel4Ideal.main_v18_6)) (v7 : (c : Dev Cert.Kernel4Ideal.nD) → Buf (Elt Ideal) ((c.tc : Thread Cert.Kernel4Ideal.nD Cert.Kernel4Ideal.τ).loc Cert.Kernel4Ideal.main_v18_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_v18_2) = v2 c
          ∧ r.2.mem ((c.tc : Thread Cert.Kernel4Ideal.nD Cert.Kernel4Ideal.τ).loc Cert.Kernel4Ideal.main_v18_3) = v3 c
          ∧ r.2.mem ((c.tc : Thread Cert.Kernel4Ideal.nD Cert.Kernel4Ideal.τ).loc Cert.Kernel4Ideal.main_v18_4) = v4 c
          ∧ r.2.mem ((c.tc : Thread Cert.Kernel4Ideal.nD Cert.Kernel4Ideal.τ).loc Cert.Kernel4Ideal.main_v18_5) = v5 c
          ∧ r.2.mem ((c.tc : Thread Cert.Kernel4Ideal.nD Cert.Kernel4Ideal.τ).loc Cert.Kernel4Ideal.main_v18_6) = v6 c
          ∧ r.2.mem ((c.tc : Thread Cert.Kernel4Ideal.nD Cert.Kernel4Ideal.τ).loc Cert.Kernel4Ideal.main_v18_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_v69) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v70) = v3 c
          ∧ r.2.mem ((c.tc : Thread Cert.Reference4Ideal.nD Cert.Reference4Ideal.τ).loc Cert.Reference4Ideal.main_v71) = v4 c
          ∧ r.2.mem ((c.tc : Thread Cert.Reference4Ideal.nD Cert.Reference4Ideal.τ).loc Cert.Reference4Ideal.main_v72) = v5 c
          ∧ r.2.mem ((c.tc : Thread Cert.Reference4Ideal.nD Cert.Reference4Ideal.τ).loc Cert.Reference4Ideal.main_v73) = v6 c
          ∧ r.2.mem ((c.tc : Thread Cert.Reference4Ideal.nD Cert.Reference4Ideal.τ).loc Cert.Reference4Ideal.main_v74) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_v59) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_scores [hKernel7Ideal : Cert.Kernel7Ideal.Facts] [hReference7Ideal : Cert.Reference7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_scores m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_expert_ids : Cert.Pre_expert_ids.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_expert_ids := hPre_expert_ids)
    ∧ quiescent_Kernel3Ideal (hKernel3Ideal := hKernel3Ideal) (hPre_expert_ids := hPre_expert_ids)
    ∧ quiescent_Reference3Ideal (hReference3Ideal := hReference3Ideal) (hPre_expert_ids := hPre_expert_ids)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_scores (hKernel7Ideal := hKernel7Ideal) (hPre_finite_scores := hPre_finite_scores)
    ∧ quiescent_Reference7Ideal (hReference7Ideal := hReference7Ideal)
    ∧ quiescent_Reference7Ideal_pre_finite_scores (hReference7Ideal := hReference7Ideal) (hPre_finite_scores := hPre_finite_scores)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_expert_ids := hPre_expert_ids)
    ∧ preserves_Kernel4_Kernel4Ideal
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_scores (hKernel7Ideal := hKernel7Ideal) (hReference7Ideal := hReference7Ideal) (hPre_finite_scores := hPre_finite_scores)
    ∧ preserves_Kernel8_Kernel8Ideal
    ∧ algebraic_Kernel8Ideal_Reference8Ideal (hKernel8Ideal := hKernel8Ideal) (hReference8Ideal := hReference8Ideal)
-- ==== Pre_expert_ids.lean ====
abbrev S136 : Shape := ⟨1, ![136]⟩
abbrev S1 : Shape := ⟨1, ![1]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : IVec S136 32) (main_arg1 : IVec S1 32) (main_arg2 : FVec F S69632x1024 .f32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_finite_scores.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) (main_arg1 : FVec F S512x256 .f32) (main_arg2 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S32768x256 : Shape := ⟨2, ![32768, 256]⟩
abbrev S512x256 : Shape := ⟨2, ![512, 256]⟩
abbrev S4x15x31 : Shape := ⟨3, ![4, 15, 31]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S8x64x8x64x1 : Shape := ⟨5, ![8, 64, 8, 64, 1]⟩
abbrev S8x64x8x64x2 : Shape := ⟨5, ![8, 64, 8, 64, 2]⟩
abbrev S4x8x64x8x64 : Shape := ⟨5, ![4, 8, 64, 8, 64]⟩
abbrev S8x4x64x8x64 : Shape := ⟨5, ![8, 4, 64, 8, 64]⟩
abbrev S1x1x64x1x64 : Shape := ⟨5, ![1, 1, 64, 1, 64]⟩
abbrev S8x256x512 : Shape := ⟨3, ![8, 256, 512]⟩
abbrev S256x256 : Shape := ⟨2, ![256, 256]⟩
abbrev S1536x256 : Shape := ⟨2, ![1536, 256]⟩
abbrev S64x256 : Shape := ⟨2, ![64, 256]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩

abbrev nBuf : Space → Nat
  | .hbm => 100
  | .vmem => 23
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S512x256, .f32⟩
  | .hbm, ⟨4, _⟩ => ⟨S512x256, .f32⟩
  | .hbm, ⟨5, _⟩ => ⟨S4x15x31, .f32⟩
  | .hbm, ⟨6, _⟩ => ⟨S_, .f32⟩
  | .hbm, ⟨7, _⟩ => ⟨S32768x256, .f32⟩
  | .hbm, ⟨8, _⟩ => ⟨S32768x256, .f32⟩
  | .hbm, ⟨9, _⟩ => ⟨S32768x256, .bf16⟩
  | .hbm, ⟨10, _⟩ => ⟨S32768x256, .bf16⟩
  | .hbm, ⟨11, _⟩ => ⟨S32768x256, .bf16⟩
  | .hbm, ⟨12, _⟩ => ⟨S512x256, .bf16⟩
  | .hbm, ⟨13, _⟩ => ⟨S512x256, .bf16⟩
  | .hbm, ⟨14, _⟩ => ⟨S64, .i32⟩
  | .hbm, ⟨15, _⟩ => ⟨S64x1, .i32⟩
  | .hbm, ⟨16, _⟩ => ⟨S64, .i32⟩
  | .hbm, ⟨17, _⟩ => ⟨S1x64, .i32⟩
  | .hbm, ⟨18, _⟩ => ⟨S_, .i32⟩
  | .hbm, ⟨19, _⟩ => ⟨S64x1, .i32⟩
  | .hbm, ⟨20, _⟩ => ⟨S64x1, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S_, .i32⟩
  | .hbm, ⟨27, _⟩ => ⟨S64x1, .i32⟩
  | .hbm, ⟨28, _⟩ => ⟨S64x1, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S64x64, .i1⟩
  | .hbm, ⟨39, _⟩ => ⟨S64x64, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S8, .i32⟩
  | .hbm, ⟨49, _⟩ => ⟨S8x1, .i32⟩
  | .hbm, ⟨50, _⟩ => ⟨S8, .i32⟩
  | .hbm, ⟨51, _⟩ => ⟨S1x8, .i32⟩
  | .hbm, ⟨52, _⟩ => ⟨S_, .i32⟩
  | .hbm, ⟨53, _⟩ => ⟨S1x8, .i32⟩
  | .hbm, ⟨54, _⟩ => ⟨S1x8, .i32⟩
  | .hbm, ⟨55, _⟩ => ⟨S_, .i32⟩
  | .hbm, ⟨56, _⟩ => ⟨S1x8, .i32⟩
  | .hbm, ⟨57, _⟩ => ⟨S1x8, .i32⟩
  | .hbm, ⟨58, _⟩ => ⟨S8x8, .i32⟩
  | .hbm, ⟨59, _⟩ => ⟨S8x8, .i32⟩
  | .hbm, ⟨60, _⟩ => ⟨S8x8, .i32⟩
  | .hbm, ⟨61, _⟩ => ⟨S8x1x8x1, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S64x64, .i32⟩
  | .hbm, ⟨66, _⟩ => ⟨S64x64, .i32⟩
  | .hbm, ⟨67, _⟩ => ⟨S_, .i32⟩
  | .hbm, ⟨68, _⟩ => ⟨S64x64, .i32⟩
  | .hbm, ⟨69, _⟩ => ⟨S64x64, .i32⟩
  | .hbm, ⟨70, _⟩ => ⟨S1x64x1x64, .i32⟩
  | .hbm, ⟨71, _⟩ => ⟨S_, .i32⟩
  | .hbm, ⟨72, _⟩ => ⟨S8x1x8x1, .i32⟩
  | .hbm, ⟨73, _⟩ => ⟨S8x1x8x1, .i1⟩
  | .hbm, ⟨74, _⟩ => ⟨S_, .i32⟩
  | .hbm, ⟨75, _⟩ => ⟨S8x1x8x1, .i32⟩
  | .hbm, ⟨76, _⟩ => ⟨S8x1x8x1, .i32⟩
  | .hbm, ⟨77, _⟩ => ⟨S8x1x8x1, .i32⟩
  | .hbm, ⟨78, _⟩ => ⟨S_, .i32⟩
  | .hbm, ⟨79, _⟩ => ⟨S1x64x1x64, .i32⟩
  | .hbm, ⟨80, _⟩ => ⟨S1x64x1x64, .i1⟩
  | .hbm, ⟨81, _⟩ => ⟨S_, .i32⟩
  | .hbm, ⟨82, _⟩ => ⟨S1x64x1x64, .i32⟩
  | .hbm, ⟨83, _⟩ => ⟨S1x64x1x64, .i32⟩
  | .hbm, ⟨84, _⟩ => ⟨S1x64x1x64, .i32⟩
  | .hbm, ⟨85, _⟩ => ⟨S8x64x8x64, .i32⟩
  | .hbm, ⟨86, _⟩ => ⟨S8x64x8x64, .i32⟩
  | .hbm, ⟨87, _⟩ => ⟨S8x64x8x64x1, .i32⟩
  | .hbm, ⟨88, _⟩ => ⟨S8x64x8x64x1, .i32⟩
  | .hbm, ⟨89, _⟩ => ⟨S8x64x8x64x2, .i32⟩
  | .hbm, ⟨90, _⟩ => ⟨S4x8x64x8x64, .f32⟩
  | .hbm, ⟨91, _⟩ => ⟨S8x4x64x8x64, .f32⟩
  | .hbm, ⟨92, _⟩ => ⟨S1x1x64x1x64, .i1⟩
  | .hbm, ⟨93, _⟩ => ⟨S_, .f32⟩
  | .hbm, ⟨94, _⟩ => ⟨S_, .f32⟩
  | .hbm, ⟨95, _⟩ => ⟨S8x4x64x8x64, .i1⟩
  | .hbm, ⟨96, _⟩ => ⟨S8x4x64x8x64, .f32⟩
  | .hbm, ⟨97, _⟩ => ⟨S8x4x64x8x64, .f32⟩
  | .hbm, ⟨98, _⟩ => ⟨S8x256x512, .f32⟩
  | .hbm, ⟨99, _⟩ => ⟨S32768x256, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S8x256x512, .f32⟩
  | .local _ .vmem, ⟨19, _⟩ => ⟨S512x256, .bf16⟩
  | .local _ .vmem, ⟨20, _⟩ => ⟨S512x256, .bf16⟩
  | .local _ .vmem, ⟨21, _⟩ => ⟨S1536x256, .bf16⟩
  | .local _ .vmem, ⟨22, _⟩ => ⟨S1536x256, .bf16⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_c_8 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_11 : Ref sig .tc := ⟨.hbm, 78, rfl⟩
abbrev main_v49 : Ref sig .tc := ⟨.hbm, 79, rfl⟩
abbrev main_v50 : Ref sig .tc := ⟨.hbm, 80, rfl⟩
abbrev main_c_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let c248_i32 : BitVec 32 := 248#32
  let c0_i32_37 : BitVec 32 := 0#32
  let arg1 : BitVec 32 := BitVec.ofNat 32 (i 1).val
  let c8_i32 : BitVec 32 := 8#32
  let v85 : BitVec 32 := Scalar.muli arg1 c8_i32
  let c0_i32_36 : BitVec 32 := 0#32
  let v86 : BitVec 32 := Scalar.addi v85 c0_i32_36
  let c4_i32 : BitVec 32 := 4#32
  let v87 : BitVec 32 := Scalar.subi v86 c4_i32
  let v88 : BitVec 32 := Scalar.maxsi c0_i32_37 v87
  let v89 : BitVec 32 := Scalar.minsi c248_i32 v88
  let c1_i32_38 : BitVec 32 := 1#32
  let v90 : BitVec 32 := Scalar.subi arg1 c1_i32_38
  let c8_i32_39 : BitVec 32 := 8#32
  let v91 : BitVec 32 := Scalar.muli v90 c8_i32_39
  let v92 : BitVec 32 := Scalar.subi v89 v91
  let c64_i32_40 : BitVec 32 := 64#32
  let v93 : BitVec 32 := Scalar.muli v92 c64_i32_40
  v93
def k0_off1 (i : grid0.Coords) (c0_i32_36 : BitVec 32) : Fin 2 → Nat :=
  let c248_i32 : BitVec 32 := 248#32
  let c0_i32_37 : BitVec 32 := 0#32
  let arg1 : BitVec 32 := BitVec.ofNat 32 (i 1).val
  let c8_i32 : BitVec 32 := 8#32
  let v85 : BitVec 32 := Scalar.muli arg1 c8_i32
  let v86 : BitVec 32 := Scalar.addi v85 c0_i32_36
  let c4_i32 : BitVec 32 := 4#32
  let v87 : BitVec 32 := Scalar.subi v86 c4_i32
  let v88 : BitVec 32 := Scalar.maxsi c0_i32_37 v87
  let v89 : BitVec 32 := Scalar.minsi c248_i32 v88
  let c1_i32_38 : BitVec 32 := 1#32
  let v90 : BitVec 32 := Scalar.subi arg1 c1_i32_38
  let c8_i32_39 : BitVec 32 := 8#32
  let v91 : BitVec 32 := Scalar.muli v90 c8_i32_39
  let v92 : BitVec 32 := Scalar.subi v89 v91
  let c64_i32_40 : BitVec 32 := 64#32
  let v93 : BitVec 32 := Scalar.muli v92 c64_i32_40
  let v94 : BitVec 32 := v93
  let v100 : Index := Scalar.indexCast v94
  let c0_43 : Index := 0#32
  ![v100.toNat, 0]
def k0_off2 (i : grid0.Coords) (c0_i32_36 : BitVec 32) : Fin 3 → Nat :=
  let arg1 : BitVec 32 := BitVec.ofNat 32 (i 1).val
  let c8_i32 : BitVec 32 := 8#32
  let v85 : BitVec 32 := Scalar.muli arg1 c8_i32
  let v86 : BitVec 32 := Scalar.addi v85 c0_i32_36
  let c248_i32 : BitVec 32 := 248#32
  let c0_i32_37 : BitVec 32 := 0#32
  let c4_i32 : BitVec 32 := 4#32
  let v87 : BitVec 32 := Scalar.subi v86 c4_i32
  let v88 : BitVec 32 := Scalar.maxsi c0_i32_37 v87
  let v89 : BitVec 32 := Scalar.minsi c248_i32 v88
  let v103 : BitVec 32 := Scalar.subi v86 v89
  let v104 : Index := Scalar.indexCast v103
  let c0_45 : Index := 0#32
  let c0_46 : Index := 0#32
  ![v104.toNat, 0, 0]
def k0_mult2 (i : grid0.Coords) : BitVec 32 :=
  let c248_i32_52 : BitVec 32 := 248#32
  let c0_i32_51 : BitVec 32 := 0#32
  let arg1 : BitVec 32 := BitVec.ofNat 32 (i 1).val
  let c8_i32_48 : BitVec 32 := 8#32
  let v109 : BitVec 32 := Scalar.muli arg1 c8_i32_48
  let c1_i32_49 : BitVec 32 := 1#32
  let v110 : BitVec 32 := Scalar.addi v109 c1_i32_49
  let c4_i32_50 : BitVec 32 := 4#32
  let v111 : BitVec 32 := Scalar.subi v110 c4_i32_50
  let v112 : BitVec 32 := Scalar.maxsi c0_i32_51 v111
  let v113 : BitVec 32 := Scalar.minsi c248_i32_52 v112
  let c1_i32_53 : BitVec 32 := 1#32
  let v114 : BitVec 32 := Scalar.subi arg1 c1_i32_53
  let c8_i32_54 : BitVec 32 := 8#32
  let v115 : BitVec 32 := Scalar.muli v114 c8_i32_54
  let v116 : BitVec 32 := Scalar.subi v113 v115
  let c64_i32_55 : BitVec 32 := 64#32
  let v117 : BitVec 32 := Scalar.muli v116 c64_i32_55
  v117
def k0_mult3 (i : grid0.Coords) : BitVec 32 :=
  let c248_i32_66 : BitVec 32 := 248#32
  let c0_i32_65 : BitVec 32 := 0#32
  let arg1 : BitVec 32 := BitVec.ofNat 32 (i 1).val
  let c8_i32_63 : BitVec 32 := 8#32
  let v133 : BitVec 32 := Scalar.muli arg1 c8_i32_63
  let c2_i32 : BitVec 32 := 2#32
  let v134 : BitVec 32 := Scalar.addi v133 c2_i32
  let c4_i32_64 : BitVec 32 := 4#32
  let v135 : BitVec 32 := Scalar.subi v134 c4_i32_64
  let v136 : BitVec 32 := Scalar.maxsi c0_i32_65 v135
  let v137 : BitVec 32 := Scalar.minsi c248_i32_66 v136
  let c1_i32_67 : BitVec 32 := 1#32
  let v138 : BitVec 32 := Scalar.subi arg1 c1_i32_67
  let c8_i32_68 : BitVec 32 := 8#32
  let v139 : BitVec 32 := Scalar.muli v138 c8_i32_68
  let v140 : BitVec 32 := Scalar.subi v137 v139
  let c64_i32_69 : BitVec 32 := 64#32
  let v141 : BitVec 32 := Scalar.muli v140 c64_i32_69
  v141
def k0_mult4 (i : grid0.Coords) : BitVec 32 :=
  let c248_i32_80 : BitVec 32 := 248#32
  let c0_i32_79 : BitVec 32 := 0#32
  let arg1 : BitVec 32 := BitVec.ofNat 32 (i 1).val
  let c8_i32_77 : BitVec 32 := 8#32
  let v157 : BitVec 32 := Scalar.muli arg1 c8_i32_77
  let c3_i32 : BitVec 32 := 3#32
  let v158 : BitVec 32 := Scalar.addi v157 c3_i32
  let c4_i32_78 : BitVec 32 := 4#32
  let v159 : BitVec 32 := Scalar.subi v158 c4_i32_78
  let v160 : BitVec 32 := Scalar.maxsi c0_i32_79 v159
  let v161 : BitVec 32 := Scalar.minsi c248_i32_80 v160
  let c1_i32_81 : BitVec 32 := 1#32
  let v162 : BitVec 32 := Scalar.subi arg1 c1_i32_81
  let c8_i32_82 : BitVec 32 := 8#32
  let v163 : BitVec 32 := Scalar.muli v162 c8_i32_82
  let v164 : BitVec 32 := Scalar.subi v161 v163
  let c64_i32_83 : BitVec 32 := 64#32
  let v165 : BitVec 32 := Scalar.muli v164 c64_i32_83
  v165
def k0_mult5 (i : grid0.Coords) : BitVec 32 :=
  let c248_i32_135 : BitVec 32 := 248#32
  let c0_i32_134 : BitVec 32 := 0#32
  let arg1 : BitVec 32 := BitVec.ofNat 32 (i 1).val
  let c8_i32_131 : BitVec 32 := 8#32
  let v325 : BitVec 32 := Scalar.muli arg1 c8_i32_131
  let c4_i32_132 : BitVec 32 := 4#32
  let v326 : BitVec 32 := Scalar.addi v325 c4_i32_132
  let c4_i32_133 : BitVec 32 := 4#32
  let v327 : BitVec 32 := Scalar.subi v326 c4_i32_133
  let v328 : BitVec 32 := Scalar.maxsi c0_i32_134 v327
  let v329 : BitVec 32 := Scalar.minsi c248_i32_135 v328
  let c1_i32_136 : BitVec 32 := 1#32
  let v330 : BitVec 32 := Scalar.subi arg1 c1_i32_136
  let c8_i32_137 : BitVec 32 := 8#32
  let v331 : BitVec 32 := Scalar.muli v330 c8_i32_137
  let v332 : BitVec 32 := Scalar.subi v329 v331
  let c64_i32_138 : BitVec 32 := 64#32
  let v333 : BitVec 32 := Scalar.muli v332 c64_i32_138
  v333
def k0_mult6 (i : grid0.Coords) : BitVec 32 :=
  let c248_i32_149 : BitVec 32 := 248#32
  let c0_i32_148 : BitVec 32 := 0#32
  let arg1 : BitVec 32 := BitVec.ofNat 32 (i 1).val
  let c8_i32_146 : BitVec 32 := 8#32
  let v349 : BitVec 32 := Scalar.muli arg1 c8_i32_146
  let c5_i32 : BitVec 32 := 5#32
  let v350 : BitVec 32 := Scalar.addi v349 c5_i32
  let c4_i32_147 : BitVec 32 := 4#32
  let v351 : BitVec 32 := Scalar.subi v350 c4_i32_147
  let v352 : BitVec 32 := Scalar.maxsi c0_i32_148 v351
  let v353 : BitVec 32 := Scalar.minsi c248_i32_149 v352
  let c1_i32_150 : BitVec 32 := 1#32
  let v354 : BitVec 32 := Scalar.subi arg1 c1_i32_150
  let c8_i32_151 : BitVec 32 := 8#32
  let v355 : BitVec 32 := Scalar.muli v354 c8_i32_151
  let v356 : BitVec 32 := Scalar.subi v353 v355
  let c64_i32_152 : BitVec 32 := 64#32
  let v357 : BitVec 32 := Scalar.muli v356 c64_i32_152
  v357
def k0_mult7 (i : grid0.Coords) : BitVec 32 :=
  let c248_i32_163 : BitVec 32 := 248#32
  let c0_i32_162 : BitVec 32 := 0#32
  let arg1 : BitVec 32 := BitVec.ofNat 32 (i 1).val
  let c8_i32_160 : BitVec 32 := 8#32
  let v373 : BitVec 32 := Scalar.muli arg1 c8_i32_160
  let c6_i32 : BitVec 32 := 6#32
  let v374 : BitVec 32 := Scalar.addi v373 c6_i32
  let c4_i32_161 : BitVec 32 := 4#32
  let v375 : BitVec 32 := Scalar.subi v374 c4_i32_161
  let v376 : BitVec 32 := Scalar.maxsi c0_i32_162 v375
  let v377 : BitVec 32 := Scalar.minsi c248_i32_163 v376
  let c1_i32_164 : BitVec 32 := 1#32
  let v378 : BitVec 32 := Scalar.subi arg1 c1_i32_164
  let c8_i32_165 : BitVec 32 := 8#32
  let v379 : BitVec 32 := Scalar.muli v378 c8_i32_165
  let v380 : BitVec 32 := Scalar.subi v377 v379
  let c64_i32_166 : BitVec 32 := 64#32
  let v381 : BitVec 32 := Scalar.muli v380 c64_i32_166
  v381
def k0_mult8 (i : grid0.Coords) : BitVec 32 :=
  let c248_i32_177 : BitVec 32 := 248#32
  let c0_i32_176 : BitVec 32 := 0#32
  let arg1 : BitVec 32 := BitVec.ofNat 32 (i 1).val
  let c8_i32_174 : BitVec 32 := 8#32
  let v397 : BitVec 32 := Scalar.muli arg1 c8_i32_174
  let c7_i32 : BitVec 32 := 7#32
  let v398 : BitVec 32 := Scalar.addi v397 c7_i32
  let c4_i32_175 : BitVec 32 := 4#32
  let v399 : BitVec 32 := Scalar.subi v398 c4_i32_175
  let v400 : BitVec 32 := Scalar.maxsi c0_i32_176 v399
  let v401 : BitVec 32 := Scalar.minsi c248_i32_177 v400
  let c1_i32_178 : BitVec 32 := 1#32
  let v402 : BitVec 32 := Scalar.subi arg1 c1_i32_178
  let c8_i32_179 : BitVec 32 := 8#32
  let v403 : BitVec 32 := Scalar.muli v402 c8_i32_179
  let v404 : BitVec 32 := Scalar.subi v401 v403
  let c64_i32_180 : BitVec 32 := 64#32
  let v405 : BitVec 32 := Scalar.muli v404 c64_i32_180
  v405
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c31_i32 : BitVec 32 := 31#32
  let v2 : BitVec 32 := Scalar.minsi v1 c31_i32
  let v3 : BitVec 32 := Scalar.addi v0 v2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c31_i32 : BitVec 32 := 31#32
  let v2 : BitVec 32 := Scalar.minsi v1 c31_i32
  let v3 : BitVec 32 := Scalar.addi v0 v2
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S32768x256 : Shape := ⟨2, ![32768, 256]⟩
abbrev S512x256 : Shape := ⟨2, ![512, 256]⟩
abbrev S4x15x31 : Shape := ⟨3, ![4, 15, 31]⟩
abbrev S2x16384x4x64 : Shape := ⟨4, ![2, 16384, 4, 64]⟩
abbrev S2x256x4x64 : Shape := ⟨4, ![2, 256, 4, 64]⟩
abbrev S16384 : Shape := ⟨1, ![16384]⟩
abbrev S_ : Shape := ⟨0, ![]⟩
abbrev S16384x1x1 : Shape := ⟨3, ![16384, 1, 1]⟩
abbrev S8 : Shape := ⟨1, ![8]⟩
abbrev S1x8x1 : Shape := ⟨3, ![1, 8, 1]⟩
abbrev S16384x8x1 : Shape := ⟨3, ![16384, 8, 1]⟩
abbrev S16 : Shape := ⟨1, ![16]⟩
abbrev S1x1x16 : Shape := ⟨3, ![1, 1, 16]⟩
abbrev S16384x1x16 : Shape := ⟨3, ![16384, 1, 16]⟩
abbrev S16384x8x16 : Shape := ⟨3, ![16384, 8, 16]⟩
abbrev S16384x128 : Shape := ⟨2, ![16384, 128]⟩
abbrev S16384x128x1 : Shape := ⟨3, ![16384, 128, 1]⟩
abbrev S2x16384x128x4x64 : Shape := ⟨5, ![2, 16384, 128, 4, 64]⟩
abbrev S2x4x16384x128 : Shape := ⟨4, ![2, 4, 16384, 128]⟩
abbrev S16384x128x2 : Shape := ⟨3, ![16384, 128, 2]⟩
abbrev S4x16384x128 : Shape := ⟨3, ![4, 16384, 128]⟩
abbrev S1x4x16384x128 : Shape := ⟨4, ![1, 4, 16384, 128]⟩
abbrev S2x4x16384x256 : Shape := ⟨4, ![2, 4, 16384, 256]⟩
abbrev S2x4x16384x384 : Shape := ⟨4, ![2, 4, 16384, 384]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩

abbrev nBuf : Space → Nat
  | .hbm => 185
  | .vmem => 0
  | .smem => 0
  | _ => 0

abbrev hbmTy0_0 (i : Nat) : BufTy := match i % 128 with
  | 0 => ⟨S32768x256, .f32⟩
  | 1 => ⟨S32768x256, .f32⟩
  | 2 => ⟨S32768x256, .f32⟩
  | 3 => ⟨S512x256, .f32⟩
  | 4 => ⟨S512x256, .f32⟩
  | 5 => ⟨S4x15x31, .f32⟩
  | 6 => ⟨S2x16384x4x64, .f32⟩
  | 7 => ⟨S2x16384x4x64, .f32⟩
  | 8 => ⟨S2x16384x4x64, .f32⟩
  | 9 => ⟨S2x256x4x64, .f32⟩
  | 10 => ⟨S2x256x4x64, .f32⟩
  | 11 => ⟨S16384, .i32⟩
  | 12 => ⟨S_, .i32⟩
  | 13 => ⟨S_, .i32⟩
  | 14 => ⟨S16384, .i32⟩
  | 15 => ⟨S16384, .i32⟩
  | 16 => ⟨S16384, .i32⟩
  | 17 => ⟨S_, .i32⟩
  | 18 => ⟨S16384, .i32⟩
  | 19 => ⟨S16384, .i1⟩
  | 20 => ⟨S16384, .i32⟩
  | 21 => ⟨S16384, .i32⟩
  | 22 => ⟨S_, .i32⟩
  | 23 => ⟨S16384, .i32⟩
  | 24 => ⟨S16384, .i1⟩
  | 25 => ⟨S16384, .i1⟩
  | 26 => ⟨S_, .i32⟩
  | 27 => ⟨S16384, .i32⟩
  | 28 => ⟨S16384, .i32⟩
  | 29 => ⟨S16384, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S16384, .i32⟩
  | 37 => ⟨S16384, .i32⟩
  | 38 => ⟨S_, .i32⟩
  | 39 => ⟨S16384, .i32⟩
  | 40 => ⟨S16384, .i1⟩
  | 41 => ⟨S_, .i32⟩
  | 42 => ⟨S16384, .i32⟩
  | 43 => ⟨S16384, .i1⟩
  | 44 => ⟨S_, .i32⟩
  | 45 => ⟨S_, .i1⟩
  | 46 => ⟨S16384, .i1⟩
  | 47 => ⟨S16384, .i1⟩
  | 48 => ⟨S16384, .i1⟩
  | 49 => ⟨S16384, .i32⟩
  | 50 => ⟨S16384, .i32⟩
  | 51 => ⟨S16384, .i32⟩
  | 52 => ⟨S_, .i32⟩
  | 53 => ⟨S16384, .i32⟩
  | 54 => ⟨S16384, .i32⟩
  | 55 => ⟨S_, .i32⟩
  | 56 => ⟨S_, .i32⟩
  | 57 => ⟨S_, .i32⟩
  | 58 => ⟨S16384, .i32⟩
  | 59 => ⟨S16384, .i32⟩
  | 60 => ⟨S_, .i32⟩
  | 61 => ⟨S16384, .i32⟩
  | 62 => ⟨S16384, .i32⟩
  | 63 => ⟨S_, .i32⟩
  | 64 => ⟨S16384, .i32⟩
  | 65 => ⟨S16384, .i32⟩
  | 66 => ⟨S_, .i32⟩
  | 67 => ⟨S_, .i32⟩
  | 68 => ⟨S_, .i32⟩
  | 69 => ⟨S16384, .i32⟩
  | 70 => ⟨S16384, .i32⟩
  | 71 => ⟨S_, .i32⟩
  | 72 => ⟨S16384, .i32⟩
  | 73 => ⟨S16384, .i32⟩
  | 74 => ⟨S16384x1x1, .i32⟩
  | 75 => ⟨S8, .i32⟩
  | 76 => ⟨S1x8x1, .i32⟩
  | 77 => ⟨S16384x8x1, .i32⟩
  | 78 => ⟨S16384x8x1, .i32⟩
  | 79 => ⟨S16384x8x1, .i32⟩
  | 80 => ⟨S16384x1x1, .i32⟩
  | 81 => ⟨S16, .i32⟩
  | 82 => ⟨S1x1x16, .i32⟩
  | 83 => ⟨S16384x1x16, .i32⟩
  | 84 => ⟨S16384x1x16, .i32⟩
  | 85 => ⟨S16384x1x16, .i32⟩
  | 86 => ⟨S_, .i32⟩
  | 87 => ⟨S16384x8x1, .i32⟩
  | 88 => ⟨S16384x8x1, .i32⟩
  | 89 => ⟨S16384x8x16, .i32⟩
  | 90 => ⟨S16384x8x16, .i32⟩
  | 91 => ⟨S16384x8x16, .i32⟩
  | 92 => ⟨S16384x128, .i32⟩
  | 93 => ⟨S16384x1x1, .i32⟩
  | 94 => ⟨S16384x8x1, .i32⟩
  | 95 => ⟨S16384x8x1, .i32⟩
  | 96 => ⟨S_, .i32⟩
  | 97 => ⟨S16384x8x1, .i32⟩
  | 98 => ⟨S16384x8x1, .i32⟩
  | 99 => ⟨S_, .i32⟩
  | 100 => ⟨S16384x8x1, .i32⟩
  | 101 => ⟨S16384x8x1, .i32⟩
  | 102 => ⟨S16384x8x16, .i32⟩
  | 103 => ⟨S16384x128, .i32⟩
  | 104 => ⟨S16384x1x1, .i32⟩
  | 105 => ⟨S16384x1x16, .i32⟩
  | 106 => ⟨S16384x1x16, .i32⟩
  | 107 => ⟨S_, .i32⟩
  | 108 => ⟨S16384x1x16, .i32⟩
  | 109 => ⟨S16384x1x16, .i32⟩
  | 110 => ⟨S_, .i32⟩
  | 111 => ⟨S16384x1x16, .i32⟩
  | 112 => ⟨S16384x1x16, .i32⟩
  | 113 => ⟨S16384x8x16, .i32⟩
  | 114 => ⟨S16384x128, .i32⟩
  | 115 => ⟨S_, .i32⟩
  | 116 => ⟨S16384x128, .i32⟩
  | 117 => ⟨S16384x128, .i1⟩
  | 118 => ⟨S_, .i32⟩
  | 119 => ⟨S16384x128, .i32⟩
  | 120 => ⟨S16384x128, .i32⟩
  | 121 => ⟨S16384x128, .i32⟩
  | 122 => ⟨S16384x128x1, .i32⟩
  | 123 => ⟨S2x16384x128x4x64, .f32⟩
  | 124 => ⟨S_, .i32⟩
  | 125 => ⟨S16384x128, .i32⟩
  | 126 => ⟨S16384x128, .i1⟩
  | 127 => ⟨S_, .i32⟩
  | _ => ⟨S32768x256, .f32⟩

abbrev hbmTy0_1 (i : Nat) : BufTy := match i % 128 with
  | 0 => ⟨S16384x128, .i32⟩
  | 1 => ⟨S16384x128, .i32⟩
  | 2 => ⟨S16384x128, .i32⟩
  | 3 => ⟨S16384x128x1, .i32⟩
  | 4 => ⟨S2x16384x128x4x64, .f32⟩
  | 5 => ⟨S2x4x16384x128, .f32⟩
  | 6 => ⟨S_, .f32⟩
  | 7 => ⟨S2x4x16384x128, .f32⟩
  | 8 => ⟨S2x4x16384x128, .f32⟩
  | 9 => ⟨S_, .i32⟩
  | 10 => ⟨S16384x128, .i32⟩
  | 11 => ⟨S16384x128, .i1⟩
  | 12 => ⟨S_, .i32⟩
  | 13 => ⟨S16384x128, .i32⟩
  | 14 => ⟨S16384x128, .i32⟩
  | 15 => ⟨S16384x128, .i32⟩
  | 16 => ⟨S_, .i32⟩
  | 17 => ⟨S16384x128, .i32⟩
  | 18 => ⟨S16384x128, .i1⟩
  | 19 => ⟨S_, .i32⟩
  | 20 => ⟨S16384x128, .i32⟩
  | 21 => ⟨S16384x128, .i32⟩
  | 22 => ⟨S16384x128, .i32⟩
  | 23 => ⟨S16384x128x1, .i32⟩
  | 24 => ⟨S16384x128x1, .i32⟩
  | 25 => ⟨S16384x128x2, .i32⟩
  | 26 => ⟨S4x16384x128, .f32⟩
  | 27 => ⟨S1x4x16384x128, .f32⟩
  | 28 => ⟨S2x4x16384x128, .f32⟩
  | 29 => ⟨S2x4x16384x128, .f32⟩
  | 30 => ⟨S2x4x16384x256, .f32⟩
  | 31 => ⟨S_, .f32⟩
  | 32 => ⟨S2x4x16384x256, .f32⟩
  | 33 => ⟨S2x4x16384x256, .f32⟩
  | 34 => ⟨S2x4x16384x384, .f32⟩
  | 35 => ⟨S_, .f32⟩
  | 36 => ⟨S2x4x16384, .f32⟩
  | 37 => ⟨S_, .f32⟩
  | 38 => ⟨S2x4x16384, .f32⟩
  | 39 => ⟨S2x4x16384, .f32⟩
  | 40 => ⟨S2x4x16384x1, .f32⟩
  | 41 => ⟨S2x4x16384x384, .f32⟩
  | 42 => ⟨S2x4x16384x384, .f32⟩
  | 43 => ⟨S2x4x16384x384, .f32⟩
  | 44 => ⟨S_, .f32⟩
  | 45 => ⟨S2x4x16384, .f32⟩
  | 46 => ⟨S2x4x16384x1, .f32⟩
  | 47 => ⟨S2x4x16384x384, .f32⟩
  | 48 => ⟨S2x4x16384x384, .f32⟩
  | 49 => ⟨S2x4x16384x128, .f32⟩
  | 50 => ⟨S2x16384x4x64, .f32⟩
  | 51 => ⟨S2x4x16384x256, .f32⟩
  | 52 => ⟨S2x4x64x16384, .f32⟩
  | 53 => ⟨S2x16384x4x64, .f32⟩
  | 54 => ⟨S2x16384x4x64, .f32⟩
  | 55 => ⟨S32768x256, .f32⟩
  | 56 => ⟨S32768x256, .bf16⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v7 : Ref sig .tc := ⟨.hbm, 51, rfl⟩
abbrev main_c_1 : Ref sig .tc := ⟨.hbm, 52, rfl⟩
abbrev main_v8 : Ref sig .tc := ⟨.hbm, 53, rfl⟩
abbrev main_v9 : Ref sig .tc := ⟨.hbm, 54, rfl⟩
abbrev main_c_2 : Ref sig .tc := ⟨.hbm, 55, rfl⟩
abbrev main_c_3 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v10 : Ref sig .tc := ⟨.hbm, 62, rfl⟩
abbrev main_c_4 : Ref sig .tc := ⟨.hbm, 63, rfl⟩
abbrev main_v11 : Ref sig .tc := ⟨.hbm, 64, rfl⟩
abbrev main_v12 : Ref sig .tc := ⟨.hbm, 65, rfl⟩
abbrev main_c_5 : Ref sig .tc := ⟨.hbm, 66, rfl⟩
abbrev main_c_6 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_c_7 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_c_8 : Ref sig .tc := ⟨.hbm, 96, rfl⟩
abbrev main_v35 : Ref sig .tc := ⟨.hbm, 97, rfl⟩
abbrev main_v36 : Ref sig .tc := ⟨.hbm, 98, rfl⟩
abbrev main_c_9 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_c_10 : Ref sig .tc := ⟨.hbm, 107, rfl⟩
abbrev main_v44 : Ref sig .tc := ⟨.hbm, 108, rfl⟩
abbrev main_v45 : Ref sig .tc := ⟨.hbm, 109, rfl⟩
abbrev main_c_11 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_c_12 : Ref sig .tc := ⟨.hbm, 115, rfl⟩
abbrev main_v50 : Ref sig .tc := ⟨.hbm, 116, rfl⟩
abbrev main_v51 : Ref sig .tc := ⟨.hbm, 117, rfl⟩
abbrev main_c_13 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_c_14 : Ref sig .tc := ⟨.hbm, 124, rfl⟩
abbrev main_v57 : Ref sig .tc := ⟨.hbm, 125, rfl⟩
abbrev main_v58 : Ref sig .tc := ⟨.hbm, 126, rfl⟩
abbrev main_c_15 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_cst : Ref sig .tc := ⟨.hbm, 134, rfl⟩
abbrev main_v65 : Ref sig .tc := ⟨.hbm, 135, rfl⟩
abbrev main_v66 : Ref sig .tc := ⟨.hbm, 136, rfl⟩
abbrev main_c_16 : Ref sig .tc := ⟨.hbm, 137, rfl⟩
abbrev main_v67 : Ref sig .tc := ⟨.hbm, 138, rfl⟩
abbrev main_v68 : Ref sig .tc := ⟨.hbm, 139, rfl⟩
abbrev main_c_17 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_c_18 : Ref sig .tc := ⟨.hbm, 144, rfl⟩
abbrev main_v72 : Ref sig .tc := ⟨.hbm, 145, rfl⟩
abbrev main_v73 : Ref sig .tc := ⟨.hbm, 146, rfl⟩
abbrev main_c_19 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_cst_20 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_cst_21 : Ref sig .tc := ⟨.hbm, 163, rfl⟩
abbrev main_v88 : Ref sig .tc := ⟨.hbm, 164, rfl⟩
abbrev main_cst_22 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_cst_23 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩

abbrev nD : Nat := 1
abbrev τ : Topo := Topo.v7x

variable {F : FTy → Type} [FloatOps F]
-- ==== Kernel2.lean ====
abbrev S32768x1024 : Shape := ⟨2, ![32768, 1024]⟩
abbrev S2x6144 : Shape := ⟨2, ![2, 6144]⟩
abbrev S1024x2816 : Shape := ⟨2, ![1024, 2816]⟩
abbrev S2816x1024 : Shape := ⟨2, ![2816, 1024]⟩
abbrev S_ : Shape := ⟨0, ![]⟩
abbrev S6x6144 : Shape := ⟨2, ![6, 6144]⟩
abbrev S8x6144 : Shape := ⟨2, ![8, 6144]⟩
abbrev S512x1024 : Shape := ⟨2, ![512, 1024]⟩
abbrev S1024x1408 : Shape := ⟨2, ![1024, 1408]⟩
abbrev S512x1408 : Shape := ⟨2, ![512, 1408]⟩
abbrev S512x2816 : Shape := ⟨2, ![512, 2816]⟩
abbrev S1x6144 : Shape := ⟨2, ![1, 6144]⟩
abbrev S1x1024 : Shape := ⟨2, ![1, 1024]⟩

abbrev nBuf : Space → Nat
  | .hbm => 14
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S2x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .f32⟩
  | .hbm, ⟨7, _⟩ => ⟨S6x6144, .f32⟩
  | .hbm, ⟨8, _⟩ => ⟨S8x6144, .f32⟩
  | .hbm, ⟨9, _⟩ => ⟨S32768x1024, .bf16⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S8x6144, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c512_i32 : BitVec 32 := 512#32
  let v26 : BitVec 32 := Scalar.muli arg0 c512_i32
  let c0_i32 : BitVec 32 := 0#32
  let v28 : BitVec 1 := Scalar.cmpi .sgt v26 c0_i32
  let v29 : BitVec 32 := Scalar.extui v28
  let c0_i32_14 : BitVec 32 := 0#32
  let v30 : BitVec 1 := Scalar.cmpi .slt v26 c0_i32_14
  let v31 : BitVec 32 := Scalar.extui v30
  let v32 : BitVec 32 := Scalar.subi v29 v31
  let c16384_i32 : BitVec 32 := 16384#32
  let c0_i32_15 : BitVec 32 := 0#32
  let v33 : BitVec 1 := Scalar.cmpi .sgt c16384_i32 c0_i32_15
  let v34 : BitVec 32 := Scalar.extui v33
  let c0_i32_16 : BitVec 32 := 0#32
  let v35 : BitVec 1 := Scalar.cmpi .slt c16384_i32 c0_i32_16
  let v36 : BitVec 32 := Scalar.extui v35
  let v37 : BitVec 32 := Scalar.subi v34 v36
  let v38 : BitVec 1 := Scalar.cmpi .ne v32 v37
  let v39 : BitVec 32 := Scalar.remsi v26 c16384_i32
  let c0_i32_17 : BitVec 32 := 0#32
  let v40 : BitVec 1 := Scalar.cmpi .ne v39 c0_i32_17
  let v41 : BitVec 1 := Scalar.andi v38 v40
  let v27 : BitVec 32 := Scalar.divsi v26 c16384_i32
  let c1_i32 : BitVec 32 := 1#32
  let v42 : BitVec 32 := Scalar.subi v27 c1_i32
  let v43 : BitVec 32 := Scalar.select v41 v42 v27
  let v44 : Index := Scalar.indexCast v43
  let c0_18 : Index := 0#32
  ![v44.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S2x6144 : Shape := ⟨2, ![2, 6144]⟩
abbrev S1024x2816 : Shape := ⟨2, ![1024, 2816]⟩
abbrev S2816x1024 : Shape := ⟨2, ![2816, 1024]⟩
abbrev S32768x2816 : Shape := ⟨2, ![32768, 2816]⟩
abbrev S_ : Shape := ⟨0, ![]⟩
abbrev S2x1x6144 : Shape := ⟨3, ![2, 1, 6144]⟩
abbrev S2x1x1024 : Shape := ⟨3, ![2, 1, 1024]⟩
abbrev S2x16384x1024 : Shape := ⟨3, ![2, 16384, 1024]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S2x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S32768x2816, .f32⟩
  | .hbm, ⟨7, _⟩ => ⟨S32768x2816, .f32⟩
  | .hbm, ⟨8, _⟩ => ⟨S32768x2816, .f32⟩
  | .hbm, ⟨9, _⟩ => ⟨S_, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S32768x1024, .f32⟩
  | .hbm, ⟨19, _⟩ => ⟨S2x1x6144, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x1x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Kernel3.lean ====
abbrev S136 : Shape := ⟨1, ![136]⟩
abbrev S1 : Shape := ⟨1, ![1]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x3584 : Shape := ⟨3, ![1, 1024, 3584]⟩
abbrev S1x3584x1024 : Shape := ⟨3, ![1, 3584, 1024]⟩
abbrev S1x1024x1792 : Shape := ⟨3, ![1, 1024, 1792]⟩
abbrev S1024x1792 : Shape := ⟨2, ![1024, 1792]⟩
abbrev S512x1792 : Shape := ⟨2, ![512, 1792]⟩
abbrev S512x3584 : Shape := ⟨2, ![512, 3584]⟩
abbrev S3584x1024 : Shape := ⟨2, ![3584, 1024]⟩

abbrev nBuf : Space → Nat
  | .hbm => 8
  | .vmem => 7
  | .smem => 2
  | _ => 0

abbrev bufTy : (tb : Table) → Fin (tcTables nBuf tb) → BufTy
  | .hbm, ⟨0, _⟩ => ⟨S69632x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x3584, .bf16⟩
  | .local _ .vmem, ⟨3, _⟩ => ⟨S1x1024x3584, .bf16⟩
  | .local _ .vmem, ⟨4, _⟩ => ⟨S1x3584x1024, .bf16⟩
  | .local _ .vmem, ⟨5, _⟩ => ⟨S512x1024, .f32⟩
  | .local _ .vmem, ⟨6, _⟩ => ⟨S512x1024, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S136 : Shape := ⟨1, ![136]⟩
abbrev S1 : Shape := ⟨1, ![1]⟩
abbrev S69632x1024 : Shape := ⟨2, ![69632, 1024]⟩
abbrev S8x1024x3584 : Shape := ⟨3, ![8, 1024, 3584]⟩
abbrev S8x3584x1024 : Shape := ⟨3, ![8, 3584, 1024]⟩
abbrev S136x512x1024 : Shape := ⟨3, ![136, 512, 1024]⟩
abbrev S_ : Shape := ⟨0, ![]⟩
abbrev S136x1 : Shape := ⟨2, ![136, 1]⟩
abbrev S136x3 : Shape := ⟨2, ![136, 3]⟩
abbrev S136x1x1024x3584 : Shape := ⟨4, ![136, 1, 1024, 3584]⟩
abbrev S136x1024x3584 : Shape := ⟨3, ![136, 1024, 3584]⟩
abbrev S136x512x3584 : Shape := ⟨3, ![136, 512, 3584]⟩
abbrev S136x1x3584x1024 : Shape := ⟨4, ![136, 1, 3584, 1024]⟩
abbrev S136x3584x1024 : Shape := ⟨3, ![136, 3584, 1024]⟩
abbrev S136x1x1 : Shape := ⟨3, ![136, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S136, .i32⟩
  | .hbm, ⟨1, _⟩ => ⟨S1, .i32⟩
  | .hbm, ⟨2, _⟩ => ⟨S69632x1024, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S136x512x1024, .f32⟩
  | .hbm, ⟨7, _⟩ => ⟨S136, .i32⟩
  | .hbm, ⟨8, _⟩ => ⟨S_, .i32⟩
  | .hbm, ⟨9, _⟩ => ⟨S136, .i32⟩
  | .hbm, ⟨10, _⟩ => ⟨S136, .i1⟩
  | .hbm, ⟨11, _⟩ => ⟨S_, .i32⟩
  | .hbm, ⟨12, _⟩ => ⟨S136, .i32⟩
  | .hbm, ⟨13, _⟩ => ⟨S136, .i1⟩
  | .hbm, ⟨14, _⟩ => ⟨S_, .i32⟩
  | .hbm, ⟨15, _⟩ => ⟨S136, .i32⟩
  | .hbm, ⟨16, _⟩ => ⟨S136, .i32⟩
  | .hbm, ⟨17, _⟩ => ⟨S136, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S136x1, .i32⟩
  | .hbm, ⟨35, _⟩ => ⟨S136x1, .i32⟩
  | .hbm, ⟨36, _⟩ => ⟨S136x1, .i32⟩
  | .hbm, ⟨37, _⟩ => ⟨S136x3, .i32⟩
  | .hbm, ⟨38, _⟩ => ⟨S136x1x1024x3584, .f32⟩
  | .hbm, ⟨39, _⟩ => ⟨S136x1024x3584, .f32⟩
  | .hbm, ⟨40, _⟩ => ⟨S136x512x3584, .f32⟩
  | .hbm, ⟨41, _⟩ => ⟨S136x512x3584, .f32⟩
  | .hbm, ⟨42, _⟩ => ⟨S136x512x3584, .f32⟩
  | .hbm, ⟨43, _⟩ => ⟨S_, .f32⟩
  | .hbm, ⟨44, _⟩ => ⟨S136x512x3584, .f32⟩
  | .hbm, ⟨45, _⟩ => ⟨S136x512x3584, .f32⟩
  | .hbm, ⟨46, _⟩ => ⟨S_, .f32⟩
  | .hbm, ⟨47, _⟩ => ⟨S136x512x3584, .f32⟩
  | .hbm, ⟨48, _⟩ => ⟨S136x512x3584, .f32⟩
  | .hbm, ⟨49, _⟩ => ⟨S136x512x3584, .f32⟩
  | .hbm, ⟨50, _⟩ => ⟨S_, .i32⟩
  | .hbm, ⟨51, _⟩ => ⟨S136, .i32⟩
  | .hbm, ⟨52, _⟩ => ⟨S136, .i1⟩
  | .hbm, ⟨53, _⟩ => ⟨S_, .i32⟩
  | .hbm, ⟨54, _⟩ => ⟨S136, .i32⟩
  | .hbm, ⟨55, _⟩ => ⟨S136, .i32⟩
  | .hbm, ⟨56, _⟩ => ⟨S136, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S136x1, .i32⟩
  | .hbm, ⟨74, _⟩ => ⟨S136x1, .i32⟩
  | .hbm, ⟨75, _⟩ => ⟨S136x1, .i32⟩
  | .hbm, ⟨76, _⟩ => ⟨S136x3, .i32⟩
  | .hbm, ⟨77, _⟩ => ⟨S136x1x1024x3584, .f32⟩
  | .hbm, ⟨78, _⟩ => ⟨S136x1024x3584, .f32⟩
  | .hbm, ⟨79, _⟩ => ⟨S136x512x3584, .f32⟩
  | .hbm, ⟨80, _⟩ => ⟨S136x512x3584, .f32⟩
  | .hbm, ⟨81, _⟩ => ⟨S_, .i32⟩
  | .hbm, ⟨82, _⟩ => ⟨S136, .i32⟩
  | .hbm, ⟨83, _⟩ => ⟨S136, .i1⟩
  | .hbm, ⟨84, _⟩ => ⟨S_, .i32⟩
  | .hbm, ⟨85, _⟩ => ⟨S136, .i32⟩
  | .hbm, ⟨86, _⟩ => ⟨S136, .i32⟩
  | .hbm, ⟨87, _⟩ => ⟨S136, .i32⟩
  | .hbm, ⟨88, _⟩ => ⟨S_, .i32⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i1⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S136x1, .i32⟩
  | .hbm, ⟨105, _⟩ => ⟨S136x1, .i32⟩
  | .hbm, ⟨106, _⟩ => ⟨S136x1, .i32⟩
  | .hbm, ⟨107, _⟩ => ⟨S136x3, .i32⟩
  | .hbm, ⟨108, _⟩ => ⟨S136x1x3584x1024, .f32⟩
  | .hbm, ⟨109, _⟩ => ⟨S136x3584x1024, .f32⟩
  | .hbm, ⟨110, _⟩ => ⟨S136x512x1024, .f32⟩
  | .hbm, ⟨111, _⟩ => ⟨S136x1x1, .i1⟩
  | .hbm, ⟨112, _⟩ => ⟨S_, .f32⟩
  | .hbm, ⟨113, _⟩ => ⟨S_, .f32⟩
  | .hbm, ⟨114, _⟩ => ⟨S136x512x1024, .i1⟩
  | .hbm, ⟨115, _⟩ => ⟨S136x512x1024, .f32⟩
  | .hbm, ⟨116, _⟩ => ⟨S136x512x1024, .f32⟩
  | .hbm, ⟨117, _⟩ => ⟨S69632x1024, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_c_2 : Ref sig .tc := ⟨.hbm, 19, rfl⟩
abbrev main_v10 : Ref sig .tc := ⟨.hbm, 20, rfl⟩
abbrev main_c_3 : Ref sig .tc := ⟨.hbm, 21, rfl⟩
abbrev main_c_4 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_c_6 : Ref sig .tc := ⟨.hbm, 26, rfl⟩
abbrev main_c_7 : Ref sig .tc := ⟨.hbm, 27, rfl⟩
abbrev main_v13 : Ref sig .tc := ⟨.hbm, 28, rfl⟩
abbrev main_c_8 : Ref sig .tc := ⟨.hbm, 29, rfl⟩
abbrev main_c_9 : Ref sig .tc := ⟨.hbm, 30, rfl⟩
abbrev main_v14 : Ref sig .tc := ⟨.hbm, 31, rfl⟩
abbrev main_c_10 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v23 : Ref sig .tc := ⟨.hbm, 49, rfl⟩
abbrev main_c_11 : Ref sig .tc := ⟨.hbm, 50, rfl⟩
abbrev main_v24 : Ref sig .tc := ⟨.hbm, 51, rfl⟩
abbrev main_v25 : Ref sig .tc := ⟨.hbm, 52, rfl⟩
abbrev main_c_12 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_13 : Ref sig .tc := ⟨.hbm, 57, rfl⟩
abbrev main_c_14 : Ref sig .tc := ⟨.hbm, 58, rfl⟩
abbrev main_v29 : Ref sig .tc := ⟨.hbm, 59, rfl⟩
abbrev main_c_15 : Ref sig .tc := ⟨.hbm, 60, rfl⟩
abbrev main_c_16 : Ref sig .tc := ⟨.hbm, 61, rfl⟩
abbrev main_v30 : Ref sig .tc := ⟨.hbm, 62, rfl⟩
abbrev main_c_17 : Ref sig .tc := ⟨.hbm, 63, rfl⟩
abbrev main_v31 : Ref sig .tc := ⟨.hbm, 64, rfl⟩
abbrev main_c_18 : Ref sig .tc := ⟨.hbm, 65, rfl⟩
abbrev main_c_19 : Ref sig .tc := ⟨.hbm, 66, rfl⟩
abbrev main_v32 : Ref sig .tc := ⟨.hbm, 67, rfl⟩
abbrev main_c_20 : Ref sig .tc := ⟨.hbm, 68, rfl⟩
abbrev main_c_21 : Ref sig .tc := ⟨.hbm, 69, rfl⟩
abbrev main_v33 : Ref sig .tc := ⟨.hbm, 70, rfl⟩
abbrev main_c_22 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_23 : Ref sig .tc := ⟨.hbm, 81, rfl⟩
abbrev main_v43 : Ref sig .tc := ⟨.hbm, 82, rfl⟩
abbrev main_v44 : Ref sig .tc := ⟨.hbm, 83, rfl⟩
abbrev main_c_24 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_c_25 : Ref sig .tc := ⟨.hbm, 88, rfl⟩
abbrev main_c_26 : Ref sig .tc := ⟨.hbm, 89, rfl⟩
abbrev main_v48 : Ref sig .tc := ⟨.hbm, 90, rfl⟩
abbrev main_c_27 : Ref sig .tc := ⟨.hbm, 91, rfl⟩
abbrev main_c_28 : Ref sig .tc := ⟨.hbm, 92, rfl⟩
abbrev main_v49 : Ref sig .tc := ⟨.hbm, 93, rfl⟩
abbrev main_c_29 : Ref sig .tc := ⟨.hbm, 94, rfl⟩
abbrev main_v50 : Ref sig .tc := ⟨.hbm, 95, rfl⟩
abbrev main_c_30 : Ref sig .tc := ⟨.hbm, 96, rfl⟩
abbrev main_c_31 : Ref sig .tc := ⟨.hbm, 97, rfl⟩
abbrev main_v51 : Ref sig .tc := ⟨.hbm, 98, rfl⟩
abbrev main_c_32 : Ref sig .tc := ⟨.hbm, 99, rfl⟩
abbrev main_c_33 : Ref sig .tc := ⟨.hbm, 100, rfl⟩
abbrev main_v52 : Ref sig .tc := ⟨.hbm, 101, rfl⟩
abbrev main_c_34 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v62 : Ref sig .tc := ⟨.hbm, 116, rfl⟩
abbrev main_v63 : Ref sig .tc := ⟨.hbm, 117, rfl⟩

abbrev nD : Nat := 1
abbrev τ : Topo := Topo.v7x

variable {F : FTy → Type} [FloatOps F]
-- ==== Kernel4.lean ====
abbrev S32768x1024 : Shape := ⟨2, ![32768, 1024]⟩
abbrev S2x6144 : Shape := ⟨2, ![2, 6144]⟩
abbrev S1024 : Shape := ⟨1, ![1024]⟩
abbrev S1024x3088 : Shape := ⟨2, ![1024, 3088]⟩
abbrev S64 : Shape := ⟨1, ![64]⟩
abbrev S256x256 : Shape := ⟨2, ![256, 256]⟩
abbrev S_ : Shape := ⟨0, ![]⟩
abbrev S6x6144 : Shape := ⟨2, ![6, 6144]⟩
abbrev S8x6144 : Shape := ⟨2, ![8, 6144]⟩
abbrev S1024x2048 : Shape := ⟨2, ![1024, 2048]⟩
abbrev S1024x1024 : Shape := ⟨2, ![1024, 1024]⟩
abbrev S1024x3072 : Shape := ⟨2, ![1024, 3072]⟩
abbrev S1024x16 : Shape := ⟨2, ![1024, 16]⟩
abbrev S16x1024 : Shape := ⟨2, ![16, 1024]⟩
abbrev S1x1024 : Shape := ⟨2, ![1, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S32768x1536 : Shape := ⟨2, ![32768, 1536]⟩
abbrev S32768x512 : Shape := ⟨2, ![32768, 512]⟩
abbrev S32768x16 : Shape := ⟨2, ![32768, 16]⟩
abbrev S16x32768 : Shape := ⟨2, ![16, 32768]⟩
abbrev S32768x256 : Shape := ⟨2, ![32768, 256]⟩
abbrev S512x1024 : Shape := ⟨2, ![512, 1024]⟩
abbrev S512x1536 : Shape := ⟨2, ![512, 1536]⟩
abbrev S512x512 : Shape := ⟨2, ![512, 512]⟩
abbrev S512x16 : Shape := ⟨2, ![512, 16]⟩
abbrev S16x512 : Shape := ⟨2, ![16, 512]⟩
abbrev S512x256 : Shape := ⟨2, ![512, 256]⟩
abbrev S1x6144 : Shape := ⟨2, ![1, 6144]⟩
abbrev S128x1024 : Shape := ⟨2, ![128, 1024]⟩
abbrev S128 : Shape := ⟨1, ![128]⟩
abbrev S128x1 : Shape := ⟨2, ![128, 1]⟩
abbrev S1024x1536 : Shape := ⟨2, ![1024, 1536]⟩
abbrev S128x1536 : Shape := ⟨2, ![128, 1536]⟩
abbrev S1024x512 : Shape := ⟨2, ![1024, 512]⟩
abbrev S128x512 : Shape := ⟨2, ![128, 512]⟩
abbrev S1024x256 : Shape := ⟨2, ![1024, 256]⟩
abbrev S128x256 : Shape := ⟨2, ![128, 256]⟩
abbrev S128x16 : Shape := ⟨2, ![128, 16]⟩
abbrev S16x128 : Shape := ⟨2, ![16, 128]⟩

abbrev nBuf : Space → Nat
  | .hbm => 34
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S2x6144, .f32⟩
  | .hbm, ⟨2, _⟩ => ⟨S1024, .f32⟩
  | .hbm, ⟨3, _⟩ => ⟨S1024x3088, .f32⟩
  | .hbm, ⟨4, _⟩ => ⟨S64, .f32⟩
  | .hbm, ⟨5, _⟩ => ⟨S64, .f32⟩
  | .hbm, ⟨6, _⟩ => ⟨S256x256, .bf16⟩
  | .hbm, ⟨7, _⟩ => ⟨S_, .f32⟩
  | .hbm, ⟨8, _⟩ => ⟨S6x6144, .f32⟩
  | .hbm, ⟨9, _⟩ => ⟨S8x6144, .f32⟩
  | .hbm, ⟨10, _⟩ => ⟨S1024x2048, .f32⟩
  | .hbm, ⟨11, _⟩ => ⟨S1024x1024, .f32⟩
  | .hbm, ⟨12, _⟩ => ⟨S1024x3072, .f32⟩
  | .hbm, ⟨13, _⟩ => ⟨S1024x3072, .bf16⟩
  | .hbm, ⟨14, _⟩ => ⟨S1024x16, .f32⟩
  | .hbm, ⟨15, _⟩ => ⟨S1024x16, .bf16⟩
  | .hbm, ⟨16, _⟩ => ⟨S16x1024, .bf16⟩
  | .hbm, ⟨17, _⟩ => ⟨S1x1024, .f32⟩
  | .hbm, ⟨18, _⟩ => ⟨S1x64, .f32⟩
  | .hbm, ⟨19, _⟩ => ⟨S4x64, .f32⟩
  | .hbm, ⟨20, _⟩ => ⟨S256, .f32⟩
  | .hbm, ⟨21, _⟩ => ⟨S1x256, .f32⟩
  | .hbm, ⟨22, _⟩ => ⟨S1x64, .f32⟩
  | .hbm, ⟨23, _⟩ => ⟨S4x64, .f32⟩
  | .hbm, ⟨24, _⟩ => ⟨S256, .f32⟩
  | .hbm, ⟨25, _⟩ => ⟨S1x256, .f32⟩
  | .hbm, ⟨26, _⟩ => ⟨S32768x1536, .bf16⟩
  | .hbm, ⟨27, _⟩ => ⟨S32768x512, .bf16⟩
  | .hbm, ⟨28, _⟩ => ⟨S32768x16, .f32⟩
  | .hbm, ⟨29, _⟩ => ⟨S16x32768, .f32⟩
  | .hbm, ⟨30, _⟩ => ⟨S32768x256, .bf16⟩
  | .hbm, ⟨31, _⟩ => ⟨S32768x256, .bf16⟩
  | .hbm, ⟨32, _⟩ => ⟨S32768x256, .bf16⟩
  | .hbm, ⟨33, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S1x1024, .f32⟩
  | .local _ .vmem, ⟨4, _⟩ => ⟨S1024x3072, .bf16⟩
  | .local _ .vmem, ⟨5, _⟩ => ⟨S1024x16, .bf16⟩
  | .local _ .vmem, ⟨6, _⟩ => ⟨S16x1024, .bf16⟩
  | .local _ .vmem, ⟨7, _⟩ => ⟨S1x256, .f32⟩
  | .local _ .vmem, ⟨8, _⟩ => ⟨S1x256, .f32⟩
  | .local _ .vmem, ⟨9, _⟩ => ⟨S256x256, .bf16⟩
  | .local _ .vmem, ⟨10, _⟩ => ⟨S512x1536, .bf16⟩
  | .local _ .vmem, ⟨11, _⟩ => ⟨S512x1536, .bf16⟩
  | .local _ .vmem, ⟨12, _⟩ => ⟨S512x512, .bf16⟩
  | .local _ .vmem, ⟨13, _⟩ => ⟨S512x512, .bf16⟩
  | .local _ .vmem, ⟨14, _⟩ => ⟨S512x16, .f32⟩
  | .local _ .vmem, ⟨15, _⟩ => ⟨S512x16, .f32⟩
  | .local _ .vmem, ⟨16, _⟩ => ⟨S16x512, .f32⟩
  | .local _ .vmem, ⟨17, _⟩ => ⟨S16x512, .f32⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev main_v18_4 : Ref sig .tc := ⟨.hbm, 30, rfl⟩
abbrev main_v18_5 : Ref sig .tc := ⟨.hbm, 31, rfl⟩
abbrev main_v18_6 : Ref sig .tc := ⟨.hbm, 32, rfl⟩
abbrev main_v18_7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c16384_i32 : BitVec 32 := 16384#32
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let v1 : BitVec 32 := Scalar.divsi v0 c16384_i32
  let c1_i32 : BitVec 32 := 1#32
  let v16 : BitVec 32 := Scalar.subi v1 c1_i32
  let v17 : BitVec 32 := Scalar.select v15 v16 v1
  let v18 : Index := Scalar.indexCast v17
  let c0 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S32768x1024 : Shape := ⟨2, ![32768, 1024]⟩
abbrev S2x6144 : Shape := ⟨2, ![2, 6144]⟩
abbrev S1024 : Shape := ⟨1, ![1024]⟩
abbrev S1024x3088 : Shape := ⟨2, ![1024, 3088]⟩
abbrev S64 : Shape := ⟨1, ![64]⟩
abbrev S2x1x6144 : Shape := ⟨3, ![2, 1, 6144]⟩
abbrev S2x1x1024 : Shape := ⟨3, ![2, 1, 1024]⟩
abbrev S2x16384x1024 : Shape := ⟨3, ![2, 16384, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S32768x3088 : Shape := ⟨2, ![32768, 3088]⟩
abbrev S32768x1536 : Shape := ⟨2, ![32768, 1536]⟩
abbrev S32768x512 : Shape := ⟨2, ![32768, 512]⟩
abbrev S32768x16 : Shape := ⟨2, ![32768, 16]⟩
abbrev S32768x256 : Shape := ⟨2, ![32768, 256]⟩
abbrev S32768x4x64 : Shape := ⟨3, ![32768, 4, 64]⟩
abbrev S32768x4 : Shape := ⟨2, ![32768, 4]⟩
abbrev S32768x4x1 : Shape := ⟨3, ![32768, 4, 1]⟩
abbrev S1x1x64 : Shape := ⟨3, ![1, 1, 64]⟩
abbrev S16x32768 : Shape := ⟨2, ![16, 32768]⟩

abbrev nBuf : Space → Nat
  | .hbm => 92
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x6144, .f32⟩
  | .hbm, ⟨2, _⟩ => ⟨S1024, .f32⟩
  | .hbm, ⟨3, _⟩ => ⟨S1024x3088, .f32⟩
  | .hbm, ⟨4, _⟩ => ⟨S64, .f32⟩
  | .hbm, ⟨5, _⟩ => ⟨S64, .f32⟩
  | .hbm, ⟨6, _⟩ => ⟨S2x1x6144, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x16384x1024, .f32⟩
  | .hbm, ⟨14, _⟩ => ⟨S2x16384x1024, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x1024, .f32⟩
  | .hbm, ⟨26, _⟩ => ⟨S2x16384x1024, .f32⟩
  | .hbm, ⟨27, _⟩ => ⟨S1x1x1024, .f32⟩
  | .hbm, ⟨28, _⟩ => ⟨S2x16384x1024, .f32⟩
  | .hbm, ⟨29, _⟩ => ⟨S2x16384x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x1024, .f32⟩
  | .hbm, ⟨37, _⟩ => ⟨S32768x1024, .f32⟩
  | .hbm, ⟨38, _⟩ => ⟨S32768x3088, .f32⟩
  | .hbm, ⟨39, _⟩ => ⟨S32768x1536, .f32⟩
  | .hbm, ⟨40, _⟩ => ⟨S32768x512, .f32⟩
  | .hbm, ⟨41, _⟩ => ⟨S32768x16, .f32⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S32768x256, .f32⟩
  | .hbm, ⟨46, _⟩ => ⟨S32768x4x64, .f32⟩
  | .hbm, ⟨47, _⟩ => ⟨S32768x4x64, .f32⟩
  | .hbm, ⟨48, _⟩ => ⟨S_, .f32⟩
  | .hbm, ⟨49, _⟩ => ⟨S32768x4, .f32⟩
  | .hbm, ⟨50, _⟩ => ⟨S32768x4x1, .f32⟩
  | .hbm, ⟨51, _⟩ => ⟨S_, .f32⟩
  | .hbm, ⟨52, _⟩ => ⟨S32768x4x1, .f32⟩
  | .hbm, ⟨53, _⟩ => ⟨S32768x4x1, .f32⟩
  | .hbm, ⟨54, _⟩ => ⟨S_, .f32⟩
  | .hbm, ⟨55, _⟩ => ⟨S32768x4x1, .f32⟩
  | .hbm, ⟨56, _⟩ => ⟨S32768x4x1, .f32⟩
  | .hbm, ⟨57, _⟩ => ⟨S32768x4x1, .f32⟩
  | .hbm, ⟨58, _⟩ => ⟨S32768x4x64, .f32⟩
  | .hbm, ⟨59, _⟩ => ⟨S32768x4x64, .f32⟩
  | .hbm, ⟨60, _⟩ => ⟨S1x1x64, .f32⟩
  | .hbm, ⟨61, _⟩ => ⟨S32768x4x64, .f32⟩
  | .hbm, ⟨62, _⟩ => ⟨S32768x4x64, .f32⟩
  | .hbm, ⟨63, _⟩ => ⟨S_, .f32⟩
  | .hbm, ⟨64, _⟩ => ⟨S32768x4x64, .f32⟩
  | .hbm, ⟨65, _⟩ => ⟨S32768x4x64, .f32⟩
  | .hbm, ⟨66, _⟩ => ⟨S32768x256, .f32⟩
  | .hbm, ⟨67, _⟩ => ⟨S32768x4x64, .f32⟩
  | .hbm, ⟨68, _⟩ => ⟨S32768x4x64, .f32⟩
  | .hbm, ⟨69, _⟩ => ⟨S_, .f32⟩
  | .hbm, ⟨70, _⟩ => ⟨S32768x4, .f32⟩
  | .hbm, ⟨71, _⟩ => ⟨S32768x4x1, .f32⟩
  | .hbm, ⟨72, _⟩ => ⟨S_, .f32⟩
  | .hbm, ⟨73, _⟩ => ⟨S32768x4x1, .f32⟩
  | .hbm, ⟨74, _⟩ => ⟨S32768x4x1, .f32⟩
  | .hbm, ⟨75, _⟩ => ⟨S_, .f32⟩
  | .hbm, ⟨76, _⟩ => ⟨S32768x4x1, .f32⟩
  | .hbm, ⟨77, _⟩ => ⟨S32768x4x1, .f32⟩
  | .hbm, ⟨78, _⟩ => ⟨S32768x4x1, .f32⟩
  | .hbm, ⟨79, _⟩ => ⟨S32768x4x64, .f32⟩
  | .hbm, ⟨80, _⟩ => ⟨S32768x4x64, .f32⟩
  | .hbm, ⟨81, _⟩ => ⟨S1x1x64, .f32⟩
  | .hbm, ⟨82, _⟩ => ⟨S32768x4x64, .f32⟩
  | .hbm, ⟨83, _⟩ => ⟨S32768x4x64, .f32⟩
  | .hbm, ⟨84, _⟩ => ⟨S32768x256, .f32⟩
  | .hbm, ⟨85, _⟩ => ⟨S32768x1536, .bf16⟩
  | .hbm, ⟨86, _⟩ => ⟨S32768x512, .bf16⟩
  | .hbm, ⟨87, _⟩ => ⟨S16x32768, .f32⟩
  | .hbm, ⟨88, _⟩ => ⟨S32768x256, .bf16⟩
  | .hbm, ⟨89, _⟩ => ⟨S32768x256, .bf16⟩
  | .hbm, ⟨90, _⟩ => ⟨S32768x256, .bf16⟩
  | .hbm, ⟨91, _⟩ => ⟨S32768x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== Kernel5Ideal.lean ====
abbrev S2x32768x512 : Shape := ⟨3, ![2, 32768, 512]⟩
abbrev S32768x512 : Shape := ⟨2, ![32768, 512]⟩
abbrev S32768x256 : Shape := ⟨2, ![32768, 256]⟩
abbrev S32768x1024 : Shape := ⟨2, ![32768, 1024]⟩
abbrev S2x6144 : Shape := ⟨2, ![2, 6144]⟩
abbrev S128 : Shape := ⟨1, ![128]⟩
abbrev S1024x1024 : Shape := ⟨2, ![1024, 1024]⟩
abbrev S1024 : Shape := ⟨1, ![1024]⟩
abbrev S512x512 : Shape := ⟨2, ![512, 512]⟩
abbrev S_ : Shape := ⟨0, ![]⟩
abbrev S6x6144 : Shape := ⟨2, ![6, 6144]⟩
abbrev S8x6144 : Shape := ⟨2, ![8, 6144]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S1x1024 : Shape := ⟨2, ![1, 1024]⟩
abbrev S2x512x512 : Shape := ⟨3, ![2, 512, 512]⟩
abbrev S512x256 : Shape := ⟨2, ![512, 256]⟩
abbrev S512x1024 : Shape := ⟨2, ![512, 1024]⟩
abbrev S1x6144 : Shape := ⟨2, ![1, 6144]⟩
abbrev S1x128x512 : Shape := ⟨3, ![1, 128, 512]⟩
abbrev S128x512 : Shape := ⟨2, ![128, 512]⟩
abbrev S128x1024 : Shape := ⟨2, ![128, 1024]⟩
abbrev S128x256 : Shape := ⟨2, ![128, 256]⟩
abbrev S256x1024 : Shape := ⟨2, ![256, 1024]⟩
abbrev S128x1 : Shape := ⟨2, ![128, 1]⟩

abbrev nBuf : Space → Nat
  | .hbm => 25
  | .vmem => 19
  | .smem => 0
  | _ => 0

abbrev bufTy : (tb : Table) → Fin (tcTables nBuf tb) → BufTy
  | .hbm, ⟨0, _⟩ => ⟨S2x32768x512, .f32⟩
  | .hbm, ⟨1, _⟩ => ⟨S32768x512, .f32⟩
  | .hbm, ⟨2, _⟩ => ⟨S32768x256, .f32⟩
  | .hbm, ⟨3, _⟩ => ⟨S32768x256, .f32⟩
  | .hbm, ⟨4, _⟩ => ⟨S32768x1024, .f32⟩
  | .hbm, ⟨5, _⟩ => ⟨S2x6144, .f32⟩
  | .hbm, ⟨6, _⟩ => ⟨S128, .f32⟩
  | .hbm, ⟨7, _⟩ => ⟨S1024x1024, .f32⟩
  | .hbm, ⟨8, _⟩ => ⟨S1024, .f32⟩
  | .hbm, ⟨9, _⟩ => ⟨S512x512, .bf16⟩
  | .hbm, ⟨10, _⟩ => ⟨S_, .f32⟩
  | .hbm, ⟨11, _⟩ => ⟨S6x6144, .f32⟩
  | .hbm, ⟨12, _⟩ => ⟨S8x6144, .f32⟩
  | .hbm, ⟨13, _⟩ => ⟨S2x32768x512, .bf16⟩
  | .hbm, ⟨14, _⟩ => ⟨S32768x512, .bf16⟩
  | .hbm, ⟨15, _⟩ => ⟨S32768x256, .bf16⟩
  | .hbm, ⟨16, _⟩ => ⟨S32768x256, .bf16⟩
  | .hbm, ⟨17, _⟩ => ⟨S1024x1024, .bf16⟩
  | .hbm, ⟨18, _⟩ => ⟨S1x128, .f32⟩
  | .hbm, ⟨19, _⟩ => ⟨S4x128, .f32⟩
  | .hbm, ⟨20, _⟩ => ⟨S512, .f32⟩
  | .hbm, ⟨21, _⟩ => ⟨S1x512, .f32⟩
  | .hbm, ⟨22, _⟩ => ⟨S1x1024, .f32⟩
  | .hbm, ⟨23, _⟩ => ⟨S32768x1024, .f32⟩
  | .hbm, ⟨24, _⟩ => ⟨S32768x1024, .bf16⟩
  | .local _ .vmem, ⟨0, _⟩ => ⟨S2x512x512, .bf16⟩
  | .local _ .vmem, ⟨1, _⟩ => ⟨S2x512x512, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .f32⟩
  | .local _ .vmem, ⟨9, _⟩ => ⟨S512x1024, .f32⟩
  | .local _ .vmem, ⟨10, _⟩ => ⟨S8x6144, .f32⟩
  | .local _ .vmem, ⟨11, _⟩ => ⟨S1x512, .f32⟩
  | .local _ .vmem, ⟨12, _⟩ => ⟨S512x512, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S2x32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c16384_i32 : BitVec 32 := 16384#32
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let v1 : BitVec 32 := Scalar.divsi v0 c16384_i32
  let c1_i32 : BitVec 32 := 1#32
  let v16 : BitVec 32 := Scalar.subi v1 c1_i32
  let v17 : BitVec 32 := Scalar.select v15 v16 v1
  let v18 : Index := Scalar.indexCast v17
  let c0 : Index := 0#32
  ![v18.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S2x32768x512 : Shape := ⟨3, ![2, 32768, 512]⟩
abbrev S32768x512 : Shape := ⟨2, ![32768, 512]⟩
abbrev S32768x256 : Shape := ⟨2, ![32768, 256]⟩
abbrev S32768x1024 : Shape := ⟨2, ![32768, 1024]⟩
abbrev S2x6144 : Shape := ⟨2, ![2, 6144]⟩
abbrev S128 : Shape := ⟨1, ![128]⟩
abbrev S1024x1024 : Shape := ⟨2, ![1024, 1024]⟩
abbrev S1024 : Shape := ⟨1, ![1024]⟩
abbrev S1x32768x512 : Shape := ⟨3, ![1, 32768, 512]⟩
abbrev S32768x4x128 : Shape := ⟨3, ![32768, 4, 128]⟩
abbrev S_ : Shape := ⟨0, ![]⟩
abbrev S32768x4 : Shape := ⟨2, ![32768, 4]⟩
abbrev S32768x4x1 : Shape := ⟨3, ![32768, 4, 1]⟩
abbrev S1x1x128 : Shape := ⟨3, ![1, 1, 128]⟩
abbrev S2x1x6144 : Shape := ⟨3, ![2, 1, 6144]⟩
abbrev S2x1x1024 : Shape := ⟨3, ![2, 1, 1024]⟩
abbrev S2x16384x1024 : Shape := ⟨3, ![2, 16384, 1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2x32768x512, .f32⟩
  | .hbm, ⟨1, _⟩ => ⟨S32768x512, .f32⟩
  | .hbm, ⟨2, _⟩ => ⟨S32768x256, .f32⟩
  | .hbm, ⟨3, _⟩ => ⟨S32768x256, .f32⟩
  | .hbm, ⟨4, _⟩ => ⟨S32768x1024, .f32⟩
  | .hbm, ⟨5, _⟩ => ⟨S2x6144, .f32⟩
  | .hbm, ⟨6, _⟩ => ⟨S128, .f32⟩
  | .hbm, ⟨7, _⟩ => ⟨S1024x1024, .f32⟩
  | .hbm, ⟨8, _⟩ => ⟨S1024, .f32⟩
  | .hbm, ⟨9, _⟩ => ⟨S1x32768x512, .f32⟩
  | .hbm, ⟨10, _⟩ => ⟨S32768x512, .f32⟩
  | .hbm, ⟨11, _⟩ => ⟨S32768x4x128, .f32⟩
  | .hbm, ⟨12, _⟩ => ⟨S1x32768x512, .f32⟩
  | .hbm, ⟨13, _⟩ => ⟨S32768x512, .f32⟩
  | .hbm, ⟨14, _⟩ => ⟨S32768x4x128, .f32⟩
  | .hbm, ⟨15, _⟩ => ⟨S32768x4x128, .f32⟩
  | .hbm, ⟨16, _⟩ => ⟨S32768x4x128, .f32⟩
  | .hbm, ⟨17, _⟩ => ⟨S_, .f32⟩
  | .hbm, ⟨18, _⟩ => ⟨S32768x4, .f32⟩
  | .hbm, ⟨19, _⟩ => ⟨S32768x4x1, .f32⟩
  | .hbm, ⟨20, _⟩ => ⟨S_, .f32⟩
  | .hbm, ⟨21, _⟩ => ⟨S32768x4x1, .f32⟩
  | .hbm, ⟨22, _⟩ => ⟨S32768x4x1, .f32⟩
  | .hbm, ⟨23, _⟩ => ⟨S_, .f32⟩
  | .hbm, ⟨24, _⟩ => ⟨S32768x4x1, .f32⟩
  | .hbm, ⟨25, _⟩ => ⟨S32768x4x1, .f32⟩
  | .hbm, ⟨26, _⟩ => ⟨S32768x4x1, .f32⟩
  | .hbm, ⟨27, _⟩ => ⟨S32768x4x128, .f32⟩
  | .hbm, ⟨28, _⟩ => ⟨S32768x4x128, .f32⟩
  | .hbm, ⟨29, _⟩ => ⟨S1x1x128, .f32⟩
  | .hbm, ⟨30, _⟩ => ⟨S32768x4x128, .f32⟩
  | .hbm, ⟨31, _⟩ => ⟨S32768x4x128, .f32⟩
  | .hbm, ⟨32, _⟩ => ⟨S32768x4x128, .f32⟩
  | .hbm, ⟨33, _⟩ => ⟨S32768x4x128, .f32⟩
  | .hbm, ⟨34, _⟩ => ⟨S32768x4x128, .f32⟩
  | .hbm, ⟨35, _⟩ => ⟨S_, .f32⟩
  | .hbm, ⟨36, _⟩ => ⟨S32768x4x128, .f32⟩
  | .hbm, ⟨37, _⟩ => ⟨S32768x4x128, .f32⟩
  | .hbm, ⟨38, _⟩ => ⟨S_, .f32⟩
  | .hbm, ⟨39, _⟩ => ⟨S32768x4x128, .f32⟩
  | .hbm, ⟨40, _⟩ => ⟨S32768x4x128, .f32⟩
  | .hbm, ⟨41, _⟩ => ⟨S32768x4x128, .f32⟩
  | .hbm, ⟨42, _⟩ => ⟨S32768x4x128, .f32⟩
  | .hbm, ⟨43, _⟩ => ⟨S32768x512, .f32⟩
  | .hbm, ⟨44, _⟩ => ⟨S32768x1024, .f32⟩
  | .hbm, ⟨45, _⟩ => ⟨S32768x1024, .f32⟩
  | .hbm, ⟨46, _⟩ => ⟨S2x1x6144, .f32⟩
  | .hbm, ⟨47, _⟩ => ⟨S2x1x1024, .f32⟩
  | .hbm, ⟨48, _⟩ => ⟨S2x1x1024, .f32⟩
  | .hbm, ⟨49, _⟩ => ⟨S2x1x1024, .f32⟩
  | .hbm, ⟨50, _⟩ => ⟨S2x1x1024, .f32⟩
  | .hbm, ⟨51, _⟩ => ⟨S2x1x1024, .f32⟩
  | .hbm, ⟨52, _⟩ => ⟨S2x1x1024, .f32⟩
  | .hbm, ⟨53, _⟩ => ⟨S2x16384x1024, .f32⟩
  | .hbm, ⟨54, _⟩ => ⟨S2x16384x1024, .f32⟩
  | .hbm, ⟨55, _⟩ => ⟨S2x16384x1024, .f32⟩
  | .hbm, ⟨56, _⟩ => ⟨S2x16384x1024, .f32⟩
  | .hbm, ⟨57, _⟩ => ⟨S2x16384x1024, .f32⟩
  | .hbm, ⟨58, _⟩ => ⟨S2x16384x1024, .f32⟩
  | .hbm, ⟨59, _⟩ => ⟨S_, .f32⟩
  | .hbm, ⟨60, _⟩ => ⟨S2x16384, .f32⟩
  | .hbm, ⟨61, _⟩ => ⟨S2x16384x1, .f32⟩
  | .hbm, ⟨62, _⟩ => ⟨S_, .f32⟩
  | .hbm, ⟨63, _⟩ => ⟨S2x16384x1, .f32⟩
  | .hbm, ⟨64, _⟩ => ⟨S2x16384x1, .f32⟩
  | .hbm, ⟨65, _⟩ => ⟨S_, .f32⟩
  | .hbm, ⟨66, _⟩ => ⟨S2x16384x1, .f32⟩
  | .hbm, ⟨67, _⟩ => ⟨S2x16384x1, .f32⟩
  | .hbm, ⟨68, _⟩ => ⟨S2x16384x1, .f32⟩
  | .hbm, ⟨69, _⟩ => ⟨S2x16384x1024, .f32⟩
  | .hbm, ⟨70, _⟩ => ⟨S2x16384x1024, .f32⟩
  | .hbm, ⟨71, _⟩ => ⟨S1x1x1024, .f32⟩
  | .hbm, ⟨72, _⟩ => ⟨S2x16384x1024, .f32⟩
  | .hbm, ⟨73, _⟩ => ⟨S2x16384x1024, .f32⟩
  | .hbm, ⟨74, _⟩ => ⟨S_, .f32⟩
  | .hbm, ⟨75, _⟩ => ⟨S2x1x1024, .f32⟩
  | .hbm, ⟨76, _⟩ => ⟨S2x1x1024, .f32⟩
  | .hbm, ⟨77, _⟩ => ⟨S2x16384x1024, .f32⟩
  | .hbm, ⟨78, _⟩ => ⟨S2x16384x1024, .f32⟩
  | .hbm, ⟨79, _⟩ => ⟨S2x16384x1024, .f32⟩
  | .hbm, ⟨80, _⟩ => ⟨S2x16384x1024, .f32⟩
  | .hbm, ⟨81, _⟩ => ⟨S32768x1024, .f32⟩
  | .hbm, ⟨82, _⟩ => ⟨S32768x1024, .f32⟩
  | .hbm, ⟨83, _⟩ => ⟨S32768x1024, .bf16⟩
  | _, _ => ⟨S2x32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_2 : Ref sig .tc := ⟨.hbm, 59, rfl⟩
abbrev main_v39 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel6.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel7.lean ====
abbrev S512x256 : Shape := ⟨2, ![512, 256]⟩
abbrev S_ : Shape := ⟨0, ![]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S_, .f32⟩
  | .hbm, ⟨4, _⟩ => ⟨S512x256, .f32⟩
  | .hbm, ⟨5, _⟩ => ⟨S512x256, .f32⟩
  | .hbm, ⟨6, _⟩ => ⟨S512x256, .bf16⟩
  | .hbm, ⟨7, _⟩ => ⟨S512x256, .bf16⟩
  | .hbm, ⟨8, _⟩ => ⟨S512x256, .bf16⟩
  | .hbm, ⟨9, _⟩ => ⟨S512x256, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S512x256 : Shape := ⟨2, ![512, 256]⟩
abbrev S2x256x4x64 : Shape := ⟨4, ![2, 256, 4, 64]⟩
abbrev S2x4x256x256 : Shape := ⟨4, ![2, 4, 256, 256]⟩
abbrev S_ : Shape := ⟨0, ![]⟩
abbrev S2x4x256 : Shape := ⟨3, ![2, 4, 256]⟩
abbrev S2x4x256x1 : Shape := ⟨4, ![2, 4, 256, 1]⟩
abbrev S2x4x64x256 : Shape := ⟨4, ![2, 4, 64, 256]⟩

abbrev nBuf : Space → Nat
  | .hbm => 28
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S2x256x4x64, .f32⟩
  | .hbm, ⟨4, _⟩ => ⟨S2x256x4x64, .f32⟩
  | .hbm, ⟨5, _⟩ => ⟨S2x256x4x64, .f32⟩
  | .hbm, ⟨6, _⟩ => ⟨S2x4x256x256, .f32⟩
  | .hbm, ⟨7, _⟩ => ⟨S_, .f32⟩
  | .hbm, ⟨8, _⟩ => ⟨S2x4x256x256, .f32⟩
  | .hbm, ⟨9, _⟩ => ⟨S2x4x256x256, .f32⟩
  | .hbm, ⟨10, _⟩ => ⟨S_, .f32⟩
  | .hbm, ⟨11, _⟩ => ⟨S2x4x256, .f32⟩
  | .hbm, ⟨12, _⟩ => ⟨S_, .f32⟩
  | .hbm, ⟨13, _⟩ => ⟨S2x4x256, .f32⟩
  | .hbm, ⟨14, _⟩ => ⟨S2x4x256, .f32⟩
  | .hbm, ⟨15, _⟩ => ⟨S2x4x256x1, .f32⟩
  | .hbm, ⟨16, _⟩ => ⟨S2x4x256x256, .f32⟩
  | .hbm, ⟨17, _⟩ => ⟨S2x4x256x256, .f32⟩
  | .hbm, ⟨18, _⟩ => ⟨S2x4x256x256, .f32⟩
  | .hbm, ⟨19, _⟩ => ⟨S_, .f32⟩
  | .hbm, ⟨20, _⟩ => ⟨S2x4x256, .f32⟩
  | .hbm, ⟨21, _⟩ => ⟨S2x4x256x1, .f32⟩
  | .hbm, ⟨22, _⟩ => ⟨S2x4x256x256, .f32⟩
  | .hbm, ⟨23, _⟩ => ⟨S2x4x256x256, .f32⟩
  | .hbm, ⟨24, _⟩ => ⟨S2x4x64x256, .f32⟩
  | .hbm, ⟨25, _⟩ => ⟨S2x256x4x64, .f32⟩
  | .hbm, ⟨26, _⟩ => ⟨S512x256, .f32⟩
  | .hbm, ⟨27, _⟩ => ⟨S512x256, .bf16⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel8.lean ====
abbrev S512x1024 : Shape := ⟨2, ![512, 1024]⟩
abbrev S8x6144 : Shape := ⟨2, ![8, 6144]⟩
abbrev S1024x2816 : Shape := ⟨2, ![1024, 2816]⟩
abbrev S2816x1024 : Shape := ⟨2, ![2816, 1024]⟩
abbrev S1024x1408 : Shape := ⟨2, ![1024, 1408]⟩
abbrev S512x1408 : Shape := ⟨2, ![512, 1408]⟩
abbrev S512x2816 : Shape := ⟨2, ![512, 2816]⟩
abbrev S1x6144 : Shape := ⟨2, ![1, 6144]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S8x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S512x1024, .bf16⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S512x1024, .f32⟩
  | .local _ .vmem, ⟨0, _⟩ => ⟨S512x1024, .bf16⟩
  | .local _ .vmem, ⟨1, _⟩ => ⟨S512x1024, .f32⟩
  | .local _ .vmem, ⟨2, _⟩ => ⟨S8x6144, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference8Ideal.lean ====
abbrev S512x1024 : Shape := ⟨2, ![512, 1024]⟩
abbrev S8x6144 : Shape := ⟨2, ![8, 6144]⟩
abbrev S1024x2816 : Shape := ⟨2, ![1024, 2816]⟩
abbrev S2816x1024 : Shape := ⟨2, ![2816, 1024]⟩
abbrev S1x6144 : Shape := ⟨2, ![1, 6144]⟩
abbrev S6144 : Shape := ⟨1, ![6144]⟩
abbrev S1024 : Shape := ⟨1, ![1024]⟩
abbrev S512x2816 : Shape := ⟨2, ![512, 2816]⟩
abbrev S_ : Shape := ⟨0, ![]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S8x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x6144, .f32⟩
  | .hbm, ⟨7, _⟩ => ⟨S6144, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S512x2816, .f32⟩
  | .hbm, ⟨15, _⟩ => ⟨S512x2816, .f32⟩
  | .hbm, ⟨16, _⟩ => ⟨S512x2816, .f32⟩
  | .hbm, ⟨17, _⟩ => ⟨S_, .f32⟩
  | .hbm, ⟨18, _⟩ => ⟨S512x2816, .f32⟩
  | .hbm, ⟨19, _⟩ => ⟨S512x2816, .f32⟩
  | .hbm, ⟨20, _⟩ => ⟨S_, .f32⟩
  | .hbm, ⟨21, _⟩ => ⟨S512x2816, .f32⟩
  | .hbm, ⟨22, _⟩ => ⟨S512x2816, .f32⟩
  | .hbm, ⟨23, _⟩ => ⟨S512x2816, .f32⟩
  | .hbm, ⟨24, _⟩ => ⟨S512x2816, .f32⟩
  | .hbm, ⟨25, _⟩ => ⟨S512x2816, .f32⟩
  | .hbm, ⟨26, _⟩ => ⟨S512x1024, .f32⟩
  | .hbm, ⟨27, _⟩ => ⟨S1x1024, .f32⟩
  | .hbm, ⟨28, _⟩ => ⟨S512x1024, .f32⟩
  | .hbm, ⟨29, _⟩ => ⟨S512x1024, .f32⟩
  | .hbm, ⟨30, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Proof.NaRun.lean ====
module

public import proofs.«01_k».proof.Proof.Gen.KernelIdeal.Frame
public import proofs.«01_k».proof.Proof.Gen.KernelIdeal.Skeleton

@[expose] public section

set_option maxRecDepth 16384

noncomputable section

namespace Cert.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row of the three-block key buffer where the window of query row `8 j + r` begins. -/
def wst (j r : Nat) : Nat := (min 248 (8 * j + r - 4) + 8 - 8 * j) * 64

/-- The bias case of query row `8 j + r`: its distance from its window's first row. -/
def bcase (j r : Nat) : Nat := 8 * j + r - min 248 (8 * j + r - 4)

theorem off1_eq : ∀ (i : grid0.Coords) (r : Fin 8), k0_off1 i (BitVec.ofNat 32 r.val) = ![wst (i 1).val r.val, 0] := by
  decide +kernel

theorem off2_eq : ∀ (i : grid0.Coords) (r : Fin 8), k0_off2 i (BitVec.ofNat 32 r.val) = ![bcase (i 1).val r.val, 0, 0] := by
  decide +kernel

instance closed1_0 (i : grid0.Coords) : ClosedOff (k0_off1 i 0#32) := ⟨![wst (i 1).val 0, 0], off1_eq i 0⟩
instance closed2_0 (i : grid0.Coords) : ClosedOff (k0_off2 i 0#32) := ⟨![bcase (i 1).val 0, 0, 0], off2_eq i 0⟩
instance closed1_1 (i : grid0.Coords) : ClosedOff (k0_off1 i 1#32) := ⟨![wst (i 1).val 1, 0], off1_eq i 1⟩
instance closed2_1 (i : grid0.Coords) : ClosedOff (k0_off2 i 1#32) := ⟨![bcase (i 1).val 1, 0, 0], off2_eq i 1⟩
instance closed1_2 (i : grid0.Coords) : ClosedOff (k0_off1 i 2#32) := ⟨![wst (i 1).val 2, 0], off1_eq i 2⟩
instance closed2_2 (i : grid0.Coords) : ClosedOff (k0_off2 i 2#32) := ⟨![bcase (i 1).val 2, 0, 0], off2_eq i 2⟩
instance closed1_3 (i : grid0.Coords) : ClosedOff (k0_off1 i 3#32) := ⟨![wst (i 1).val 3, 0], off1_eq i 3⟩
instance closed2_3 (i : grid0.Coords) : ClosedOff (k0_off2 i 3#32) := ⟨![bcase (i 1).val 3, 0, 0], off2_eq i 3⟩
instance closed1_4 (i : grid0.Coords) : ClosedOff (k0_off1 i 4#32) := ⟨![wst (i 1).val 4, 0], off1_eq i 4⟩
instance closed2_4 (i : grid0.Coords) : ClosedOff (k0_off2 i 4#32) := ⟨![bcase (i 1).val 4, 0, 0], off2_eq i 4⟩
instance closed1_5 (i : grid0.Coords) : ClosedOff (k0_off1 i 5#32) := ⟨![wst (i 1).val 5, 0], off1_eq i 5⟩
instance closed2_5 (i : grid0.Coords) : ClosedOff (k0_off2 i 5#32) := ⟨![bcase (i 1).val 5, 0, 0], off2_eq i 5⟩
instance closed1_6 (i : grid0.Coords) : ClosedOff (k0_off1 i 6#32) := ⟨![wst (i 1).val 6, 0], off1_eq i 6⟩
instance closed2_6 (i : grid0.Coords) : ClosedOff (k0_off2 i 6#32) := ⟨![bcase (i 1).val 6, 0, 0], off2_eq i 6⟩
instance closed1_7 (i : grid0.Coords) : ClosedOff (k0_off1 i 7#32) := ⟨![wst (i 1).val 7, 0], off1_eq i 7⟩
instance closed2_7 (i : grid0.Coords) : ClosedOff (k0_off2 i 7#32) := ⟨![bcase (i 1).val 7, 0, 0], off2_eq i 7⟩

set_option maxHeartbeats 4000000 in
/-- The attention body run once: on whole staging memrefs holding the ten input blocks, with the output block and the two
    scratch buffers at anything, it ends with the inputs as they were and the output's pieces written. -/
noncomputable def kernelRun (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S256x256 .bf16) (harg9 : arg9.IsWhole) (arg10 : Memref sig .tc .vmem S256x256 .bf16) (harg10 : arg10.IsWhole) (arg11 : Memref sig .tc .vmem S8x256x512 .f32) (harg11 : arg11.IsWhole) (arg12 : Memref sig .tc .vmem S512x256 .bf16) (harg12 : arg12.IsWhole) (arg13 : Memref sig .tc .vmem S1536x256 .bf16) (harg13 : arg13.IsWhole) (arg14 : Memref sig .tc .vmem S1536x256 .bf16) (harg14 : arg14.IsWhole)
    (x0 : Vec F S512x256 .bf16) (x1 : Vec F S512x256 .bf16) (x2 : Vec F S512x256 .bf16) (x3 : Vec F S512x256 .bf16) (x4 : Vec F S512x256 .bf16) (x5 : Vec F S512x256 .bf16) (x6 : Vec F S512x256 .bf16) (x7 : Vec F S256x256 .bf16) (x8 : Vec F S256x256 .bf16) (x9 : Vec F S8x256x512 .f32) :
    { L : List (View.Piece (Elt F) S512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L) ∗ (∃ d, owns (c : Thread nD τ) arg13 fullShare d) ∗ (∃ d, owns (c : Thread nD τ) arg14 fullShare d)) -∗ K ⟨⟩))
          ⊢ wp frame (wpE (defs₀ (F := F)) Variants.none c none) E (cc0_na_attention i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_na_attention_eq_skeleton]; unfold cc0_na_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]
    · iexists _; iexists _; isplitr; swap; · iexact H11
      ipureintro; rfl
    iexists _; iexists _; isplitr; swap; · iexact H12
    ipureintro; rfl

end Cert.Na

end
-- ==== Proof.NaFrame.lean ====
module

public import proofs.«01_k».proof.Proof.NaRun
public import Idealize.ShloMosaic.Lib.Claim
public import Idealize.ShloMosaic.Lib.Pipeline.Value

@[expose] public section

set_option maxRecDepth 16384

noncomputable section

namespace Cert.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The staging memrefs of a grid point, window by window. -/
abbrev ms0_0 (t : Fin cfg0.N) : Memref sig .tc .vmem S512x256 .bf16 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S512x256 .bf16 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S512x256 .bf16 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
theorem hs0_6 (t : Fin cfg0.N) : (ms0_6 t).IsWhole := hstage0_6 ((cfg0.slots t 6).cast nbuf0_6)
abbrev ms0_7 (t : Fin cfg0.N) : Memref sig .tc .vmem S256x256 .bf16 := win0_7.stage (cfg0.slots t 7)
theorem hs0_7 (t : Fin cfg0.N) : (ms0_7 t).IsWhole := hstage0_7 ((cfg0.slots t 7).cast nbuf0_7)
abbrev ms0_8 (t : Fin cfg0.N) : Memref sig .tc .vmem S256x256 .bf16 := win0_8.stage (cfg0.slots t 8)
theorem hs0_8 (t : Fin cfg0.N) : (ms0_8 t).IsWhole := hstage0_8 ((cfg0.slots t 8).cast nbuf0_8)
abbrev ms0_9 (t : Fin cfg0.N) : Memref sig .tc .vmem S8x256x512 .f32 := win0_9.stage (cfg0.slots t 9)
theorem hs0_9 (t : Fin cfg0.N) : (ms0_9 t).IsWhole := hstage0_9 ((cfg0.slots t 9).cast nbuf0_9)
abbrev ms0_10 (t : Fin cfg0.N) : Memref sig .tc .vmem S512x256 .bf16 := win0_10.stage (cfg0.slots t 10)
theorem hs0_10 (t : Fin cfg0.N) : (ms0_10 t).IsWhole := hstage0_10 ((cfg0.slots t 10).cast nbuf0_10)

/-- A whole view of the output block's shape, to read the run's pieces back through. -/
abbrev VO : View sig .tc .vmem S512x256 .bf16 := (Memref.whole cc0_stg10_0 : Memref sig .tc .vmem S512x256 .bf16).view

/-- The run of the body at grid point `t`: what it wrote to the output block. -/
def runAt (c : Dev nD) (t : Fin cfg0.N) : List (View.Piece (Elt F) S512x256 .bf16) := (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t)).1

/-- The eight row stores tile the output block. -/
theorem cover (c : Dev nD) (t : Fin cfg0.N) (y : S512x256.Idx) : ∃ pc ∈ runAt m c t, y ∈ pc.1.set :=
  View.cover_of_tiledL (runAt m c t) ![64, 256] (by sl_kernel_rfl) y

/-- What the body leaves in the output's staging buffer at point `t`. -/
def outsAt (c : Dev nD) (t : Fin cfg0.N) : Vec F S512x256 .bf16 :=
  VO.read (Elt F) (VO.writes (Elt F) VO.junk (runAt m c t))

/-- The pipeline's proof data: the arrays as the region finds them, each input's buffer at its block, the output's at
    what the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

/-- The body at any point: the two scratch buffers come out of the invariant at some contents, the run applies, and they
    go back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10]
  unfold Pipeline.ΦA
  rw [scopedRest0_eq]
  simp only [← owns_whole (c : Thread nD τ) cc0_scratch0 fullShare, ← owns_whole (c : Thread nD τ) cc0_scratch1 fullShare]
  iintro ⟨⟨⟨Hs0, Hs1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [Hs0]; · iexact Hs0
  isplitl [Hs1]; · iexact Hs1
  iintro ⟨H0, H1, H2, H3, H4, H5, H6, H7, H8, H9, ⟨%e10, H10⟩, Hs0, Hs1⟩
  isplitl [Hs0 Hs1 Hr]
  · isplitl [Hs0 Hs1]
    · isplitl [Hs0]; · iexact Hs0
      iexact Hs1
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover m c t)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the program, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame of the attention call, for any floats. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

/-! ## The output array, block by block -/

/-- The index map sends distinct grid points to distinct blocks. -/
theorem idx_inj : ∀ t t' : Fin cfg0.N, win0_10.index t = win0_10.index t' → t = t' :=
  (by decide +kernel : ∀ t t' : Fin grid0.N, win0_10.index t = win0_10.index t' → t = t')

/-- Block `t` of the final array is what the body left there at point `t`. -/
theorem blocks (c : Dev nD) (t : Fin cfg0.N) (hf : (cfg0.win 10).flush t = true) :
    ((cfg0.win 10).blk t).view.read (Elt F) ((dats m 0 c).arrAt 10 cfg0.N) = (cfg0.win 10).cut (grid0.coords t) (outsAt m c t) := by
  rw [(dats m 0 c).read_blk_arrAt_eq_flushed 10 (fun t t' _ _ hne => (cfg0.win 10).disjoint_blk fun h => hne (idx_inj t t' h)) cfg0.N t t.isLt hf]
  show (cfg0.win 10).cut (grid0.coords t) ((dats m 0 c).after 10 t) = _
  rw [after0_10]

/-- The run with the result array named and the arguments unchanged. -/
theorem run_blocks : θ_run defs (onTc (τ := τ) (main (F := F))) ⟨m, fun _ => 0, ρ⟩ fun r => ∀ c : Dev nD,
      r.2.mem ((c : Thread nD τ).loc main_v64) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  θ_run_and (((θ_run defs _ _).mono (fun r h c => (h c).1 10) (run_main m ρ))) (frame_of m ρ (dats m) (A_eq m) (run_main m ρ)) |> fun h =>
    (θ_run defs _ _).mono (fun r h c => ⟨h.1 c, h.2 c⟩) h

end Cert.Na

end
-- ==== Proof.NaBits.lean ====
module

public import proofs.«01_k».proof.Defs
public import proofs.«01_k».proof.Proof.NaFrame
public import proofs.«01_k».proof.Proof.Gen.Kernel

@[expose] public section

set_option maxRecDepth 16384

noncomputable section

namespace Cert.Na

open Idealize.ShloMosaic Idealize.SL.Sem

variable {F : FTy → Type} [FloatOps F]

set_option maxHeartbeats 1000000 in
/-- The two printings of the attention body, one for the machine's floats and one for the extended reals, are one text. -/
theorem body_eq : Cert.Kernel.cc0_na_attention (F := F) = Cert.KernelIdeal.cc0_na_attention (F := F) := rfl

set_option maxHeartbeats 1000000 in
/-- So are their body tables, -/
theorem defs₀_eq : Cert.Kernel.defs₀ (F := F) = Cert.KernelIdeal.defs₀ (F := F) := by
  unfold Cert.Kernel.defs₀ Cert.KernelIdeal.defs₀
  rw [body_eq]
  refine congrArg (Defs.onTc (nD := Cert.Kernel.nD) (τ := Cert.Kernel.τ) (sig := Cert.Kernel.sig)) (funext fun l => funext fun a => ?_)
  match l, a with
  | 0, (t, s) => rfl
  | ⟨_ + 1, h⟩, _ => exact absurd h (Nat.not_lt.2 (Nat.le_add_left _ _))

/-- their tables with the pipeline's labels, -/
theorem defs_eq : Cert.Kernel.defs (F := F) = Cert.KernelIdeal.defs (F := F) := by
  unfold Cert.Kernel.defs Cert.KernelIdeal.defs
  exact congrArg (Pipeline.defs Cert.Kernel.pcfgs) defs₀_eq

set_option maxHeartbeats 1000000 in
/-- and their main functions. -/
theorem main_eq : Cert.Kernel.main (F := F) = Cert.KernelIdeal.main (F := F) := rfl

/-- The attention kernel runs, leaves its arguments as they were and every counter at zero, at the machine's floats. -/
theorem frame_kernel : Cert.quiescent_Kernel := by
  intro m ρ _
  rw [defs_eq, main_eq]
  exact frame_any (F := Bits) m ρ

end Cert.Na

end
-- ==== Proof.Ffn.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.ValueIdx
public import Idealize.ShloMosaic.Lib.MatmulPlain
public import Idealize.ShloMosaic.Lib.IdealHost
public import Idealize.ShloMosaic.Lib.Pointwise
public import Idealize.ShloMosaic.Lib.Claim

@[expose] public section

set_option maxRecDepth 16384

noncomputable section

namespace Cert.Ffn

open Cert.Kernel2Ideal Cert.Kernel2Ideal.Gen
open Idealize.ShloMosaic Idealize.ShloMosaic.TcCoe Idealize.SL.Sem
open scoped BigOperators

/-- One gated unit of a feed-forward over the extended reals: `silu (x · w1) * (x · w3)`. -/
def gated {D : Nat} (x w1 w3 : Fin D → EReal) : EReal :=
  (∑ k, x k * w1 k) * Ideal.logistic (∑ k, x k * w1 k) * ∑ k, x k * w3 k

/-- One entry of the gated feed-forward: the gated units against one column of the second weight. -/
def ffn {D G : Nat} (x : Fin D → EReal) (w1 w3 : Fin D → Fin G → EReal) (w2 : Fin G → EReal) : EReal :=
  ∑ f, gated x (fun k => w1 k f) (fun k => w3 k f) * w2 f

variable (m : (ℓ : Loc nD τ sig) → Buf (Elt Ideal) ℓ) (c : Dev nD)

/-- The argument arrays as the program is launched. -/
abbrev argH : FVec Ideal S32768x1024 .f32 := m ((c : Thread nD τ).loc main_arg0)
abbrev argX : FVec Ideal S32768x1024 .f32 := m ((c : Thread nD τ).loc main_arg1)
abbrev argMod : FVec Ideal S2x6144 .f32 := m ((c : Thread nD τ).loc main_arg2)
abbrev argW1 : FVec Ideal S1024x2816 .f32 := m ((c : Thread nD τ).loc main_arg3)
abbrev argW3 : FVec Ideal S1024x2816 .f32 := m ((c : Thread nD τ).loc main_arg4)
abbrev argW2 : FVec Ideal S2816x1024 .f32 := m ((c : Thread nD τ).loc main_arg5)

/-- The result's entry at row `n`, column `e`. -/
def outAt (n : Fin 32768) (e : Fin 1024) : EReal :=
  argX m c (ValueIdx.ix2 n e) + argMod m c (ValueIdx.ix2 ⟨n.val / 16384, by omega⟩ ⟨5120 + e.val, by omega⟩)
    * ffn (fun k => argH m c (ValueIdx.ix2 n k)) (fun k f => argW1 m c (ValueIdx.ix2 k f)) (fun k f => argW3 m c (ValueIdx.ix2 k f)) (fun f => argW2 m c (ValueIdx.ix2 f e))

/-- The whole result. -/
def out : Buf (Elt Ideal) ((c : Thread nD τ).loc main_v6) := fun i => outAt m c (i 0) (i 1)

/-- Where the windows stand at point `t`. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ k0_off1 (grid0.coords t) = ![t.val / 32, 0] :=
  (by decide +kernel : ∀ t : Fin grid0.N, _)

/-- The body's gated units of one half of the units. -/
def halfT (h : FVec Ideal S512x1024 .bf16) (w1 w3 : FVec Ideal S1024x1408 .bf16) : FVec Ideal S512x1408 .bf16 :=
  truncf .bf16 (mulf (mulf (matmul dot_S512x1024_S1024x1408_S512x1408_1_0_0_1_n_n none h w1 (constant S512x1408 .f32 0x00000000#32))
        (logistic (matmul dot_S512x1024_S1024x1408_S512x1408_1_0_0_1_n_n none h w1 (constant S512x1408 .f32 0x00000000#32))))
      (matmul dot_S512x1024_S1024x1408_S512x1408_1_0_0_1_n_n none h w3 (constant S512x1408 .f32 0x00000000#32))) bitsLt_bf16_f32

/-- Them at row `r` and unit `f`. -/
theorem halfT_apply (h : FVec Ideal S512x1024 .bf16) (w1 w3 : FVec Ideal S1024x1408 .bf16) (r : Fin 512) (f : Fin 1408) :
    halfT h w1 w3 (ValueIdx.ix2 r f)
      = gated (fun k => h (ValueIdx.ix2 r k)) (fun k => w1 (ValueIdx.ix2 k f)) (fun k => w3 (ValueIdx.ix2 k f)) := by
  have e (w : FVec Ideal S1024x1408 .bf16) : matmul dot_S512x1024_S1024x1408_S512x1408_1_0_0_1_n_n none h w (constant S512x1408 .f32 0x00000000#32) (ValueIdx.ix2 r f)
      = ∑ k, h (ValueIdx.ix2 r k) * w (ValueIdx.ix2 k f) := by
    refine (Ideal.matmul_plain_apply (M := 512) (K := 1024) (N := 1408) none h w _ r f).trans ?_
    show Ideal.ofBits .f32 0x00000000#32 + _ = _
    rw [Ideal.ofBits_zero_f32, zero_add]
  show (matmul dot_S512x1024_S1024x1408_S512x1408_1_0_0_1_n_n none h w1 _ _ * Ideal.logistic (matmul dot_S512x1024_S1024x1408_S512x1408_1_0_0_1_n_n none h w1 _ _)) * matmul dot_S512x1024_S1024x1408_S512x1408_1_0_0_1_n_n none h w3 _ _ = _
  rw [e, e]; rfl

/-- The body's product is that of the two halves side by side. -/
theorem pay2_eq (h : FVec Ideal S512x1024 .bf16) (w1a w3a w1b w3b : FVec Ideal S1024x1408 .bf16) (w2 : FVec Ideal S2816x1024 .bf16) :
    k0_pay2 (F := Ideal) h w1a w3a w1b w3b w2 = matmul dot_S512x2816_S2816x1024_S512x1024_1_0_0_1_n_n none
      (concatenate S512x2816 1 [⟨S512x1408, halfT h w1a w3a⟩, ⟨S512x1408, halfT h w1b w3b⟩] concatenates_S512x1408_S512x1408_S512x2816_d1) w2
      (constant S512x1024 .f32 0x00000000#32) := by
  unfold k0_pay2 halfT
  rw [shapeCast_self h, shapeCast_self w1a, shapeCast_self w3a, shapeCast_self w1b, shapeCast_self w3b, shapeCast_self w2]

/-- The two halves side by side, cut from two whole weights. -/
theorem cat_apply (h : FVec Ideal S512x1024 .bf16) (W1 W3 : FVec Ideal S1024x2816 .bf16) (r : Fin 512) (f : Fin 2816) :
    concatenate S512x2816 1 [⟨S512x1408, halfT h (View.ld (Val := Elt Ideal) (e' := .bf16) W1 (Rect.unit (s := S1024x2816) ![0, 0] ![1024, 1408] inb_S1024x2816_S1024x1408_0_0))
        (View.ld (Val := Elt Ideal) (e' := .bf16) W3 (Rect.unit (s := S1024x2816) ![0, 0] ![1024, 1408] inb_S1024x2816_S1024x1408_0_0))⟩,
      ⟨S512x1408, halfT h (View.ld (Val := Elt Ideal) (e' := .bf16) W1 (Rect.unit (s := S1024x2816) ![0, 1408] ![1024, 1408] inb_S1024x2816_S1024x1408_0_1408))
        (View.ld (Val := Elt Ideal) (e' := .bf16) W3 (Rect.unit (s := S1024x2816) ![0, 1408] ![1024, 1408] inb_S1024x2816_S1024x1408_0_1408))⟩]
      concatenates_S512x1408_S512x1408_S512x2816_d1 (ValueIdx.ix2 r f)
      = gated (fun k => h (ValueIdx.ix2 r k)) (fun k => W1 (ValueIdx.ix2 k f)) (fun k => W3 (ValueIdx.ix2 k f)) := by
  by_cases hf : f.val < 1408
  · rw [concatenate_pair_apply_left (t := S512x2816) (s₁ := S512x1408) (s₂ := S512x1408) 1 _ _ _ (ValueIdx.ix2 r f) rfl (ValueIdx.ix2 (n1 := 1408) r ⟨f.val, hf⟩)
      (fun b => by match b with | ⟨0, _⟩ => rfl | ⟨1, _⟩ => rfl), halfT_apply]
    have e (W : FVec Ideal S1024x2816 .bf16) (k : Fin 1024) : View.ld (Val := Elt Ideal) (e' := .bf16) W (Rect.unit (s := S1024x2816) ![0, 0] ![1024, 1408] inb_S1024x2816_S1024x1408_0_0)
        (ValueIdx.ix2 (n1 := 1408) k ⟨f.val, hf⟩) = W (ValueIdx.ix2 k f) :=
      View.ld_unit_apply_of _ _ _ _ _ _ fun a => by
        match a with | ⟨0, _⟩ => exact (Nat.zero_add _).symm | ⟨1, _⟩ => exact (Nat.zero_add _).symm
    exact congrArg₂ (gated _) (funext (e W1)) (funext (e W3))
  · have hf' : f.val - 1408 < 1408 := by omega
    rw [concatenate_pair_apply_right (t := S512x2816) (s₁ := S512x1408) (s₂ := S512x1408) 1 _ _ _ (ValueIdx.ix2 r f) rfl rfl (ValueIdx.ix2 (n1 := 1408) r ⟨f.val - 1408, hf'⟩)
      (fun b hb => by match b, hb with | ⟨0, _⟩, _ => rfl | ⟨1, _⟩, hb => exact absurd rfl hb)
      (by show f.val - 1408 + 1408 = f.val; omega), halfT_apply]
    have e (W : FVec Ideal S1024x2816 .bf16) (k : Fin 1024) : View.ld (Val := Elt Ideal) (e' := .bf16) W (Rect.unit (s := S1024x2816) ![0, 1408] ![1024, 1408] inb_S1024x2816_S1024x1408_0_1408)
        (ValueIdx.ix2 (n1 := 1408) k ⟨f.val - 1408, hf'⟩) = W (ValueIdx.ix2 k f) :=
      View.ld_unit_apply_of _ _ _ _ _ _ fun a => by
        match a with | ⟨0, _⟩ => exact (Nat.zero_add _).symm | ⟨1, _⟩ => (show f.val = 1408 + (f.val - 1408); omega)
    exact congrArg₂ (gated _) (funext (e W1)) (funext (e W3))

/-- The body's value at row `r`, column `e`, the weights' halves cut from two whole weights. -/
theorem pay (h : FVec Ideal S512x1024 .bf16) (W1 W3 : FVec Ideal S1024x2816 .bf16) (w2 : FVec Ideal S2816x1024 .bf16)
    (md : FVec Ideal S1x6144 .f32) (x : FVec Ideal S512x1024 .f32) (r : Fin 512) (e : Fin 1024) :
    k0_pay1 (F := Ideal) (k0_pay2 (F := Ideal) h (View.ld (Val := Elt Ideal) (e' := .bf16) W1 (Rect.unit (s := S1024x2816) ![0, 0] ![1024, 1408] inb_S1024x2816_S1024x1408_0_0))
        (View.ld (Val := Elt Ideal) (e' := .bf16) W3 (Rect.unit (s := S1024x2816) ![0, 0] ![1024, 1408] inb_S1024x2816_S1024x1408_0_0))
        (View.ld (Val := Elt Ideal) (e' := .bf16) W1 (Rect.unit (s := S1024x2816) ![0, 1408] ![1024, 1408] inb_S1024x2816_S1024x1408_0_1408))
        (View.ld (Val := Elt Ideal) (e' := .bf16) W3 (Rect.unit (s := S1024x2816) ![0, 1408] ![1024, 1408] inb_S1024x2816_S1024x1408_0_1408)) w2) md x (ValueIdx.ix2 r e)
      = x (ValueIdx.ix2 r e) + md (ValueIdx.ix2 0 ⟨5120 + e.val, by omega⟩)
        * ffn (fun k => h (ValueIdx.ix2 r k)) (fun k f => W1 (ValueIdx.ix2 k f)) (fun k f => W3 (ValueIdx.ix2 k f)) (fun f => w2 (ValueIdx.ix2 f e)) := by
  rw [pay2_eq]
  unfold k0_pay1
  simp only [shapeCast_self]
  refine congrArg₂ (· + ·) rfl (congrArg₂ (· * ·) ?_ ?_)
  · show extractStridedSlice S1x1024 ![0, 5120] md _ _ = _
    refine congrArg md ?_
    funext a; apply Fin.ext; match a with | ⟨0, _⟩ => rfl | ⟨1, _⟩ => rfl
  refine (Ideal.matmul_plain_apply (M := 512) (K := 2816) (N := 1024) none _ w2 _ r e).trans ?_
  show Ideal.ofBits .f32 0x00000000#32 + _ = _
  rw [Ideal.ofBits_zero_f32, zero_add]
  unfold ffn
  exact Finset.sum_congr rfl fun f _ => congrArg (· * w2 (ValueIdx.ix2 f e)) (cat_apply h W1 W3 r f)

/-- The rows the launch reads are the argument's (a cast to a narrower float is the identity here). -/
theorem V_h : V m c main_v2 = argH m c := by
  show StableHlo.after hostOps0 (fun b => m (c, b)) main_v2 = _
  unfold hostOps0; after_results; rfl

/-- So is the first weight. -/
theorem V_w1 : V m c main_v3 = argW1 m c := by
  show StableHlo.after hostOps0 (fun b => m (c, b)) main_v3 = _
  unfold hostOps0; after_results; rfl

/-- So is the third weight. -/
theorem V_w3 : V m c main_v4 = argW3 m c := by
  show StableHlo.after hostOps0 (fun b => m (c, b)) main_v4 = _
  unfold hostOps0; after_results; rfl

/-- So is the second weight. -/
theorem V_w2 : V m c main_v5 = argW2 m c := by
  show StableHlo.after hostOps0 (fun b => m (c, b)) main_v5 = _
  unfold hostOps0; after_results; rfl

/-- The modulation the launch reads has six rows of zeros below the argument's two. -/
theorem V_mod : V m c main_v1 = concatenate S8x6144 0 [⟨S2x6144, argMod m c⟩, ⟨S6x6144, broadcastInDim S6x6144 ![] bcast_S_S6x6144 (constant (F := Ideal) S_ .f32 0x00000000#32)⟩] concatenates_S2x6144_S6x6144_S8x6144_d0 := by
  show StableHlo.after hostOps0 (fun b => m (c, b)) main_v1 = _
  unfold hostOps0; after_results

/-- Output block `t` starts at row `512 t`. -/
theorem emb0 (t : Fin cfg0.N) (y : S512x1024.Idx) : ((((cfg0.win 6).blk t).view.emb y) 0).val = t.val * 512 + (y 0).val := by
  blk_simp [idx t]

/-- Output block `t` has every column. -/
theorem emb1 (t : Fin cfg0.N) (y : S512x1024.Idx) : ((((cfg0.win 6).blk t).view.emb y) 1).val = (y 1).val := by
  blk_simp [idx t]

/-- Point `t` reads the rows its output block covers. -/
theorem blk_h (t : Fin cfg0.N) (y : S512x1024.Idx) (k : Fin 1024) : (iblk m c 0 t : FVec Ideal S512x1024 .bf16) (ValueIdx.ix2 (y 0) k)
    = argH m c (ValueIdx.ix2 ((((cfg0.win 6).blk t).view.emb y) 0) k) := by
  unfold iblk
  show ((cfg0.win 0).blk t).view.read (Elt Ideal) (V m c main_v2) _ = _
  rw [V_h]
  blk_ext! [idx t]
  exact (emb0 t y).symm

/-- Point `t` reads the residual where its output block lies. -/
theorem blk_x (t : Fin cfg0.N) (y : S512x1024.Idx) : (iblk m c 1 t : FVec Ideal S512x1024 .f32) (ValueIdx.ix2 (y 0) (y 1))
    = argX m c (ValueIdx.ix2 ((((cfg0.win 6).blk t).view.emb y) 0) ((((cfg0.win 6).blk t).view.emb y) 1)) := by
  unfold iblk
  show ((cfg0.win 1).blk t).view.read (Elt Ideal) (V m c main_arg1) _ = _
  rw [V_main_arg1]
  blk_ext! [idx t]
  · exact (emb0 t y).symm
  · exact (emb1 t y).symm

/-- Every point reads the whole first weight. -/
theorem blk_w1 (t : Fin cfg0.N) : (iblk m c 3 t : FVec Ideal S1024x2816 .bf16) = argW1 m c := by
  unfold iblk
  show ((cfg0.win 3).blk t).view.read (Elt Ideal) (V m c main_v3) = _
  rw [V_w1]
  blk_ext! [idx t]

/-- Every point reads the whole third weight. -/
theorem blk_w3 (t : Fin cfg0.N) : (iblk m c 4 t : FVec Ideal S1024x2816 .bf16) = argW3 m c := by
  unfold iblk
  show ((cfg0.win 4).blk t).view.read (Elt Ideal) (V m c main_v4) = _
  rw [V_w3]
  blk_ext! [idx t]

/-- Every point reads the whole second weight. -/
theorem blk_w2 (t : Fin cfg0.N) : (iblk m c 5 t : FVec Ideal S2816x1024 .bf16) = argW2 m c := by
  unfold iblk
  show ((cfg0.win 5).blk t).view.read (Elt Ideal) (V m c main_v5) = _
  rw [V_w2]
  blk_ext! [idx t]

/-- Point `t` reads the modulation row of its own batch. -/
theorem blk_mod (t : Fin cfg0.N) (y : S512x1024.Idx) :
    View.ld (Val := Elt Ideal) (e' := .f32) (iblk m c 2 t : FVec Ideal S8x6144 .f32) (Rect.unit (s := S8x6144) (k0_off1 (grid0.coords t)) ![1, 6144] (k0_off1_inb _))
        (ValueIdx.ix2 0 ⟨5120 + (y 1).val, Nat.add_lt_add_left (y 1).isLt 5120⟩)
      = argMod m c (ValueIdx.ix2 ⟨((((cfg0.win 6).blk t).view.emb y) 0).val / 16384, Nat.div_lt_of_lt_mul ((((cfg0.win 6).blk t).view.emb y) 0).isLt⟩
          ⟨5120 + ((((cfg0.win 6).blk t).view.emb y) 1).val, Nat.add_lt_add_left ((((cfg0.win 6).blk t).view.emb y) 1).isLt 5120⟩) := by
  have h0 := emb0 t y
  have h1 := emb1 t y
  have ht : t.val < 64 := t.isLt
  have hy0 : (y 0).val < 512 := (y 0).isLt
  have hy1 : (y 1).val < 1024 := (y 1).isLt
  have e : (iblk m c 2 t : FVec Ideal S8x6144 .f32) = V m c main_v1 := by
    unfold iblk
    show ((cfg0.win 2).blk t).view.read (Elt Ideal) (V m c main_v1) = _
    blk_ext! [idx t]
  rw [e, V_mod]
  have hr : t.val / 32 < 8 := by omega
  refine (View.ld_unit_apply_of _ _ _ _ _ (ValueIdx.ix2 (n0 := 8) (n1 := 6144) ⟨t.val / 32, hr⟩ ⟨5120 + (y 1).val, by omega⟩) fun a => ?_).trans ?_
  · have o0 : k0_off1 (grid0.coords t) 0 = t.val / 32 := congrFun (idx t).2.2.2.2.2.2.2 0
    have o1 : k0_off1 (grid0.coords t) 1 = 0 := congrFun (idx t).2.2.2.2.2.2.2 1
    match a with
    | ⟨0, _⟩ => exact o0.symm
    | ⟨1, _⟩ => exact (Nat.zero_add _).symm.trans (congrArg (· + (5120 + (y 1).val)) o1.symm)
  · refine (concatenate_pair_apply_left (t := S8x6144) (s₁ := S2x6144) (s₂ := S6x6144) 0 _ _ _ _ rfl (ValueIdx.ix2 (n0 := 2) (n1 := 6144) ⟨t.val / 32, by omega⟩ ⟨5120 + (y 1).val, by omega⟩) ?_).trans ?_
    · intro b; match b with | ⟨0, _⟩ => rfl | ⟨1, _⟩ => rfl
    · refine congrArg _ ?_
      funext a; apply Fin.ext; match a with | ⟨0, _⟩ => (show t.val / 32 = _ / 16384; rw [h0]; omega) | ⟨1, _⟩ => (show 5120 + (y 1).val = 5120 + _; rw [h1])

set_option maxHeartbeats 1000000 in
/-- The launch leaves the result array at `out`. -/
theorem final : (Gen.dats m 0 c).arrAt 6 cfg0.N = out m c := by
  refine (Gen.dats m 0 c).arrAt_eq_of_covers 6 _ (by decide +kernel) fun t hf y => ?_
  blk_simp
  rw [after0_6]
  unfold outsAt0
  frame_out
  rw [blk_w1, blk_w3, blk_w2]
  refine (congrArg _ (ValueIdx.eq_ix2 y)).trans ((pay _ _ _ _ _ _ (y 0) (y 1)).trans ?_)
  unfold out outAt
  rw [blk_x]
  simp only [blk_h]
  refine congrArg₂ (· + ·) rfl (congrArg₂ (· * ·) (blk_mod m c t y) (congrArg _ (funext fun f => congrArg _ ?_)))
  funext a; apply Fin.ext; match a with | ⟨0, _⟩ => rfl | ⟨1, _⟩ => exact (emb1 t y).symm

end Cert.Ffn

end
-- ==== Proof.FfnRef.lean ====
module

public import proofs.«01_k».proof.Proof.Ffn
public import proofs.«01_k».proof.Proof.Gen.Reference2Ideal.Run
public import Idealize.ShloMosaic.Lib.StackMember

@[expose] public section

noncomputable section

namespace Cert.FfnRef

open Cert.Reference2Ideal Cert.Reference2Ideal.Gen Idealize.ShloMosaic Idealize.ShloMosaic.TcCoe Idealize.SL.Sem
open Idealize.ShloMosaic.StackMember (dotGeneral_plain_apply)
open Cert.Ffn (gated ffn)

variable (h x : FVec Ideal S32768x1024 .f32) (md : FVec Ideal S2x6144 .f32) (w1 w3 : FVec Ideal S1024x2816 .f32) (w2 : FVec Ideal S2816x1024 .f32)

/-- The reference's gated units. -/
def units : FVec Ideal S32768x2816 .f32 :=
  mulf (mulf (Host.dotGeneral dot_S32768x1024_S1024x2816_S32768x2816_1_0_0_1_n_n none h w1) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (Host.dotGeneral dot_S32768x1024_S1024x2816_S32768x2816_1_0_0_1_n_n none h w1))))))
    (Host.dotGeneral dot_S32768x1024_S1024x2816_S32768x2816_1_0_0_1_n_n none h w3)

/-- The reference's gated feed-forward, before the gate of the modulation. -/
def core : FVec Ideal S32768x1024 .f32 := Host.dotGeneral dot_S32768x2816_S2816x1024_S32768x1024_1_0_0_1_n_n none (units h w1 w3) w2

/-- The reference's result. -/
def term : FVec Ideal S32768x1024 .f32 :=
  shapeCast _ (addf (shapeCast _ x shapeCasts_S32768x1024_S2x16384x1024) (mulf (broadcastInDim S2x16384x1024 ![0, 1, 2] bcast_S2x1x1024_S2x16384x1024_0_1_2 (extractStridedSlice S2x1x1024 ![0, 0, 5120] (broadcastInDim S2x1x6144 ![0, 2] bcast_S2x6144_S2x1x6144_0_2 md) slices_S2x1x6144_S2x1x1024_0_0_5120)) (shapeCast _ (core h w1 w3 w2) shapeCasts_S32768x1024_S2x16384x1024))) shapeCasts_S2x16384x1024_S32768x1024

/-- A gated unit of the reference, read at a row and a unit. -/
theorem units_apply (n : Fin 32768) (f : Fin 2816) : units h w1 w3 (ValueIdx.ix2 n f)
    = gated (fun k => h (ValueIdx.ix2 n k)) (fun k => w1 (ValueIdx.ix2 k f)) (fun k => w3 (ValueIdx.ix2 k f)) := by
  have e (w : FVec Ideal S1024x2816 .f32) : Host.dotGeneral dot_S32768x1024_S1024x2816_S32768x2816_1_0_0_1_n_n none h w (ValueIdx.ix2 n f)
      = ∑ k, h (ValueIdx.ix2 n k) * w (ValueIdx.ix2 k f) :=
    dotGeneral_plain_apply (m := 32768) (k := 1024) (n := 2816) none h w n f
  unfold units
  show (Host.dotGeneral dot_S32768x1024_S1024x2816_S32768x2816_1_0_0_1_n_n none h w1 _ * Ideal.div (Ideal.ofBits .f32 0x3F800000#32) (Ideal.ofBits .f32 0x3F800000#32 + Ideal.exp (-(Host.dotGeneral dot_S32768x1024_S1024x2816_S32768x2816_1_0_0_1_n_n none h w1 _)))) * Host.dotGeneral dot_S32768x1024_S1024x2816_S32768x2816_1_0_0_1_n_n none h w3 _ = _
  rw [e, e, Ideal.ofBits_one_f32]; rfl

/-- The reference's result read at a row and a column. -/
theorem term_apply (n : Fin 32768) (e : Fin 1024) : term h x md w1 w3 w2 (ValueIdx.ix2 n e)
    = x (ValueIdx.ix2 n e) + md (ValueIdx.ix2 ⟨n.val / 16384, by omega⟩ ⟨5120 + e.val, by omega⟩)
      * ffn (fun k => h (ValueIdx.ix2 n k)) (fun k f => w1 (ValueIdx.ix2 k f)) (fun k f => w3 (ValueIdx.ix2 k f)) (fun f => w2 (ValueIdx.ix2 f e)) := by
  have hn : n.val / 16384 < 2 := by omega
  have hc : core h w1 w3 w2 (ValueIdx.ix2 n e)
      = ffn (fun k => h (ValueIdx.ix2 n k)) (fun k f => w1 (ValueIdx.ix2 k f)) (fun k f => w3 (ValueIdx.ix2 k f)) (fun f => w2 (ValueIdx.ix2 f e)) := by
    refine (dotGeneral_plain_apply (m := 32768) (k := 2816) (n := 1024) none (units h w1 w3) w2 n e).trans ?_
    unfold ffn
    exact Finset.sum_congr rfl fun f _ => congrArg (· * w2 (ValueIdx.ix2 f e)) (units_apply h w1 w3 n f)
  have sc (v : FVec Ideal S32768x1024 .f32) : shapeCast S2x16384x1024 v shapeCasts_S32768x1024_S2x16384x1024 (ValueIdx.ix3 (n0 := 2) (n1 := 16384) (n2 := 1024) ⟨n.val / 16384, hn⟩ ⟨n.val % 16384, Nat.mod_lt _ (by decide)⟩ e) = v (ValueIdx.ix2 n e) := by
    refine shapeCast_apply _ _ _ _ ?_
    rw [Shape.rowMajor_val_two, Shape.rowMajor_val_three]
    show n.val * 1024 + e.val = (n.val / 16384 * 16384 + n.val % 16384) * 1024 + e.val
    omega
  unfold term
  refine (shapeCast_apply _ _ _ (ValueIdx.ix3 (n0 := 2) (n1 := 16384) (n2 := 1024) ⟨n.val / 16384, hn⟩ ⟨n.val % 16384, Nat.mod_lt _ (by decide)⟩ e) ?_).trans ?_
  · rw [Shape.rowMajor_val_two, Shape.rowMajor_val_three]
    show (n.val / 16384 * 16384 + n.val % 16384) * 1024 + e.val = n.val * 1024 + e.val
    omega
  refine congrArg₂ (· + ·) (sc x) (congrArg₂ (· * ·) ?_ ((sc _).trans hc))
  pointwise
  refine congrArg md ?_
  funext a; apply Fin.ext; match a with | ⟨0, _⟩ => rfl | ⟨1, _⟩ => rfl

/-- The feed-forward kernel and its reference, over the extended reals, end with the same result. -/
theorem algebraic : Cert.algebraic_Kernel2Ideal_Reference2Ideal := by
  intro m g m' g' _ hargs
  refine ⟨Cert.Ffn.out m, ?_, ?_⟩
  · exact (θ_run _ _ _).mono (fun r h c => ⟨(h c).1.trans (Cert.Ffn.final m c), (h c).2⟩) (Cert.Kernel2Ideal.Value.run_blocks m g)
  · refine (θ_run _ _ _).mono (fun r h c => ⟨(h c).1.trans ?_, (h c).2⟩) (Cert.Reference2Ideal.Value.run m' g')
    obtain ⟨h0, h1, h2, h3, h4, h5⟩ := hargs c
    rw [h0, h1, h2, h3, h4, h5]
    funext i
    refine (congrArg _ (ValueIdx.eq_ix2 i)).trans ?_
    exact term_apply (Cert.Ffn.argH m c) (Cert.Ffn.argX m c) (Cert.Ffn.argMod m c) (Cert.Ffn.argW1 m c) (Cert.Ffn.argW3 m c) (Cert.Ffn.argW2 m c) (i 0) (i 1)

end Cert.FfnRef

end
-- ==== Proof.MoeRun.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables of words as the body is handed them. -/
abbrev idM : Memref sig .tc .smem S136 .i32 := Memref.whole main_arg0
abbrev idW : idM.IsWhole := Memref.isWhole_whole _
abbrev liveM : Memref sig .tc .smem S1 .i32 := Memref.whole main_arg1
abbrev liveW : liveM.IsWhole := Memref.isWhole_whole _

/-- A table's contents on a core, and half of the table held at them. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The number of live blocks, as the one word of the second table. -/
def liveWord {c : Dev nD} (lv : TabBuf (F := F) c liveM) : BitVec 32 := (lv : S1.Idx → BitVec 32) (fun | ⟨0, _⟩ => (⟨0, by decide⟩ : Fin 1))

/-- The two conditions are each other's negation. -/
theorem cond2_iff (i : grid0.Coords) (w : BitVec 32) : k0_cond2 i w = 1#1 ↔ ¬ k0_cond1 i w = 1#1 := by
  unfold k0_cond1 k0_cond2
  dsimp only
  generalize Scalar.cmpi .slt (BitVec.ofNat 32 (i 0).val) w = b
  revert b
  decide

/-- What the body leaves in the output block: the gated feed-forward where the block is live, else zeros. -/
def blockOut (i : grid0.Coords) (w : BitVec 32) (x0 : Vec F S512x1024 .f32) (x1 x2 : Vec F S1x1024x3584 .bf16) (x3 : Vec F S1x3584x1024 .bf16) : Vec F S512x1024 .f32 :=
  if k0_cond1 i w = 1#1 then
    k0_pay1 x0 (View.ld (Val := Elt F) (e' := .bf16) x1 (Rect.unit (s := S1x1024x3584) ![0, 0, 0] S1x1024x1792.size inb_S1x1024x3584_S1x1024x1792_0_0_0))
      (View.ld (Val := Elt F) (e' := .bf16) x2 (Rect.unit (s := S1x1024x3584) ![0, 0, 0] S1x1024x1792.size inb_S1x1024x3584_S1x1024x1792_0_0_0))
      (View.ld (Val := Elt F) (e' := .bf16) x1 (Rect.unit (s := S1x1024x3584) ![0, 0, 1792] S1x1024x1792.size inb_S1x1024x3584_S1x1024x1792_0_0_1792))
      (View.ld (Val := Elt F) (e' := .bf16) x2 (Rect.unit (s := S1x1024x3584) ![0, 0, 1792] S1x1024x1792.size inb_S1x1024x3584_S1x1024x1792_0_0_1792)) x3
  else k0_pay2

set_option maxHeartbeats 1000000 in
/-- The body on whole staging buffers: the inputs stay as they were and the output block ends at `blockOut`. -/
theorem body_run (c : Dev nD) (i : grid0.Coords) (arg3 : Memref sig .tc .vmem S512x1024 .f32) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S512x1024 .f32) (harg7 : arg7.IsWhole)
    (x0 : Vec F S512x1024 .f32) (x1 : Vec F S1x1024x3584 .bf16) (x2 : Vec F S1x1024x3584 .bf16) (x3 : Vec F S1x3584x1024 .bf16) (ids : TabBuf (F := F) c idM) (lv : TabBuf (F := F) c liveM)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tabPt c idM ids ∗ tabPt c liveM lv
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (blockOut i (liveWord (F := F) (c := c) lv) x0 x1 x2 x3) ∗ tabPt c idM ids ∗ tabPt c liveM lv) -∗ K ⟨⟩))
      ⊢ wp frame (wpE (defs₀ (F := F)) Variants.none c none) E (cc0_moe_expert_ffn i idM idW liveM liveW arg3 harg3 arg4 harg4 arg5 harg5 arg6 harg6 arg7 harg7) K := by
  simp only [cc0_moe_expert_ffn_eq_skeleton]; unfold cc0_moe_expert_ffn_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec
  sl_step
  have hr : body_run.sl.r c lv = liveWord (F := F) (c := c) lv := by
    unfold body_run.sl.r
    exact congrArg (fun z : S1.Idx => (lv : S1.Idx → BitVec 32) z) (funext fun a => by match a with | ⟨0, _⟩ => exact Subsingleton.elim (α := Fin 1) _ _)
  rw [hr]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    unfold blockOut
    by_cases h1 : k0_cond1 i (liveWord (F := F) (c := c) lv) = 1#1
    · rw [dif_neg (fun h2 => (cond2_iff i _).1 h2 h1), dif_pos h1, if_pos h1]
      refine (View.read_writes_full (s := S512x1024) _ _ _ _ _).trans ?_
      simp only [View.readAt_eq_ld, harg3.read_unread, harg4.read_unread, harg5.read_unread, harg6.read_unread]
      rw [View.ld_unit_zero (by funext a; match a with | ⟨0, _⟩ => rfl | ⟨1, _⟩ => rfl),
        View.ld_unit_zero (S := S1x3584x1024) (by funext a; match a with | ⟨0, _⟩ => rfl | ⟨1, _⟩ => rfl | ⟨2, _⟩ => rfl)]
    · rw [dif_pos ((cond2_iff i _).2 h1), if_neg h1]
      exact View.read_writes_full (s := S512x1024) _ _ _ _ _
  isplitl [HT0]; · iexact HT0
  iexact HT1

end Cert.Moe

end
-- ==== Proof.MoeFrame.lean ====
module

public import proofs.«01_k».proof.Proof.MoeRun
public import Idealize.ShloMosaic.Lib.Claim

@[expose] public section

set_option maxRecDepth 16384

noncomputable section

namespace Cert.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the grid is entered: after the host's three casts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations run, then the grid. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- An array the host casts do not write is as launched. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.unary_writes, Finset.mem_singleton]
    exact ⟨StableHlo.devRef_ne_of_ne h0, StableHlo.devRef_ne_of_ne h1, StableHlo.devRef_ne_of_ne h2⟩))

theorem V_arg0 (c : Dev nD) : V m c main_arg0 = m ((c : Thread nD τ).loc main_arg0) := V_of_ne m c _ (by decide) (by decide) (by decide)
theorem V_arg1 (c : Dev nD) : V m c main_arg1 = m ((c : Thread nD τ).loc main_arg1) := V_of_ne m c _ (by decide) (by decide) (by decide)
theorem V_arg2 (c : Dev nD) : V m c main_arg2 = m ((c : Thread nD τ).loc main_arg2) := V_of_ne m c _ (by decide) (by decide) (by decide)
theorem V_arg3 (c : Dev nD) : V m c main_arg3 = m ((c : Thread nD τ).loc main_arg3) := V_of_ne m c _ (by decide) (by decide) (by decide)
theorem V_arg4 (c : Dev nD) : V m c main_arg4 = m ((c : Thread nD τ).loc main_arg4) := V_of_ne m c _ (by decide) (by decide) (by decide)
theorem V_arg5 (c : Dev nD) : V m c main_arg5 = m ((c : Thread nD τ).loc main_arg5) := V_of_ne m c _ (by decide) (by decide) (by decide)

/-- The two tables' contents when the grid is entered, on the one device. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every expert number in the table names one of the eight experts' blocks. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves the body is lent, one by one. -/
theorem PhiT_eq (c : Dev nD) : (Pipeline.ΦT pre0 (tbl m) c : sProp 𝕄) = iprop(tabPt c idM (tbl m 0) ∗ tabPt c liveM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The body is never without a store to its output block: one of its two conditions holds. -/
theorem idle_out (pf : pre0.Contents (Elt F)) (i : grid0.Coords) : idle0 pf 4 i = false := by
  show (!(k0_cond1 i (pf.atD 1 ![0]) == 1#1) && !(k0_cond2 i (pf.atD 1 ![0]) == 1#1)) = false
  by_cases h : k0_cond1 i (pf.atD 1 ![0]) = 1#1
  · rw [h]; rfl
  · rw [(cond2_iff i _).2 h, Bool.and_comm]; rfl

/-- A window's block at a point, read off its array at entry. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- A staged input holds its block at every point. -/
theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The staging buffer of each window at a point. -/
abbrev ms_0 (hO : Ok m) (t : Fin (cfgM m hO).N) : Memref sig .tc .vmem S512x1024 .f32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x1024x3584 .bf16 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x1024x3584 .bf16 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S1x3584x1024 .bf16 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S512x1024 .f32 := spec0_4.stage ((cfgM m hO).slots t 4)
abbrev hs_4 (hO : Ok m) (t : Fin (cfgM m hO).N) : (ms_4 m hO t).IsWhole := hstage0_4 (((cfgM m hO).slots t 4).cast nbuf0_4)

/-- The body at a point. -/
abbrev bodyAt (hO : Ok m) (t : Fin (cfgM m hO).N) : Prog (TpuEff nD τ sig (Elt F) Λ₀ .tc) PUnit :=
  cc0_moe_expert_ffn (grid0.coords t) idM idW liveM liveW (ms_0 m hO t) (hs_0 m hO t) (ms_1 m hO t) (hs_1 m hO t) (ms_2 m hO t) (hs_2 m hO t) (ms_3 m hO t) (hs_3 m hO t) (ms_4 m hO t) (hs_4 m hO t)

/-- What the output block holds after a point. -/
def outAt (hO : Ok m) (c : Dev nD) (t : Fin (cfgM m hO).N) : Vec F S512x1024 .f32 :=
  blockOut (grid0.coords t) (liveWord (F := F) (c := c) (tbl m 1)) (iblk m hO c 0 t) (iblk m hO c 1 t) (iblk m hO c 2 t) (iblk m hO c 3 t)

/-- The pipeline's proof data: inputs stay at their blocks, the output block ends at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outAt m hO c t := by dsimp only [dats]; try rfl

theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d

/-- What the body is handed at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d)))

/-- and what it hands back. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t))

/-- The body at a point, from what it is handed to what it hands back. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, PhiT_eq]
  unfold outAt
  iintro ⟨⟨HΦ, ⟨HT0, HT1⟩⟩, Ho, ⟨%d0, H0⟩, ⟨%d1, H1⟩, ⟨%d2, H2⟩, ⟨%d3, H3⟩, ⟨%d4, H4⟩⟩
  iapply (body_run c (grid0.coords t) _ _ _ _ _ _ _ _ _ _ (iblk m hO c 0 t) (iblk m hO c 1 t) (iblk m hO c 2 t) (iblk m hO c 3 t) (tbl m 0) (tbl m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body meets the pipeline's demand at every point. -/
theorem body_obligation (hO : Ok m) (c : Dev nD) : BodyObligation (dats (F := F) m hO 0 c) (defs₀ (F := F)) Variants.none () Set.univ := fun t => by
  rw [bigSep_W0, bigSep_W0, defs₀_row m hO]
  have h4 : ∀ w : Fin 5, (cfgM m hO).idle w ((cfgM m hO).grid.coords t) = false := fun
    | 0 => rfl | 1 => rfl | 2 => rfl | 3 => rfl | 4 => idle_out _ _
  rw [h4 4]
  exact triple_restated (sound_body m hO c t) rfl .rfl fun _ => .rfl

set_option backward.isDefEq.respectTransparency.types false in
/-- Every run ends with each array at what the proof data gives and every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The final state: the result array at what the proof data gives, the arguments unchanged, every counter zero. -/
theorem run_blocks (hO : Ok m) : θ_run defs (onTc (τ := τ) (main (F := F))) ⟨m, fun _ => 0, ρ⟩ (fun r => (∀ c : Dev nD,
      r.2.mem ((c.tc : Thread nD τ).loc main_v3) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hq => ⟨fun c => have h := hq.1
    ⟨(h c).1 4,
      ((h c).2 main_arg0 (by decide : main_arg0 ∈ Pipeline.restRefs sig spec0)).trans (V_arg0 m c),
      ((h c).2 main_arg1 (by decide : main_arg1 ∈ Pipeline.restRefs sig spec0)).trans (V_arg1 m c),
      ((h c).1 0).trans (((dats m hO 0 c).arrAt_in 0 rfl _).trans ((A_eq m hO c 0).trans (V_arg2 m c))),
      ((h c).2 main_arg3 (by decide : main_arg3 ∈ Pipeline.restRefs sig spec0)).trans (V_arg3 m c),
      ((h c).2 main_arg4 (by decide : main_arg4 ∈ Pipeline.restRefs sig spec0)).trans (V_arg4 m c),
      ((h c).2 main_arg5 (by decide : main_arg5 ∈ Pipeline.restRefs sig spec0)).trans (V_arg5 m c)⟩, hq.2⟩) (run_main m ρ hO)

/-- The expert kernel ends with its arguments unchanged and its counters at zero, at any float interpretation. -/
theorem frame_any (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_blocks m ρ hO)

end Cert.Moe

end
-- ==== Proof.MoePre.lean ====
module

public import proofs.«01_k».proof.Defs
public import proofs.«01_k».proof.Proof.MoeFrame
public import Idealize.ShloMosaic.Lib.ReduceAll
public import Idealize.ShloMosaic.Lib.PairWhole

@[expose] public section

set_option maxRecDepth 16384

noncomputable section

namespace Cert.Moe

open Cert.Kernel3Ideal Cert.Kernel3Ideal.Gen
open Idealize.ShloMosaic Idealize.ShloMosaic.TcCoe Idealize.SL.Sem

variable {F : FTy → Type} [FloatOps F]

/-- The precondition's own side conditions. -/
theorem preFacts : Cert.Pre_expert_ids.Facts := ⟨by decide, by decide, by decide⟩

/-- The precondition's bounds on each block's expert number, as a natural number below eight. -/
theorem ids_lt (be : IVec Cert.Pre_expert_ids.S136 32) (lv : IVec Cert.Pre_expert_ids.S1 32) (x : FVec F Cert.Pre_expert_ids.S69632x1024 .f32)
    (w1 w3 : FVec F Cert.Pre_expert_ids.S8x1024x3584 .f32) (w2 : FVec F Cert.Pre_expert_ids.S8x3584x1024 .f32)
    (h : @Cert.Pre_expert_ids.fn preFacts F _ be lv x w1 w3 w2 = fun _ => 1#1) (i) : (be i).toNat < 8 := by
  have : Subsingleton Cert.Pre_expert_ids.S_.Idx := ⟨fun a b => funext fun k => k.elim0⟩
  have e := Host.reduce_andi_all _ _ _ _ (fun k => k.elim0) (congrFun h fun k => k.elim0) i
  obtain ⟨h0, h1⟩ := IntOp.andi_eq_one.1 e
  have h0 : 0 ≤ (be i).toInt := IntOp.cmpi_sge.1 h0
  have h1 : (be i).toInt < 8 := IntOp.cmpi_slt.1 h1
  rw [BitVec.toInt_eq_toNat_cond] at h0 h1
  split at h0 <;> omega

/-- The one word of the expert table a grid point's weight windows read. -/
def expertWord (pf : pre0.Contents (Elt F)) (i : grid0.Coords) : BitVec 32 := pf.at 0 (Rect.unit (s := S136) (k0_off1 i) S1.size (k0_off1_inb i)) numel1_S1

theorem tr1_eq (pf : pre0.Contents (Elt F)) (i : grid0.Coords) : cc0_transform_1 k0_off1_inb numel1_S1 pf i = ![(expertWord pf i).toNat, 0, 0] := rfl
theorem tr2_eq (pf : pre0.Contents (Elt F)) (i : grid0.Coords) : cc0_transform_2 k0_off1_inb numel1_S1 pf i = ![(expertWord pf i).toNat, 0, 0] := rfl
theorem tr3_eq (pf : pre0.Contents (Elt F)) (i : grid0.Coords) : cc0_transform_3 k0_off1_inb numel1_S1 pf i = ![(expertWord pf i).toNat, 0, 0] := rfl

/-- The block of one expert's first or third weight lies inside its array, and in whole words. -/
theorem fits13 (n : Nat) (h : n < 8) : ∃ h : (∀ a, ((![n, 0, 0] : Fin 3 → Nat) a + 1) * S1x1024x3584.size a ≤ S8x1024x3584.size a),
    EltTy.bits .bf16 = 32 ∨ (Rect.block (s := S8x1024x3584) S1x1024x3584.size ![n, 0, 0] h).WholeWords (EltTy.packing .bf16) := by
  interval_cases n <;> decide +kernel

/-- So does the block of its second weight. -/
theorem fits2 (n : Nat) (h : n < 8) : ∃ h : (∀ a, ((![n, 0, 0] : Fin 3 → Nat) a + 1) * S1x3584x1024.size a ≤ S8x3584x1024.size a),
    EltTy.bits .bf16 = 32 ∨ (Rect.block (s := S8x3584x1024) S1x3584x1024.size ![n, 0, 0] h).WholeWords (EltTy.packing .bf16) := by
  interval_cases n <;> decide +kernel

/-- Tables whose expert numbers are below eight are admitted by the launch. -/
theorem ok_of (pf : pre0.Contents (Elt F)) (h : ∀ i, (expertWord pf i).toNat < 8) : ok0 pf := by
  unfold ok0
  simp only [tr1_eq, tr2_eq, tr3_eq]
  exact ⟨fun i => fits13 _ (h i), fun i => fits13 _ (h i), fun i => fits2 _ (h i)⟩

/-- The launch memory's expert numbers are below eight. -/
theorem word_lt (m : (ℓ : Loc nD τ sig) → Buf (Elt F) ℓ)
    (h : ∀ c : Dev nD, @Cert.Pre_expert_ids.fn preFacts F _ (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = fun _ => 1#1) (i : grid0.Coords) :
    (expertWord (tbl m) i).toNat < 8 := by
  have e : tbl m 0 = m (((0 : Dev nD) : Thread nD τ).loc main_arg0) := V_arg0 m 0
  unfold expertWord
  show ((tbl m 0 : S136.Idx → BitVec 32) _).toNat < 8
  rw [e]
  exact ids_lt _ _ _ _ _ _ (h 0) _

/-- The launch admits the tables of a memory that meets the precondition. -/
theorem ok (m : (ℓ : Loc nD τ sig) → Buf (Elt F) ℓ)
    (h : ∀ c : Dev nD, @Cert.Pre_expert_ids.fn preFacts F _ (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = fun _ => 1#1) : Ok m :=
  ok_of _ (word_lt m h)

end Cert.Moe

end
-- ==== Proof.Moe.lean ====
module

public import proofs.«01_k».proof.Proof.MoePre
public import proofs.«01_k».proof.Proof.Ffn
public import Idealize.ShloMosaic.Lib.Pipeline.Covers

@[expose] public section

set_option maxRecDepth 16384

noncomputable section

namespace Cert.Moe

open Cert.Kernel3Ideal Cert.Kernel3Ideal.Gen
open Idealize.ShloMosaic Idealize.ShloMosaic.TcCoe Idealize.SL.Sem
open Cert.Ffn (gated ffn)
open scoped BigOperators

variable (m : (ℓ : Loc nD τ sig) → Buf (Elt Ideal) ℓ) (c : Dev nD)

/-- The argument arrays as the program is launched. -/
abbrev argB : IVec S136 32 := m ((c : Thread nD τ).loc main_arg0)
abbrev argN : IVec S1 32 := m ((c : Thread nD τ).loc main_arg1)
abbrev argX : FVec Ideal S69632x1024 .f32 := m ((c : Thread nD τ).loc main_arg2)
abbrev argW1 : FVec Ideal S8x1024x3584 .f32 := m ((c : Thread nD τ).loc main_arg3)
abbrev argW3 : FVec Ideal S8x1024x3584 .f32 := m ((c : Thread nD τ).loc main_arg4)
abbrev argW2 : FVec Ideal S8x3584x1024 .f32 := m ((c : Thread nD τ).loc main_arg5)

/-- The index of the one word of the live-block count. -/
def ix0 : S1.Idx := fun | ⟨0, _⟩ => (⟨0, by decide⟩ : Fin 1)

/-- The index of block `b` in the expert table. -/
def ixB (b : Fin 136) : S136.Idx := fun | ⟨0, _⟩ => b

/-- The expert a block of rows is sent to. -/
def expert (be : IVec S136 32) (b : Fin 136) : Fin 8 := ⟨(be (ixB b)).toNat % 8, Nat.mod_lt _ (by decide)⟩

/-- One entry of a row of block `b`: its expert's gated feed-forward, or zero where the block is not live. -/
def entry (be : IVec S136 32) (na : IVec S1 32) (x : FVec Ideal S69632x1024 .f32) (w1 w3 : FVec Ideal S8x1024x3584 .f32) (w2 : FVec Ideal S8x3584x1024 .f32)
    (b : Fin 136) (n : Fin 69632) (e : Fin 1024) : EReal :=
  if IntOp.cmpi .slt (BitVec.ofNat 32 b.val) (na ix0) = 1#1 then
    ffn (fun k => x (ValueIdx.ix2 n k)) (fun k f => w1 (ValueIdx.ix3 (expert be b) k f)) (fun k f => w3 (ValueIdx.ix3 (expert be b) k f))
      (fun f => w2 (ValueIdx.ix3 (expert be b) f e))
  else 0

/-- The block a row lies in. -/
def blockOf (n : Fin 69632) : Fin 136 := ⟨n.val / 512, by omega⟩

/-- The whole result. -/
def out : Buf (Elt Ideal) ((c : Thread nD τ).loc main_v3) :=
  fun i => entry (argB m c) (argN m c) (argX m c) (argW1 m c) (argW3 m c) (argW2 m c) (blockOf (i 0)) (i 0) (i 1)

/-- The body's gated units of one half of the units. -/
def halfT (h : FVec Ideal S512x1024 .f32) (w1 w3 : FVec Ideal S1x1024x1792 .bf16) : FVec Ideal S512x1792 .bf16 :=
  truncf .bf16 (mulf (mulf (matmul dot_S512x1024_S1024x1792_S512x1792_1_0_0_1_n_n none (truncf .bf16 h bitsLt_bf16_f32 : FVec Ideal S512x1024 .bf16) (shapeCast S1024x1792 w1 shapeCasts_S1x1024x1792_S1024x1792) (constant S512x1792 .f32 0x00000000#32))
        (logistic (matmul dot_S512x1024_S1024x1792_S512x1792_1_0_0_1_n_n none (truncf .bf16 h bitsLt_bf16_f32 : FVec Ideal S512x1024 .bf16) (shapeCast S1024x1792 w1 shapeCasts_S1x1024x1792_S1024x1792) (constant S512x1792 .f32 0x00000000#32))))
      (matmul dot_S512x1024_S1024x1792_S512x1792_1_0_0_1_n_n none (truncf .bf16 h bitsLt_bf16_f32 : FVec Ideal S512x1024 .bf16) (shapeCast S1024x1792 w3 shapeCasts_S1x1024x1792_S1024x1792) (constant S512x1792 .f32 0x00000000#32))) bitsLt_bf16_f32

/-- Them at row `r` and unit `f`. -/
theorem halfT_apply (h : FVec Ideal S512x1024 .f32) (w1 w3 : FVec Ideal S1x1024x1792 .bf16) (r : Fin 512) (f : Fin 1792) :
    halfT h w1 w3 (ValueIdx.ix2 r f)
      = gated (fun k => h (ValueIdx.ix2 r k)) (fun k => w1 (ValueIdx.ix3 0 k f)) (fun k => w3 (ValueIdx.ix3 0 k f)) := by
  have e (w : FVec Ideal S1x1024x1792 .bf16) : matmul dot_S512x1024_S1024x1792_S512x1792_1_0_0_1_n_n none (truncf .bf16 h bitsLt_bf16_f32 : FVec Ideal S512x1024 .bf16) (shapeCast S1024x1792 w shapeCasts_S1x1024x1792_S1024x1792) (constant S512x1792 .f32 0x00000000#32) (ValueIdx.ix2 r f)
      = ∑ k, h (ValueIdx.ix2 r k) * w (ValueIdx.ix3 0 k f) := by
    refine (Ideal.matmul_plain_apply (M := 512) (K := 1024) (N := 1792) none (truncf .bf16 h bitsLt_bf16_f32 : FVec Ideal S512x1024 .bf16) _ _ r f).trans ?_
    show Ideal.ofBits .f32 0x00000000#32 + _ = _
    rw [Ideal.ofBits_zero_f32, zero_add]
    refine Finset.sum_congr rfl fun k _ => congrArg (h (ValueIdx.ix2 r k) * ·) (shapeCast_apply _ _ _ _ ?_)
    rw [Shape.rowMajor_val_two, Shape.rowMajor_val_three]
    show (0 * 1024 + k.val) * 1792 + f.val = k.val * 1792 + f.val
    omega
  show (matmul dot_S512x1024_S1024x1792_S512x1792_1_0_0_1_n_n none _ (shapeCast S1024x1792 w1 _) _ _ * Ideal.logistic (matmul dot_S512x1024_S1024x1792_S512x1792_1_0_0_1_n_n none _ (shapeCast S1024x1792 w1 _) _ _)) * matmul dot_S512x1024_S1024x1792_S512x1792_1_0_0_1_n_n none _ (shapeCast S1024x1792 w3 _) _ _ = _
  rw [e, e]; rfl

/-- The columns of a weight from a place on, cut out of the whole. -/
abbrev cutL (W : FVec Ideal S1x1024x3584 .bf16) : FVec Ideal S1x1024x1792 .bf16 :=
  View.ld (Val := Elt Ideal) (e' := .bf16) W (Rect.unit (s := S1x1024x3584) ![0, 0, 0] S1x1024x1792.size inb_S1x1024x3584_S1x1024x1792_0_0_0)
abbrev cutR (W : FVec Ideal S1x1024x3584 .bf16) : FVec Ideal S1x1024x1792 .bf16 :=
  View.ld (Val := Elt Ideal) (e' := .bf16) W (Rect.unit (s := S1x1024x3584) ![0, 0, 1792] S1x1024x1792.size inb_S1x1024x3584_S1x1024x1792_0_0_1792)

/-- The two halves side by side, cut from two whole weights. -/
theorem cat_apply (h : FVec Ideal S512x1024 .f32) (W1 W3 : FVec Ideal S1x1024x3584 .bf16) (r : Fin 512) (f : Fin 3584) :
    concatenate S512x3584 1 [⟨S512x1792, halfT h (cutL W1) (cutL W3)⟩, ⟨S512x1792, halfT h (cutR W1) (cutR W3)⟩]
      concatenates_S512x1792_S512x1792_S512x3584_d1 (ValueIdx.ix2 r f)
      = gated (fun k => h (ValueIdx.ix2 r k)) (fun k => W1 (ValueIdx.ix3 0 k f)) (fun k => W3 (ValueIdx.ix3 0 k f)) := by
  by_cases hf : f.val < 1792
  · rw [concatenate_pair_apply_left (t := S512x3584) (s₁ := S512x1792) (s₂ := S512x1792) 1 _ _ _ (ValueIdx.ix2 r f) rfl (ValueIdx.ix2 (n1 := 1792) r ⟨f.val, hf⟩)
      (fun b => by match b with | ⟨0, _⟩ => rfl | ⟨1, _⟩ => rfl), halfT_apply]
    have e (W : FVec Ideal S1x1024x3584 .bf16) (k : Fin 1024) : cutL W (ValueIdx.ix3 (n2 := 1792) 0 k ⟨f.val, hf⟩) = W (ValueIdx.ix3 0 k f) :=
      View.ld_unit_apply_of _ _ _ _ _ _ fun a => by
        match a with | ⟨0, _⟩ => exact (Nat.zero_add _).symm | ⟨1, _⟩ => exact (Nat.zero_add _).symm | ⟨2, _⟩ => exact (Nat.zero_add _).symm
    exact congrArg₂ (gated _) (funext (e W1)) (funext (e W3))
  · have hf' : f.val - 1792 < 1792 := by omega
    rw [concatenate_pair_apply_right (t := S512x3584) (s₁ := S512x1792) (s₂ := S512x1792) 1 _ _ _ (ValueIdx.ix2 r f) rfl rfl (ValueIdx.ix2 (n1 := 1792) r ⟨f.val - 1792, hf'⟩)
      (fun b hb => by match b, hb with | ⟨0, _⟩, _ => rfl | ⟨1, _⟩, hb => exact absurd rfl hb)
      (by show f.val - 1792 + 1792 = f.val; omega), halfT_apply]
    have e (W : FVec Ideal S1x1024x3584 .bf16) (k : Fin 1024) : cutR W (ValueIdx.ix3 (n2 := 1792) 0 k ⟨f.val - 1792, hf'⟩) = W (ValueIdx.ix3 0 k f) :=
      View.ld_unit_apply_of _ _ _ _ _ _ fun a => by
        match a with | ⟨0, _⟩ => exact (Nat.zero_add _).symm | ⟨1, _⟩ => exact (Nat.zero_add _).symm | ⟨2, _⟩ => (show f.val = 1792 + (f.val - 1792); omega)
    exact congrArg₂ (gated _) (funext (e W1)) (funext (e W3))

/-- The live body's value at row `r`, column `e`. -/
theorem pay (x : FVec Ideal S512x1024 .f32) (W1 W3 : FVec Ideal S1x1024x3584 .bf16) (w2 : FVec Ideal S1x3584x1024 .bf16) (r : Fin 512) (e : Fin 1024) :
    k0_pay1 (F := Ideal) x (cutL W1) (cutL W3) (cutR W1) (cutR W3) w2 (ValueIdx.ix2 r e)
      = ffn (fun k => x (ValueIdx.ix2 r k)) (fun k f => W1 (ValueIdx.ix3 0 k f)) (fun k f => W3 (ValueIdx.ix3 0 k f)) (fun f => w2 (ValueIdx.ix3 0 f e)) := by
  show matmul dot_S512x3584_S3584x1024_S512x1024_1_0_0_1_n_n none
      (concatenate S512x3584 1 [⟨S512x1792, halfT x (cutL W1) (cutL W3)⟩, ⟨S512x1792, halfT x (cutR W1) (cutR W3)⟩] concatenates_S512x1792_S512x1792_S512x3584_d1)
      (shapeCast S3584x1024 w2 shapeCasts_S1x3584x1024_S3584x1024) (constant S512x1024 .f32 0x00000000#32) (ValueIdx.ix2 r e) = _
  refine (Ideal.matmul_plain_apply (M := 512) (K := 3584) (N := 1024) none _ _ _ r e).trans ?_
  show Ideal.ofBits .f32 0x00000000#32 + _ = _
  rw [Ideal.ofBits_zero_f32, zero_add]
  unfold ffn
  refine Finset.sum_congr rfl fun f _ => congrArg₂ (· * ·) (cat_apply x W1 W3 r f) (shapeCast_apply _ _ _ _ ?_)
  rw [Shape.rowMajor_val_two, Shape.rowMajor_val_three]
  show (0 * 3584 + f.val) * 1024 + e.val = f.val * 1024 + e.val
  omega

/-- The first weight the launch reads is the argument's (a cast to a narrower float is the identity here). -/
theorem V_w1 : V m c main_v0 = argW1 m c := by
  show StableHlo.after hostOps0 (fun b => m (c, b)) main_v0 = _
  unfold hostOps0; after_results; rfl

/-- So is the third weight. -/
theorem V_w3 : V m c main_v1 = argW3 m c := by
  show StableHlo.after hostOps0 (fun b => m (c, b)) main_v1 = _
  unfold hostOps0; after_results; rfl

/-- So is the second weight. -/
theorem V_w2 : V m c main_v2 = argW2 m c := by
  show StableHlo.after hostOps0 (fun b => m (c, b)) main_v2 = _
  unfold hostOps0; after_results; rfl

variable (hO : Ok m)

/-- Where the row windows stand at point `t`. -/
theorem idx0 (t : Fin (cfgM m hO).N) : ((cfgM m hO).win 0).index t = ![t.val, 0] :=
  (by decide +kernel : ∀ t : Fin grid0.N, cc0_transform_0 (grid0.coords t) = ![t.val, 0]) t
theorem idx4 (t : Fin (cfgM m hO).N) : ((cfgM m hO).win 4).index t = ![t.val, 0] :=
  (by decide +kernel : ∀ t : Fin grid0.N, cc0_transform_4 (grid0.coords t) = ![t.val, 0]) t

/-- Where the weights' windows stand: at the expert of the block. -/
theorem idx1 (t : Fin (cfgM m hO).N) : ((cfgM m hO).win 1).index t = ![(expertWord (tbl m) (grid0.coords t)).toNat, 0, 0] := rfl
theorem idx2 (t : Fin (cfgM m hO).N) : ((cfgM m hO).win 2).index t = ![(expertWord (tbl m) (grid0.coords t)).toNat, 0, 0] := rfl
theorem idx3 (t : Fin (cfgM m hO).N) : ((cfgM m hO).win 3).index t = ![(expertWord (tbl m) (grid0.coords t)).toNat, 0, 0] := rfl

/-- The word a point's weight windows read is the table's at the point's block. -/
theorem expertWord_eq (t : Fin (cfgM m hO).N) : expertWord (tbl m) (grid0.coords t) = argB m c (ixB ⟨t.val, t.isLt⟩) := by
  obtain rfl : c = 0 := Subsingleton.elim _ _
  have e : tbl m 0 = argB m 0 := V_arg0 m 0
  have o : k0_off1 (grid0.coords t) = ![t.val] := (by decide +kernel : ∀ t : Fin grid0.N, k0_off1 (grid0.coords t) = ![t.val]) t
  unfold expertWord
  show (tbl m 0 : S136.Idx → BitVec 32) _ = _
  rw [e]
  refine congrArg (argB m 0) (funext fun a => Fin.ext ?_)
  match a with
  | ⟨0, _⟩ => (show k0_off1 (grid0.coords t) 0 + 1 * 0 = t.val; rw [o]; rfl)

/-- Where output block `t` places its entry `y`. -/
def emb (t : Fin (cfgM m hO).N) (y : S512x1024.Idx) : S69632x1024.Idx := (((cfgM m hO).win 4).blk t).view.emb y

/-- Output block `t` starts at row `512 t`. -/
theorem emb0 (t : Fin (cfgM m hO).N) (y : S512x1024.Idx) : (emb m hO t y 0).val = t.val * 512 + (y 0).val := by
  unfold emb
  blk_simp [idx4 m hO t]

/-- Output block `t` has every column. -/
theorem emb1 (t : Fin (cfgM m hO).N) (y : S512x1024.Idx) : (emb m hO t y 1).val = (y 1).val := by
  unfold emb
  blk_simp [idx4 m hO t]

/-- Point `t` reads the rows its output block covers. -/
theorem blk_x (t : Fin (cfgM m hO).N) (y : S512x1024.Idx) (k : Fin 1024) : (iblk m hO c 0 t : FVec Ideal S512x1024 .f32) (ValueIdx.ix2 (y 0) k)
    = argX m c (ValueIdx.ix2 (emb m hO t y 0) k) := by
  unfold iblk
  show (((cfgM m hO).win 0).blk t).view.read (Elt Ideal) (V m c main_arg2) _ = _
  rw [V_arg2]
  blk_ext! [idx0 m hO t]
  exact (emb0 m hO t y).symm

/-- Point `t` reads the first weight of its block's expert, -/
theorem blk_w1 (t : Fin (cfgM m hO).N) (ex : Fin 8) (hex : (expertWord (tbl m) (grid0.coords t)).toNat = ex.val) (k : Fin 1024) (f : Fin 3584) :
    (iblk m hO c 1 t : FVec Ideal S1x1024x3584 .bf16) (ValueIdx.ix3 0 k f) = argW1 m c (ValueIdx.ix3 ex k f) := by
  unfold iblk
  show (((cfgM m hO).win 1).blk t).view.read (Elt Ideal) (V m c main_v0) _ = _
  rw [V_w1]
  blk_ext! [idx1 m hO t, hex]

/-- the third, -/
theorem blk_w3 (t : Fin (cfgM m hO).N) (ex : Fin 8) (hex : (expertWord (tbl m) (grid0.coords t)).toNat = ex.val) (k : Fin 1024) (f : Fin 3584) :
    (iblk m hO c 2 t : FVec Ideal S1x1024x3584 .bf16) (ValueIdx.ix3 0 k f) = argW3 m c (ValueIdx.ix3 ex k f) := by
  unfold iblk
  show (((cfgM m hO).win 2).blk t).view.read (Elt Ideal) (V m c main_v1) _ = _
  rw [V_w3]
  blk_ext! [idx2 m hO t, hex]

/-- and the second. -/
theorem blk_w2 (t : Fin (cfgM m hO).N) (ex : Fin 8) (hex : (expertWord (tbl m) (grid0.coords t)).toNat = ex.val) (f : Fin 3584) (e : Fin 1024) :
    (iblk m hO c 3 t : FVec Ideal S1x3584x1024 .bf16) (ValueIdx.ix3 0 f e) = argW2 m c (ValueIdx.ix3 ex f e) := by
  unfold iblk
  show (((cfgM m hO).win 3).blk t).view.read (Elt Ideal) (V m c main_v2) _ = _
  rw [V_w2]
  blk_ext! [idx3 m hO t, hex]

/-- The output blocks cover the result. -/
theorem covers : ((cfgM m hO).win 4).Covers :=
  Pipeline.Window.covers_of_index_surj _ rfl (by decide : ∀ a, 0 < S512x1024.size a) fun β => by
    have h0 : (β (0 : Fin 2)).val < 136 := Nat.lt_of_lt_of_eq (β (0 : Fin 2)).isLt (show (69632 + 512 - 1) / 512 = 136 from rfl)
    have h1 : (β (1 : Fin 2)).val < 1 := Nat.lt_of_lt_of_eq (β (1 : Fin 2)).isLt (show (1024 + 1024 - 1) / 1024 = 1 from rfl)
    refine ⟨⟨(β (0 : Fin 2)).val, h0⟩, fun a => ?_⟩
    rw [idx4]
    match a with
    | ⟨0, _⟩ => rfl
    | ⟨1, _⟩ => (show 0 = (β (1 : Fin 2)).val; omega)

/-- The count the body tests is the argument's word. -/
theorem live_eq : liveWord (F := Ideal) (c := c) (tbl m 1) = argN m c ix0 := by
  obtain rfl : c = 0 := Subsingleton.elim _ _
  have e : tbl m 1 = argN m 0 := V_arg1 m 0
  unfold liveWord
  rw [e]
  exact congrArg (argN m 0) (funext fun a => by match a with | ⟨0, _⟩ => rfl)

/-- The body's test at point `t`: whether block `t` is live. -/
theorem cond_iff (t : Fin (cfgM m hO).N) (w : BitVec 32) :
    k0_cond1 (grid0.coords t) w = 1#1 ↔ IntOp.cmpi .slt (BitVec.ofNat 32 t.val) w = 1#1 := by
  have o : ((grid0.coords t) 0).val = t.val := (by decide +kernel : ∀ t : Fin grid0.N, ((grid0.coords t) 0).val = t.val) t
  unfold k0_cond1
  rw [o]
  show IntOp.cmpi .ne ((IntOp.cmpi .slt (BitVec.ofNat 32 t.val) w).setWidth 32) 0#32 = 1#1 ↔ _
  generalize IntOp.cmpi .slt (BitVec.ofNat 32 t.val) w = b
  revert b; decide

set_option maxHeartbeats 1000000 in
/-- The launch leaves the result array at `out`. -/
theorem final (hb : ∀ i : grid0.Coords, (expertWord (tbl m) i).toNat < 8) : (dats m hO 0 c).arrAt 4 (cfgM m hO).N = out m c := by
  refine (dats m hO 0 c).arrAt_eq_of_covers 4 _ (covers m hO) fun t hf y => ?_
  have ht : t.val < 136 := t.isLt
  have hy0 : (y (0 : Fin 2)).val < 512 := (y (0 : Fin 2)).isLt
  have h0 := emb0 m hO t y
  have hq : blockOf (emb m hO t y 0) = ⟨t.val, ht⟩ := Fin.ext (by show (emb m hO t y 0).val / 512 = t.val; omega)
  have he : emb m hO t y 1 = y (1 : Fin 2) := Fin.ext (emb1 m hO t y)
  rw [after_4]
  show outAt m hO c t y = entry (argB m c) (argN m c) (argX m c) (argW1 m c) (argW3 m c) (argW2 m c) (blockOf (emb m hO t y 0)) (emb m hO t y 0) (emb m hO t y 1)
  rw [hq, he]
  unfold outAt blockOut entry
  rw [live_eq]
  by_cases hl : IntOp.cmpi .slt (BitVec.ofNat 32 t.val) (argN m c ix0) = 1#1
  · rw [if_pos hl, if_pos ((cond_iff m hO t _).2 hl)]
    refine (congrArg _ (ValueIdx.eq_ix2 (n0 := 512) (n1 := 1024) y)).trans ((pay _ _ _ _ _ _).trans ?_)
    have hex : (expertWord (tbl m) (grid0.coords t)).toNat = (expert (argB m c) ⟨t.val, ht⟩).val := by
      have := hb (grid0.coords t)
      unfold expert
      show _ = (argB m c (ixB ⟨t.val, ht⟩)).toNat % 8
      rw [expertWord_eq m c hO t] at this ⊢
      exact (Nat.mod_eq_of_lt this).symm
    exact congr (congr (congr (congrArg ffn (funext fun k => blk_x m c hO t y k)) (funext fun k => funext fun f => blk_w1 m c hO t _ hex k f))
      (funext fun k => funext fun f => blk_w3 m c hO t _ hex k f)) (funext fun f => blk_w2 m c hO t _ hex f _)
  · rw [if_neg hl, if_neg fun h => hl ((cond_iff m hO t _).1 h)]
    exact Ideal.ofBits_zero_f32

end Cert.Moe

end
-- ==== Proof.MoeBits.lean ====
module

public import proofs.«01_k».proof.Proof.MoePre
public import proofs.«01_k».proof.Proof.Gen.Kernel3
public import proofs.«01_k».proof.Proof.Gen.Reference3Ideal.Run

@[expose] public section

set_option maxRecDepth 16384

noncomputable section

namespace Cert.Moe

open Idealize.ShloMosaic Idealize.SL.Sem

variable {F : FTy → Type} [FloatOps F]

set_option maxHeartbeats 1000000 in
/-- The two printings of the expert body, one for the machine's floats and one for the extended reals, are one text. -/
theorem body_eq : Cert.Kernel3.cc0_moe_expert_ffn (F := F) = Cert.Kernel3Ideal.cc0_moe_expert_ffn (F := F) := rfl

set_option maxHeartbeats 1000000 in
/-- So are their body tables, -/
theorem defs₀_eq : Cert.Kernel3.defs₀ (F := F) = Cert.Kernel3Ideal.defs₀ (F := F) := by
  unfold Cert.Kernel3.defs₀ Cert.Kernel3Ideal.defs₀
  rw [body_eq]
  refine congrArg (Defs.onTc (nD := Cert.Kernel3.nD) (τ := Cert.Kernel3.τ) (sig := Cert.Kernel3.sig)) (funext fun l => funext fun a => ?_)
  match l, a with
  | 0, (t, s) => rfl
  | ⟨_ + 1, h⟩, _ => exact absurd h (Nat.not_lt.2 (Nat.le_add_left _ _))

/-- their tables with the pipeline's labels, -/
theorem defs_eq : Cert.Kernel3.defs (F := F) = Cert.Kernel3Ideal.defs (F := F) := by
  unfold Cert.Kernel3.defs Cert.Kernel3Ideal.defs
  exact congrArg (Pipeline.defs Cert.Kernel3.pcfgs) defs₀_eq

set_option maxHeartbeats 1000000 in
/-- and their main functions. -/
theorem main_eq : Cert.Kernel3.main (F := F) = Cert.Kernel3Ideal.main (F := F) := rfl

/-- The expert kernel runs, leaves its arguments as they were and every counter at zero, at the machine's floats. -/
theorem frame_kernel3 : Cert.quiescent_Kernel3 (hPre_expert_ids := preFacts) := by
  intro m ρ h
  rw [defs_eq, main_eq]
  exact frame_any (F := Bits) m ρ (ok m h)

/-- So it does over the extended reals. -/
theorem frame_kernel3_ideal : Cert.quiescent_Kernel3Ideal (hPre_expert_ids := preFacts) := fun m ρ h => frame_any (F := Ideal) m ρ (ok m h)

/-- So does its reference. -/
theorem frame_reference3 : Cert.quiescent_Reference3Ideal (hPre_expert_ids := preFacts) := fun m ρ _ =>
  (θ_run Cert.Reference3Ideal.defs _ _).mono (fun r h => ⟨fun c => (h c).2, sem_eq_zero_of_no_sems (by decide) r.2⟩)
    (Cert.Reference3Ideal.Value.run m ρ)

end Cert.Moe

end
-- ==== Proof.MoeRef.lean ====
module

public import proofs.«01_k».proof.Proof.Moe
public import proofs.«01_k».proof.Proof.MoeBits
public import Idealize.ShloMosaic.Lib.StackMember

@[expose] public section

set_option maxRecDepth 16384

noncomputable section

namespace Cert.MoeRef

open Cert.Reference3Ideal Cert.Reference3Ideal.Gen Idealize.ShloMosaic Idealize.ShloMosaic.TcCoe Idealize.SL.Sem
open Idealize.ShloMosaic.StackMember (dotGeneral_plain_apply memberAt memberAt_dotGeneral)
open Cert.Ffn (gated ffn)
open Cert.Moe (entry expert ixB blockOf)
open scoped BigOperators

/-- A stack of products read at an entry: the sum, over the contracted coordinate, of the two members' entries. -/
theorem stack_apply {G M K N : Nat} (w : DotDims.WF ⟨3, ![G, M, K]⟩ ⟨3, ![G, K, N]⟩ ⟨3, ![G, M, N]⟩ [2] [1] [1] [2] [0] [0])
    (A : FVec Ideal ⟨3, ![G, M, K]⟩ .f32) (B : FVec Ideal ⟨3, ![G, K, N]⟩ .f32) (g : Fin G) (r : Fin M) (c : Fin N) :
    Host.dotGeneral (⟨[2], [1], [1], [2], [0], [0], w⟩ : DotDims _ _ _) none A B (ValueIdx.ix3 g r c)
      = ∑ k, A (ValueIdx.ix3 g r k) * B (ValueIdx.ix3 g k c) := by
  have cons3 {P Q : Nat} {α : Type} (X : (⟨3, ![G, P, Q]⟩ : Shape).Idx → α) (p : Fin P) (q : Fin Q) :
      memberAt (d := ![P, Q]) X g (ValueIdx.ix2 p q) = X (ValueIdx.ix3 g p q) :=
    congrArg X (funext fun a => by match a with | ⟨0, _⟩ => rfl | ⟨1, _⟩ => rfl | ⟨2, _⟩ => rfl)
  refine (cons3 _ r c).symm.trans ((congrFun (memberAt_dotGeneral w none A B g) _).trans ((dotGeneral_plain_apply none _ _ r c).trans ?_))
  exact Finset.sum_congr rfl fun k _ => congrArg₂ (· * ·) (cons3 A r k) (cons3 B k c)

/-- The dimension numbers of taking whole members of a stack of eight, one for each of 136 start indices. -/
def takeDims (K N : Nat) (wf : GatherDims.WF ⟨3, ![8, K, N]⟩ S136x3 ⟨4, ![136, 1, K, N]⟩ [1, 2, 3] [] [] [0, 1, 2] [] 1 ![1, K, N]) :
    GatherDims ⟨3, ![8, K, N]⟩ S136x3 ⟨4, ![136, 1, K, N]⟩ :=
  ⟨[1, 2, 3], [], [], [], [0, 1, 2], 1, ![1, K, N], wf⟩

/-- A taken member read at an entry: the stack at the start index's first component, read signed and clamped. -/
theorem take_apply {α : Type} (K N : Nat) (wf) (x : (⟨3, ![8, K, N]⟩ : Shape).Idx → α) (idx : IVec S136x3 32) (b : Fin 136) (k : Fin K) (n : Fin N)
    (ex : Fin 8) (hex : min (idx (ValueIdx.ix2 b 0)).toInt.toNat 7 = ex.val) :
    Host.gather (takeDims K N wf) x idx (ValueIdx.ix4 b 0 k n) = x (ValueIdx.ix3 ex k n) := by
  unfold Host.gather
  refine congrArg x (funext fun a => Fin.ext ?_)
  show (takeDims K N wf).start (ValueIdx.ix4 b 0 k n) idx a + (takeDims K N wf).batchCoord (ValueIdx.ix4 b 0 k n) a + (takeDims K N wf).offCoord (ValueIdx.ix4 b 0 k n) a = _
  rw [GatherDims.batchCoord_eq_zero _ _ _ List.not_mem_nil, Nat.add_zero]
  match a with
  | ⟨0, h0⟩ =>
    have ho : (takeDims K N wf).offCoord (ValueIdx.ix4 b 0 k n) ⟨0, h0⟩ = 0 := rfl
    have hs : (takeDims K N wf).start (ValueIdx.ix4 b 0 k n) idx ⟨0, h0⟩ = min (idx (ValueIdx.ix2 b 0)).toInt.toNat 7 := by
      unfold GatherDims.start
      rw [dif_pos (show (⟨0, h0⟩ : Fin 3) ∈ (takeDims K N wf).startIndexMap from (by decide : (0 : Fin 3) ∈ [(0 : Fin 3), 1, 2]))]
      refine congrArg (fun j => min (idx j).toInt.toNat 7) (funext fun q => Fin.ext ?_)
      match q with
      | ⟨0, _⟩ => rfl
      | ⟨1, _⟩ => rfl
    rw [ho, hs, hex]; rfl
  | ⟨1, h1⟩ =>
    have hs := (takeDims K N wf).start_le (ValueIdx.ix4 b 0 k n) idx ⟨1, h1⟩
    have hs0 : (takeDims K N wf).start (ValueIdx.ix4 b 0 k n) idx ⟨1, h1⟩ = 0 := Nat.le_zero.1 (hs.trans (Nat.le_of_eq (Nat.sub_self K)))
    rw [hs0, Nat.zero_add]; rfl
  | ⟨2, h2⟩ =>
    have hs := (takeDims K N wf).start_le (ValueIdx.ix4 b 0 k n) idx ⟨2, h2⟩
    have hs0 : (takeDims K N wf).start (ValueIdx.ix4 b 0 k n) idx ⟨2, h2⟩ = 0 := Nat.le_zero.1 (hs.trans (Nat.le_of_eq (Nat.sub_self N)))
    rw [hs0, Nat.zero_add]; rfl

variable (be : IVec S136 32) (na : IVec S1 32) (x : FVec Ideal S69632x1024 .f32) (w1 w3 : FVec Ideal S8x1024x3584 .f32) (w2 : FVec Ideal S8x3584x1024 .f32)

/-- The reference's start indices: each block's expert number, a negative one counted from the end, and two zeros. -/
def starts (p q : BitVec 32) : IVec S136x3 32 :=
  concatenate S136x3 1 [⟨S136x1, broadcastInDim S136x1 ![0] bcast_S136_S136x1_0 (select (cmpi .slt be (broadcastInDim S136 ![] bcast_S_S136 (constantI S_ 32 0#32))) (addi be (broadcastInDim S136 ![] bcast_S_S136 (constantI S_ 32 8#32))) be)⟩,
    ⟨S136x1, broadcastInDim S136x1 ![] bcast_S_S136x1 (select (cmpi .slt (constantI S_ 32 0#32) (constantI S_ 32 0#32)) (addi (constantI S_ 32 0#32) (constantI S_ 32 p)) (constantI S_ 32 0#32))⟩,
    ⟨S136x1, broadcastInDim S136x1 ![] bcast_S_S136x1 (select (cmpi .slt (constantI S_ 32 0#32) (constantI S_ 32 0#32)) (addi (constantI S_ 32 0#32) (constantI S_ 32 q)) (constantI S_ 32 0#32))⟩]
    concatenates_S136x1_S136x1_S136x1_S136x3_d1

/-- A column of three columns side by side, read in the first. -/
theorem first_apply (u v t : IVec S136x1 32) (b : Fin 136) :
    concatenate S136x3 1 [⟨S136x1, u⟩, ⟨S136x1, v⟩, ⟨S136x1, t⟩] concatenates_S136x1_S136x1_S136x1_S136x3_d1 (ValueIdx.ix2 b 0) = u (ValueIdx.ix2 b 0) := by
  refine concatenate_apply_piece (t := S136x3) 1 _ _ (ValueIdx.ix2 b 0) 0 (by simp) S136x1 _ rfl rfl 0 rfl (ValueIdx.ix2 b 0) ?_ rfl
  intro a ha; match a, ha with | ⟨0, _⟩, _ => rfl | ⟨1, _⟩, ha => exact absurd rfl ha

/-- An expert number below eight is not negative, so it is not counted from the end. -/
theorem wrap_apply (h : ∀ i, (be i).toNat < 8) (i : S136.Idx) :
    select (cmpi .slt be (broadcastInDim S136 ![] bcast_S_S136 (constantI S_ 32 0#32))) (addi be (broadcastInDim S136 ![] bcast_S_S136 (constantI S_ 32 8#32))) be i = be i := by
  have hn : IntOp.cmpi .slt (be i) 0#32 = 0#1 := by
    refine ValueIdx.eq_zero_of_ne_one fun hc => ?_
    have hc := IntOp.cmpi_slt.1 hc
    have := h i
    rw [BitVec.toInt_eq_toNat_cond, if_pos (by omega)] at hc
    simp at hc
    omega
  show Scalar.select (IntOp.cmpi .slt (be i) 0#32) _ (be i) = _
  rw [hn]; rfl

/-- The first component of block `b`'s start index, clamped, is the block's expert, where the expert numbers are below eight. -/
theorem starts_apply (p q : BitVec 32) (h : ∀ i, (be i).toNat < 8) (b : Fin 136) : min (starts be p q (ValueIdx.ix2 b 0)).toInt.toNat 7 = (expert be b).val := by
  have hb (v : IVec S136 32) : broadcastInDim S136x1 ![0] bcast_S136_S136x1_0 v (ValueIdx.ix2 b 0) = v (ixB b) :=
    congrArg v (funext fun a => Fin.ext (by match a with | ⟨0, _⟩ => rfl))
  have e : starts be p q (ValueIdx.ix2 b 0) = be (ixB b) := (first_apply _ _ _ b).trans ((hb _).trans (wrap_apply be h _))
  have := h (ixB b)
  rw [e, BitVec.toInt_eq_toNat_cond, if_pos (by omega), Int.toNat_natCast]
  show min (be (ixB b)).toNat 7 = (be (ixB b)).toNat % 8
  omega

/-- The rows, block by block. -/
def xs : FVec Ideal S136x512x1024 .f32 := shapeCast _ x shapeCasts_S69632x1024_S136x512x1024

/-- Each block's first or third weight. -/
def taken13 (w : FVec Ideal S8x1024x3584 .f32) : FVec Ideal S136x1024x3584 .f32 :=
  shapeCast _ (Host.gather gather_S8x1024x3584_S136x3_S136x1x1024x3584_123_n_n_n_012_1_110243584 w (starts be 1024#32 3584#32)) shapeCasts_S136x1x1024x3584_S136x1024x3584

/-- Each block's second weight. -/
def taken2 : FVec Ideal S136x3584x1024 .f32 :=
  shapeCast _ (Host.gather gather_S8x3584x1024_S136x3_S136x1x3584x1024_123_n_n_n_012_1_135841024 w2 (starts be 3584#32 1024#32)) shapeCasts_S136x1x3584x1024_S136x3584x1024

/-- A block's first or third weight is its expert's. -/
theorem taken13_apply (h : ∀ i, (be i).toNat < 8) (w : FVec Ideal S8x1024x3584 .f32) (b : Fin 136) (k : Fin 1024) (f : Fin 3584) :
    taken13 be w (ValueIdx.ix3 b k f) = w (ValueIdx.ix3 (expert be b) k f) := by
  unfold taken13
  refine (shapeCast_apply _ _ _ (ValueIdx.ix4 (n0 := 136) (n1 := 1) (n2 := 1024) (n3 := 3584) b 0 k f) ?_).trans
    (take_apply 1024 3584 _ w _ b k f _ (starts_apply be _ _ h b))
  rw [Shape.rowMajor_val_three, Shape.rowMajor_val_four]
  show ((b.val * 1 + 0) * 1024 + k.val) * 3584 + f.val = (b.val * 1024 + k.val) * 3584 + f.val
  omega

/-- So is its second. -/
theorem taken2_apply (h : ∀ i, (be i).toNat < 8) (b : Fin 136) (f : Fin 3584) (e : Fin 1024) :
    taken2 be w2 (ValueIdx.ix3 b f e) = w2 (ValueIdx.ix3 (expert be b) f e) := by
  unfold taken2
  refine (shapeCast_apply _ _ _ (ValueIdx.ix4 (n0 := 136) (n1 := 1) (n2 := 3584) (n3 := 1024) b 0 f e) ?_).trans
    (take_apply 3584 1024 _ w2 _ b f e _ (starts_apply be _ _ h b))
  rw [Shape.rowMajor_val_three, Shape.rowMajor_val_four]
  show ((b.val * 1 + 0) * 3584 + f.val) * 1024 + e.val = (b.val * 3584 + f.val) * 1024 + e.val
  omega

/-- The reference's gated units. -/
def units : FVec Ideal S136x512x3584 .f32 :=
  mulf (mulf (Host.dotGeneral dot_S136x512x1024_S136x1024x3584_S136x512x3584_2_1_1_2_0_0 none (xs x) (taken13 be w1)) (Host.divf (broadcastInDim S136x512x3584 ![] bcast_S_S136x512x3584 (constant S_ .f32 0x3F800000#32)) (addf (broadcastInDim S136x512x3584 ![] bcast_S_S136x512x3584 (constant S_ .f32 0x3F800000#32)) (Host.exp (Host.negf (Host.dotGeneral dot_S136x512x1024_S136x1024x3584_S136x512x3584_2_1_1_2_0_0 none (xs x) (taken13 be w1)))))))
    (Host.dotGeneral dot_S136x512x1024_S136x1024x3584_S136x512x3584_2_1_1_2_0_0 none (xs x) (taken13 be w3))

/-- The reference's result. -/
def term : FVec Ideal S69632x1024 .f32 :=
  shapeCast _ (select (broadcastInDim S136x512x1024 ![0, 1, 2] bcast_S136x1x1_S136x512x1024_0_1_2 (broadcastInDim S136x1x1 ![0] bcast_S136_S136x1x1_0 (cmpi .slt (iotaInDim S136 32 0) (broadcastInDim S136 ![] bcast_S_S136 (shapeCast _ na shapeCasts_S1_S_)))))
    (Host.dotGeneral dot_S136x512x3584_S136x3584x1024_S136x512x1024_2_1_1_2_0_0 none (units be x w1 w3) (taken2 be w2))
    (broadcastInDim S136x512x1024 ![] bcast_S_S136x512x1024 (id (constant (F := Ideal) S_ .f32 0x00000000#32)))) shapeCasts_S136x512x1024_S69632x1024

/-- A gated unit of the reference, read at a block, a row of it and a unit. -/
theorem units_apply (h : ∀ i, (be i).toNat < 8) (b : Fin 136) (r : Fin 512) (n : Fin 69632) (hn : n.val = b.val * 512 + r.val) (f : Fin 3584) :
    units be x w1 w3 (ValueIdx.ix3 b r f)
      = gated (fun k => x (ValueIdx.ix2 n k)) (fun k => w1 (ValueIdx.ix3 (expert be b) k f)) (fun k => w3 (ValueIdx.ix3 (expert be b) k f)) := by
  have hx (k : Fin 1024) : xs x (ValueIdx.ix3 b r k) = x (ValueIdx.ix2 n k) := by
    unfold xs
    refine shapeCast_apply _ _ _ _ ?_
    rw [Shape.rowMajor_val_two, Shape.rowMajor_val_three]
    show n.val * 1024 + k.val = (b.val * 512 + r.val) * 1024 + k.val
    rw [hn]
  have e (w : FVec Ideal S8x1024x3584 .f32) : Host.dotGeneral dot_S136x512x1024_S136x1024x3584_S136x512x3584_2_1_1_2_0_0 none (xs x) (taken13 be w) (ValueIdx.ix3 b r f)
      = ∑ k, x (ValueIdx.ix2 n k) * w (ValueIdx.ix3 (expert be b) k f) :=
    (stack_apply _ (xs x) (taken13 be w) b r f).trans (Finset.sum_congr rfl fun k _ => congrArg₂ (· * ·) (hx k) (taken13_apply be h w b k f))
  unfold units
  show (Host.dotGeneral dot_S136x512x1024_S136x1024x3584_S136x512x3584_2_1_1_2_0_0 none (xs x) (taken13 be w1) _ * Ideal.div (Ideal.ofBits .f32 0x3F800000#32) (Ideal.ofBits .f32 0x3F800000#32 + Ideal.exp (-(Host.dotGeneral dot_S136x512x1024_S136x1024x3584_S136x512x3584_2_1_1_2_0_0 none (xs x) (taken13 be w1) _)))) * Host.dotGeneral dot_S136x512x1024_S136x1024x3584_S136x512x3584_2_1_1_2_0_0 none (xs x) (taken13 be w3) _ = _
  rw [e, e, Ideal.ofBits_one_f32]; rfl

/-- The reference's result read at a row and a column. -/
theorem term_apply (h : ∀ i, (be i).toNat < 8) (n : Fin 69632) (e : Fin 1024) :
    term be na x w1 w3 w2 (ValueIdx.ix2 n e) = entry be na x w1 w3 w2 (blockOf n) n e := by
  have hr : n.val % 512 < 512 := Nat.mod_lt _ (by decide)
  have hn : n.val = (blockOf n).val * 512 + n.val % 512 := by show n.val = n.val / 512 * 512 + n.val % 512; omega
  unfold term
  refine (shapeCast_apply _ _ _ (ValueIdx.ix3 (n0 := 136) (n1 := 512) (n2 := 1024) (blockOf n) ⟨n.val % 512, hr⟩ e) ?_).trans ?_
  · rw [Shape.rowMajor_val_two, Shape.rowMajor_val_three]
    show ((blockOf n).val * 512 + n.val % 512) * 1024 + e.val = n.val * 1024 + e.val
    rw [← hn]
  have hd : Host.dotGeneral dot_S136x512x3584_S136x3584x1024_S136x512x1024_2_1_1_2_0_0 none (units be x w1 w3) (taken2 be w2) (ValueIdx.ix3 (blockOf n) ⟨n.val % 512, hr⟩ e)
      = ffn (fun k => x (ValueIdx.ix2 n k)) (fun k f => w1 (ValueIdx.ix3 (expert be (blockOf n)) k f)) (fun k f => w3 (ValueIdx.ix3 (expert be (blockOf n)) k f))
        (fun f => w2 (ValueIdx.ix3 (expert be (blockOf n)) f e)) :=
    (stack_apply _ (units be x w1 w3) (taken2 be w2) _ _ e).trans
      (Finset.sum_congr rfl fun f _ => congrArg₂ (· * ·) (units_apply be x w1 w3 h _ _ n hn f) (taken2_apply be w2 h _ f e))
  have hna (j : S_.Idx) : shapeCast S_ na shapeCasts_S1_S_ j = na Cert.Moe.ix0 :=
    congrArg na (funext fun a => Fin.ext (by match a with | ⟨0, _⟩ => exact Nat.lt_one_iff.1 (Fin.isLt _)))
  show Scalar.select (IntOp.cmpi .slt (BitVec.ofNat 32 (blockOf n).val) (shapeCast S_ na shapeCasts_S1_S_ _)) (Host.dotGeneral _ none (units be x w1 w3) (taken2 be w2) _) (Ideal.ofBits .f32 0x00000000#32) = _
  rw [hna, hd, Ideal.ofBits_zero_f32]
  rfl

/-- The expert kernel and its reference, over the extended reals, end with the same result. -/
theorem algebraic : Cert.algebraic_Kernel3Ideal_Reference3Ideal (hPre_expert_ids := Cert.Moe.preFacts) := by
  intro m g m' g' hp hargs
  refine ⟨Cert.Moe.out m, ?_, ?_⟩
  · exact (θ_run _ _ _).mono (fun r h c => ⟨(h.1 c).1.trans (Cert.Moe.final m c _ (Cert.Moe.word_lt m hp)), (h.1 c).2⟩) (Cert.Moe.run_blocks m g (Cert.Moe.ok m hp))
  · refine (θ_run _ _ _).mono (fun r h c => ⟨(h c).1.trans ?_, (h c).2⟩) (Cert.Reference3Ideal.Value.run m' g')
    obtain ⟨h0, h1, h2, h3, h4, h5⟩ := hargs c
    unfold Cert.Reference3Ideal.Value.res_main_v63
    rw [h0, h1, h2, h3, h4, h5]
    funext i
    refine (congrArg _ (ValueIdx.eq_ix2 i)).trans ?_
    exact term_apply (Cert.Moe.argB m c) (Cert.Moe.argN m c) (Cert.Moe.argX m c) (Cert.Moe.argW1 m c) (Cert.Moe.argW3 m c) (Cert.Moe.argW2 m c)
      (fun i => Cert.Moe.ids_lt _ _ _ _ _ _ (hp c) i) (i 0) (i 1)

end Cert.MoeRef

end
-- ==== Proof.InProjOnes.lean ====
module

public import proofs.«01_k».proof.Kernel4Ideal
import Mathlib.Tactic.IntervalCases

@[expose] public section

set_option maxRecDepth 16384

noncomputable section

namespace Cert.InProj

open Cert.Kernel4Ideal

/-- A stretch of the table with its first head's ones. -/
theorem left (i : Nat) : lit0t0_0 i = if i % 128 < 64 then 0x3F80#16 else 0#16 := by
  have h : i % 128 < 128 := Nat.mod_lt _ (by decide)
  unfold lit0t0_0
  generalize i % 128 = r at h ⊢
  interval_cases r <;> rfl

/-- A stretch of the table with its second head's ones. -/
theorem right (i : Nat) : lit0t0_128 i = if i % 128 < 64 then 0#16 else 0x3F80#16 := by
  have h : i % 128 < 128 := Nat.mod_lt _ (by decide)
  unfold lit0t0_128
  generalize i % 128 = r at h ⊢
  interval_cases r <;> rfl

/-- A stretch of zeros. -/
theorem blank (i : Nat) : lit0t0_1 i = 0#16 := by
  have h : i % 128 < 128 := Nat.mod_lt _ (by decide)
  unfold lit0t0_1
  generalize i % 128 = r at h ⊢
  interval_cases r <;> rfl

/-- The stretch that the digits `d`, `e` name. -/
def stretch (d e i : Nat) : BitVec 16 :=
  if d / 2 ≠ e % 2 then 0#16 else if d % 2 = 0 then (if i % 128 < 64 then 0x3F80#16 else 0#16) else (if i % 128 < 64 then 0#16 else 0x3F80#16)

/-- The table's stretches. -/
theorem stretches (i : Nat) (h : i < 65536) : lit0t i = stretch (i / 16384) (i / 128 % 128) i := by
  have hd : i / 16384 < 4 := by omega
  have he : i / 128 % 128 < 128 := Nat.mod_lt _ (by decide)
  unfold lit0t
  generalize i / 16384 = d at hd ⊢
  interval_cases d
  · unfold lit0t1_0
    generalize i / 128 % 128 = r at he ⊢
    interval_cases r <;> first | exact left i | exact blank i
  · unfold lit0t1_1
    generalize i / 128 % 128 = r at he ⊢
    interval_cases r <;> first | exact right i | exact blank i
  · unfold lit0t1_2
    generalize i / 128 % 128 = r at he ⊢
    interval_cases r <;> first | exact left i | exact blank i
  · unfold lit0t1_3
    generalize i / 128 % 128 = r at he ⊢
    interval_cases r <;> first | exact right i | exact blank i

/-- The table's entry: one where the row and the column are of one head. -/
theorem table (a b : Nat) (ha : a < 256) (hb : b < 256) :
    lit0t (a * 256 + b) = if a / 64 = b / 64 then 0x3F80#16 else 0#16 := by
  have e1 : (a * 256 + b) / 16384 = a / 64 := by omega
  have e2 : (a * 256 + b) / 128 % 128 = a % 64 * 2 + b / 128 := by omega
  have e3 : (a * 256 + b) % 128 = b % 128 := by omega
  have e4 : (a % 64 * 2 + b / 128) % 2 = b / 128 := by omega
  have e5 : b / 128 = b / 64 / 2 := by omega
  have e6 : b % 128 < 64 ↔ b / 64 % 2 = 0 := by omega
  rw [stretches _ (by omega), stretch, e1, e2, e3, e4, e5]
  simp only [e6]
  generalize a / 64 = p
  generalize b / 64 = q
  split_ifs <;> first | rfl | omega

end Cert.InProj

end
-- ==== Proof.InProj.lean ====
module

public import proofs.«01_k».proof.Defs
public import proofs.«01_k».proof.Proof.Gen.Kernel4Ideal.Value
public import proofs.«01_k».proof.Proof.InProjOnes
public import Idealize.ShloMosaic.Lib.Pipeline.ValueKit
public import Idealize.ShloMosaic.Lib.ValueIdx
public import Idealize.ShloMosaic.Lib.MatmulPlain
public import Idealize.ShloMosaic.Lib.IdealHost
public import Idealize.ShloMosaic.Lib.Pointwise
public import Idealize.ShloMosaic.Lib.Claim

@[expose] public section

set_option maxRecDepth 16384

noncomputable section

namespace Cert.InProj

open Cert.Kernel4Ideal Cert.Kernel4Ideal.Gen
open Idealize.ShloMosaic Idealize.ShloMosaic.TcCoe Idealize.SL.Sem
open scoped BigOperators

/-- One entry of a modulated root-mean-square norm of a row of 1024. -/
def hrow (x g sh sc : Fin 1024 → EReal) (k : Fin 1024) : EReal :=
  x k * Ideal.rsqrt (Ideal.div (∑ j, x j * x j) (Ideal.ofBits .f32 0x44800000#32) + Ideal.ofBits .f32 0x358637BD#32) * g k
    * (1 + sc k) + sh k

/-- One entry of a root-mean-square norm taken over each head's 64 columns of a row of 256. -/
def headNorm (y : Fin 256 → EReal) (q : Fin 64 → EReal) (e : Fin 256) : EReal :=
  y e * Ideal.rsqrt (Ideal.div (∑ i : Fin 64, y ⟨64 * (e.val / 64) + i.val, by omega⟩ * y ⟨64 * (e.val / 64) + i.val, by omega⟩) (Ideal.ofBits .f32 0x42800000#32)
      + Ideal.ofBits .f32 0x358637BD#32) * q ⟨e.val % 64, by omega⟩

/-- The word of a sixty-fourth. -/
theorem bits_64th : Ideal.ofBits .f32 0x3C800000#32 = ((1 / 64 : ℝ) : EReal) := by
  simp [Ideal.ofBits, Ideal.ieee]; rw [← EReal.coe_mul]; norm_num

/-- The word of sixty-four. -/
theorem bits_64 : Ideal.ofBits .f32 0x42800000#32 = ((64 : ℝ) : EReal) := by
  simp [Ideal.ofBits, Ideal.ieee]; rw [← EReal.coe_mul]; norm_num

/-- A product by a sixty-fourth is a division by sixty-four. -/
theorem mul_64th (x : EReal) : x * Ideal.ofBits .f32 0x3C800000#32 = Ideal.div x (Ideal.ofBits .f32 0x42800000#32) := by
  rw [bits_64th, bits_64]
  rw [Ideal.div, if_neg (by exact_mod_cast (by norm_num : (64 : ℝ) ≠ 0)), ← EReal.coe_inv]
  norm_num

/-- A row against the table of ones is the sum over the column's own head. -/
theorem sum_ones (f : Fin 256 → EReal) (e : Fin 256) :
    ∑ j, f j * (if j.val / 64 = e.val / 64 then (1 : EReal) else 0) = ∑ i : Fin 64, f ⟨64 * (e.val / 64) + i.val, by omega⟩ := by
  have hs : ∀ j, f j * (if j.val / 64 = e.val / 64 then (1 : EReal) else 0) = if j.val / 64 = e.val / 64 then f j else 0 := fun j => by
    split_ifs <;> simp
  rw [Finset.sum_congr rfl fun j _ => hs j, ← Finset.sum_filter]
  refine (Finset.sum_bij (fun (i : Fin 64) _ => (⟨64 * (e.val / 64) + i.val, by omega⟩ : Fin 256)) ?_ ?_ ?_ ?_).symm
  · intro i _
    refine Finset.mem_filter.mpr ⟨Finset.mem_univ _, ?_⟩
    show (64 * (e.val / 64) + i.val) / 64 = _
    omega
  · intro i _ j _ h
    have := congrArg Fin.val h
    apply Fin.ext
    show i.val = j.val
    have h' : 64 * (e.val / 64) + i.val = 64 * (e.val / 64) + j.val := this
    omega
  · intro j hj
    have := (Finset.mem_filter.mp hj).2
    exact ⟨⟨j.val - 64 * (e.val / 64), by omega⟩, Finset.mem_univ _, Fin.ext (by show 64 * (e.val / 64) + (j.val - 64 * (e.val / 64)) = j.val; omega)⟩
  · intro i _; rfl

/-- The table of ones as the launch reads it. -/
theorem ones_apply (a b : Fin 256) : (fun i => FloatOps.ofBits (F := Ideal) .bf16 (lit0t (S256x256.rowMajor i).val) : FVec Ideal S256x256 .bf16) (ValueIdx.ix2 a b)
    = if a.val / 64 = b.val / 64 then (1 : EReal) else 0 := by
  show Ideal.ofBits .bf16 (lit0t (S256x256.rowMajor (ValueIdx.ix2 a b)).val) = _
  rw [Shape.rowMajor_val_two]
  show Ideal.ofBits .bf16 (lit0t (a.val * 256 + b.val)) = _
  rw [table _ _ a.isLt b.isLt]
  split_ifs
  · exact Ideal.ofBits_one_bf16
  · exact Ideal.ofBits_zero_bf16

/-- A strip's product at row `r`, column `e`. -/
theorem dot {M K N : Nat} (h : FVec Ideal ⟨2, ![M, K]⟩ .bf16) (w : FVec Ideal ⟨2, ![K, N]⟩ .bf16) (r : Fin M) (e : Fin N) :
    matmul (F := Ideal) (DotDims.plain M K N) none h w (constant ⟨2, ![M, N]⟩ .f32 0x00000000#32) (ValueIdx.ix2 r e) = ∑ k, h (ValueIdx.ix2 r k) * w (ValueIdx.ix2 k e) := by
  refine (Ideal.matmul_plain_apply none h w _ r e).trans ?_
  show Ideal.ofBits .f32 0x00000000#32 + _ = _
  rw [Ideal.ofBits_zero_f32, zero_add]

/-- A strip's modulated norm at row `r`, column `k`. -/
theorem h_apply (md : FVec Ideal S1x6144 .f32) (x : FVec Ideal S128x1024 .f32) (g : FVec Ideal S1x1024 .f32) (r : Fin 128) (k : Fin 1024) :
    k0_pay16 (F := Ideal) (k0_pay3 md) (k0_pay4 md) x g (ValueIdx.ix2 r k)
      = hrow (fun k => x (ValueIdx.ix2 r k)) (fun k => g (ValueIdx.ix2 0 k)) (fun k => md (ValueIdx.ix2 0 ⟨k.val, by omega⟩)) (fun k => md (ValueIdx.ix2 0 ⟨1024 + k.val, by omega⟩)) k := by
  unfold k0_pay16 k0_pay3 k0_pay4 k0_pay2 hrow
  simp only [shapeCast_self]
  pointwise
  rfl

/-- The strip's column products normalised per head, at row `r`, column `e`. -/
theorem norm_apply (h : FVec Ideal S128x1024 .bf16) (w : FVec Ideal S1024x256 .bf16) (q : FVec Ideal S1x256 .f32) (qn : Fin 64 → EReal)
    (hq : ∀ e : Fin 256, q (ValueIdx.ix2 0 e) = qn ⟨e.val % 64, by omega⟩) (ones : FVec Ideal S256x256 .bf16)
    (ho : ∀ a b : Fin 256, ones (ValueIdx.ix2 a b) = if a.val / 64 = b.val / 64 then 1 else 0) (r : Fin 128) (e : Fin 256) :
    k0_pay20 (F := Ideal) ones h w q (ValueIdx.ix2 r e) = headNorm (fun e => ∑ k, h (ValueIdx.ix2 r k) * w (ValueIdx.ix2 k e)) qn e := by
  unfold k0_pay20 headNorm
  simp only [shapeCast_self]
  rw [← hq]
  set y := matmul (F := Ideal) dot_S128x1024_S1024x256_S128x256_1_0_0_1_n_n none h w (constant S128x256 .f32 0x00000000#32)
  have hy (e) : y (ValueIdx.ix2 r e) = ∑ k, h (ValueIdx.ix2 r k) * w (ValueIdx.ix2 k e) := dot h w r e
  show y (ValueIdx.ix2 r e) * Ideal.rsqrt (matmul (F := Ideal) (DotDims.plain 128 256 256) none (mulf y y) ones (constant S128x256 .f32 0x00000000#32) (ValueIdx.ix2 r e)
      * Ideal.ofBits .f32 0x3C800000#32 + Ideal.ofBits .f32 0x358637BD#32) * broadcastTo S128x256 q broadcasts_S1x256_S128x256 (ValueIdx.ix2 r e) = _
  rw [mul_64th]
  refine congrArg₂ (· * ·) (congrArg₂ (· * ·) (hy e) (congrArg Ideal.rsqrt (congrArg (· + _) (congrArg (Ideal.div · _) ?_)))) ?_
  · refine (dot (M := 128) (K := 256) (N := 256) (mulf y y) ones r e).trans ?_
    simp only [ho]
    refine (sum_ones (fun j => y (ValueIdx.ix2 r j) * y (ValueIdx.ix2 r j)) e).trans ?_
    simp only [hy]
  · pointwise
    rfl

/-- A whole block's modulated norm at row `r`, column `k`. -/
def blkH (md : FVec Ideal S1x6144 .f32) (X : FVec Ideal S512x1024 .f32) (g : FVec Ideal S1x1024 .f32) (r : Fin 512) (k : Fin 1024) : EReal :=
  hrow (fun k => X (ValueIdx.ix2 r k)) (fun k => g (ValueIdx.ix2 0 k)) (fun k => md (ValueIdx.ix2 0 ⟨k.val, by omega⟩)) (fun k => md (ValueIdx.ix2 0 ⟨1024 + k.val, by omega⟩)) k

/-- The modulated norm of the strip of a block's rows that starts at row `o`. -/
abbrev stripH (md : FVec Ideal S1x6144 .f32) (X : FVec Ideal S512x1024 .f32) (g : FVec Ideal S1x1024 .f32) (o : Nat) (ib : ∀ a, (![o, 0] : Fin 2 → Nat) a + (![128, 1024] : Fin 2 → Nat) a ≤ S512x1024.size a) : FVec Ideal S128x1024 .bf16 :=
  k0_pay16 (F := Ideal) (k0_pay3 md) (k0_pay4 md) (View.ld (Val := Elt Ideal) (e' := .f32) X (Rect.unit (s := S512x1024) ![o, 0] ![128, 1024] ib)) g

/-- It is the block's own where the strip lies. -/
theorem strip_apply (md : FVec Ideal S1x6144 .f32) (X : FVec Ideal S512x1024 .f32) (g : FVec Ideal S1x1024 .f32) (o : Nat) (ib : ∀ a, (![o, 0] : Fin 2 → Nat) a + (![128, 1024] : Fin 2 → Nat) a ≤ S512x1024.size a) (r : Fin 128) (k : Fin 1024)
    (R : Fin 512) (hR : R.val = o + r.val) : stripH md X g o ib (ValueIdx.ix2 r k) = blkH md X g R k := by
  refine (h_apply md _ g r k).trans ?_
  have e (j : Fin 1024) : View.ld (Val := Elt Ideal) (e' := .f32) X (Rect.unit (s := S512x1024) ![o, 0] ![128, 1024] ib) (ValueIdx.ix2 r j) = X (ValueIdx.ix2 R j) :=
    View.ld_unit_apply_of _ _ _ _ _ _ fun a => by
      match a with | ⟨0, _⟩ => exact hR | ⟨1, _⟩ => exact (Nat.zero_add _).symm
  unfold blkH
  simp only [e]

/-- A strip of a product's rows. -/
theorem tile_dot {N : Nat} (md : FVec Ideal S1x6144 .f32) (X : FVec Ideal S512x1024 .f32) (g : FVec Ideal S1x1024 .f32) (o : Nat) (ib : ∀ a, (![o, 0] : Fin 2 → Nat) a + (![128, 1024] : Fin 2 → Nat) a ≤ S512x1024.size a)
    (w : FVec Ideal ⟨2, ![1024, N]⟩ .bf16) (y : (⟨2, ![512, N]⟩ : Shape).Idx) :
    View.TileAt (Val := Elt Ideal) (e := .bf16) y ![o, 0] ![128, N]
      (matmul (F := Ideal) (DotDims.plain 128 1024 N) none (stripH md X g o ib) w (constant ⟨2, ![128, N]⟩ .f32 0x00000000#32))
      (∑ k, blkH md X g (y 0) k * w (ValueIdx.ix2 k (y 1))) := by
  intro x hx
  have h0 : (y 0).val = o + (x 0).val := hx 0
  have h1 : (y 1).val = 0 + (x 1).val := hx 1
  have e1 : x 1 = y 1 := Fin.ext (by rw [h1, Nat.zero_add])
  refine (congrArg _ (ValueIdx.eq_ix2 x)).trans ((dot _ w (x 0) (x 1)).trans ?_)
  refine Finset.sum_congr rfl fun k _ => congrArg₂ (· * ·) (strip_apply md X g o ib (x 0) k (y 0) h0) ?_
  rw [e1]

/-- A strip of a transposed product's columns. -/
theorem tile_dotT (md : FVec Ideal S1x6144 .f32) (X : FVec Ideal S512x1024 .f32) (g : FVec Ideal S1x1024 .f32) (o : Nat) (ib)
    (w : FVec Ideal S16x1024 .bf16) (y : S16x512.Idx) :
    View.TileAt (Val := Elt Ideal) (S := S16x512) (e := .f32) y ![0, o] ![16, 128]
      (matmul (F := Ideal) dot_S16x1024_S128x1024_S16x128_1_1_0_0_n_n none w (stripH md X g o ib) (constant S16x128 .f32 0x00000000#32))
      (∑ k, blkH md X g (y 1) k * w (ValueIdx.ix2 (y 0) k)) := by
  intro x hx
  have h0 : (y 0).val = 0 + (x 0).val := hx 0
  have h1 : (y 1).val = o + (x 1).val := hx 1
  have e0 : x 0 = y 0 := Fin.ext (by rw [h0, Nat.zero_add])
  refine (congrArg _ (ValueIdx.eq_ix2 x)).trans ((Ideal.matmul_transposedRhs_apply (M := 16) (K := 1024) (N := 128) none w _ _ (x 0) (x 1)).trans ?_)
  show Ideal.ofBits .f32 0x00000000#32 + _ = _
  rw [Ideal.ofBits_zero_f32, zero_add, e0]
  exact Finset.sum_congr rfl fun k _ => (congrArg (_ * ·) (strip_apply md X g o ib (x 1) k (y 1) h1)).trans (mul_comm _ _)

/-- A strip of the normalised columns' rows. -/
theorem tile_norm (md : FVec Ideal S1x6144 .f32) (X : FVec Ideal S512x1024 .f32) (g : FVec Ideal S1x1024 .f32) (o : Nat) (ib)
    (w : FVec Ideal S1024x256 .bf16) (q : FVec Ideal S1x256 .f32) (qn : Fin 64 → EReal)
    (hq : ∀ e : Fin 256, q (ValueIdx.ix2 0 e) = qn ⟨e.val % 64, by omega⟩) (ones : FVec Ideal S256x256 .bf16)
    (ho : ∀ a b : Fin 256, ones (ValueIdx.ix2 a b) = if a.val / 64 = b.val / 64 then 1 else 0) (y : S512x256.Idx) :
    View.TileAt (Val := Elt Ideal) (S := S512x256) (e := .bf16) y ![o, 0] ![128, 256] (k0_pay20 (F := Ideal) ones (stripH md X g o ib) w q)
      (headNorm (fun e => ∑ k, blkH md X g (y 0) k * w (ValueIdx.ix2 k e)) qn (y 1)) := by
  intro x hx
  have h0 : (y 0).val = o + (x 0).val := hx 0
  have h1 : (y 1).val = 0 + (x 1).val := hx 1
  have e1 : x 1 = y 1 := Fin.ext (by rw [h1, Nat.zero_add])
  refine (congrArg _ (ValueIdx.eq_ix2 x)).trans ((norm_apply _ w q qn hq ones ho (x 0) (x 1)).trans ?_)
  rw [e1]
  refine congrArg (headNorm · qn (y 1)) (funext fun e => Finset.sum_congr rfl fun k _ => congrArg (· * _) (strip_apply md X g o ib (x 0) k (y 0) h0))

variable (m : (ℓ : Loc nD τ sig) → Buf (Elt Ideal) ℓ) (c : Dev nD)

/-- The argument arrays as the program is launched. -/
abbrev argX : FVec Ideal S32768x1024 .f32 := m ((c : Thread nD τ).loc main_arg0)
abbrev argMod : FVec Ideal S2x6144 .f32 := m ((c : Thread nD τ).loc main_arg1)
abbrev argG : FVec Ideal S1024 .f32 := m ((c : Thread nD τ).loc main_arg2)
abbrev argW : FVec Ideal S1024x3088 .f32 := m ((c : Thread nD τ).loc main_arg3)
abbrev argQ : FVec Ideal S64 .f32 := m ((c : Thread nD τ).loc main_arg4)
abbrev argK : FVec Ideal S64 .f32 := m ((c : Thread nD τ).loc main_arg5)

/-- The modulated norm of row `n` at column `k`. -/
def H (n : Fin 32768) (k : Fin 1024) : EReal :=
  hrow (fun k => argX m c (ValueIdx.ix2 n k)) (fun k => argG m c (ValueIdx.ix1 k)) (fun k => argMod m c (ValueIdx.ix2 ⟨n.val / 16384, by omega⟩ ⟨k.val, by omega⟩))
    (fun k => argMod m c (ValueIdx.ix2 ⟨n.val / 16384, by omega⟩ ⟨1024 + k.val, by omega⟩)) k

/-- The input projection of row `n` at column `j`. -/
def Y (n : Fin 32768) (j : Fin 3088) : EReal := ∑ k, H m c n k * argW m c (ValueIdx.ix2 k j)

/-- The eight results. -/
def outQkv : FVec Ideal S32768x1536 .bf16 := fun i => Y m c (i 0) ⟨(i 1).val, (i 1).isLt.trans_le (by decide)⟩
def outZ : FVec Ideal S32768x512 .bf16 := fun i => Y m c (i 0) ⟨1536 + (i 1).val, (Nat.add_lt_add_left (i 1).isLt 1536).trans_le (by decide)⟩
def outAb : FVec Ideal S32768x16 .f32 := fun i => Y m c (i 0) ⟨2048 + (i 1).val, (Nat.add_lt_add_left (i 1).isLt 2048).trans_le (by decide)⟩
def outAbT : FVec Ideal S16x32768 .f32 := fun i => Y m c (i 1) ⟨2048 + (i 0).val, (Nat.add_lt_add_left (i 0).isLt 2048).trans_le (by decide)⟩
def outNq : FVec Ideal S32768x256 .bf16 := fun i => headNorm (fun e => Y m c (i 0) ⟨2064 + e.val, by omega⟩) (fun d => argQ m c (ValueIdx.ix1 d)) (i 1) * Ideal.ofBits .f32 0x3E000000#32
def outNk : FVec Ideal S32768x256 .bf16 := fun i => headNorm (fun e => Y m c (i 0) ⟨2320 + e.val, by omega⟩) (fun d => argK m c (ValueIdx.ix1 d)) (i 1)
def outNv : FVec Ideal S32768x256 .bf16 := fun i => Y m c (i 0) ⟨2576 + (i 1).val, (Nat.add_lt_add_left (i 1).isLt 2576).trans_le (by decide)⟩
def outFt : FVec Ideal S32768x256 .bf16 := fun i => Y m c (i 0) ⟨2832 + (i 1).val, (Nat.add_lt_add_left (i 1).isLt 2832).trans_le (by decide)⟩

/-- Where the windows stand at point `t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![0, t.val]
    ∧ win0_13.index t = ![t.val, 0] ∧ win0_14.index t = ![t.val, 0] ∧ win0_15.index t = ![t.val, 0] ∧ win0_16.index t = ![t.val, 0]
    ∧ k0_off1 (grid0.coords t) = ![t.val / 32, 0] :=
  (by decide +kernel : ∀ t : Fin grid0.N, _)

/-- The modulation the launch reads has six rows of zeros below the argument's two. -/
theorem V_mod (r : Fin 8) (hr : r.val < 2) (j : Fin 6144) : (V m c main_v1 : FVec Ideal S8x6144 .f32) (ValueIdx.ix2 r j) = argMod m c (ValueIdx.ix2 ⟨r.val, hr⟩ j) := by
  show StableHlo.after hostOps0 (fun b => m (c, b)) main_v1 _ = _
  unfold hostOps0; after_results
  exact concatenate_pair_apply_left (t := S8x6144) (s₁ := S2x6144) (s₂ := S6x6144) 0 _ _ _ _ rfl (ValueIdx.ix2 (n0 := 2) (n1 := 6144) ⟨r.val, hr⟩ j)
    fun b => by match b with | ⟨0, _⟩ => rfl | ⟨1, _⟩ => rfl

/-- The main weight as the launch reads it. -/
theorem V_main : V m c main_v5 = (concatenate S1024x3072 1 [⟨S1024x2048, extractStridedSlice S1024x2048 ![0, 0] (argW m c) slices_S1024x3088_S1024x2048_0_0⟩,
    ⟨S1024x1024, extractStridedSlice S1024x1024 ![0, 2064] (argW m c) slices_S1024x3088_S1024x1024_0_2064⟩] concatenates_S1024x2048_S1024x1024_S1024x3072_d1 : FVec Ideal S1024x3072 .f32) := by
  show StableHlo.after hostOps0 (fun b => m (c, b)) main_v5 = _
  unfold hostOps0; after_results; rfl

/-- The main weight has the projection's first 2048 columns, -/
theorem V_main_left (k : Fin 1024) (e : Fin 3072) (he : e.val < 2048) : (V m c main_v5 : FVec Ideal S1024x3072 .bf16) (ValueIdx.ix2 k e) = argW m c (ValueIdx.ix2 k ⟨e.val, by omega⟩) := by
  rw [V_main]
  refine (concatenate_pair_apply_left (t := S1024x3072) (s₁ := S1024x2048) (s₂ := S1024x1024) 1 _ _ _ _ rfl (ValueIdx.ix2 (n0 := 1024) (n1 := 2048) k ⟨e.val, he⟩)
    fun b => by match b with | ⟨0, _⟩ => rfl | ⟨1, _⟩ => rfl).trans ?_
  refine congrArg (argW m c) ?_
  funext a; apply Fin.ext; match a with | ⟨0, _⟩ => exact Nat.zero_add _ | ⟨1, _⟩ => exact Nat.zero_add _

/-- then those from 2064 on. -/
theorem V_main_right (k : Fin 1024) (e : Fin 3072) (he : 2048 ≤ e.val) : (V m c main_v5 : FVec Ideal S1024x3072 .bf16) (ValueIdx.ix2 k e) = argW m c (ValueIdx.ix2 k ⟨e.val + 16, by omega⟩) := by
  rw [V_main]
  refine (concatenate_pair_apply_right (t := S1024x3072) (s₁ := S1024x2048) (s₂ := S1024x1024) 1 _ _ _ _ rfl rfl (ValueIdx.ix2 (n0 := 1024) (n1 := 1024) k ⟨e.val - 2048, by omega⟩)
    (fun b hb => by match b, hb with | ⟨0, _⟩, _ => rfl | ⟨1, _⟩, hb => exact absurd rfl hb) (by show e.val - 2048 + 2048 = e.val; omega)).trans ?_
  refine congrArg (argW m c) ?_
  funext a; apply Fin.ext; match a with | ⟨0, _⟩ => exact Nat.zero_add _ | ⟨1, _⟩ => (show 2064 + (e.val - 2048) = e.val + 16; omega)

/-- The narrow weight has the columns between. -/
theorem V_ab (k : Fin 1024) (e : Fin 16) : (V m c main_v7 : FVec Ideal S1024x16 .bf16) (ValueIdx.ix2 k e) = argW m c (ValueIdx.ix2 k ⟨2048 + e.val, by omega⟩) := by
  show StableHlo.after hostOps0 (fun b => m (c, b)) main_v7 _ = _
  unfold hostOps0; after_results
  refine congrArg (argW m c) ?_
  funext a; apply Fin.ext; match a with | ⟨0, _⟩ => exact Nat.zero_add _ | ⟨1, _⟩ => rfl

/-- Its transpose. -/
theorem V_abT (k : Fin 1024) (e : Fin 16) : (V m c main_v8 : FVec Ideal S16x1024 .bf16) (ValueIdx.ix2 e k) = argW m c (ValueIdx.ix2 k ⟨2048 + e.val, by omega⟩) := by
  show StableHlo.after hostOps0 (fun b => m (c, b)) main_v8 _ = _
  unfold hostOps0; after_results
  refine congrArg (argW m c) ?_
  funext a; apply Fin.ext; match a with | ⟨0, _⟩ => exact Nat.zero_add _ | ⟨1, _⟩ => rfl

/-- The norm's weight as a row. -/
theorem V_g (k : Fin 1024) : (V m c main_v9 : FVec Ideal S1x1024 .f32) (ValueIdx.ix2 0 k) = argG m c (ValueIdx.ix1 k) := by
  show StableHlo.after hostOps0 (fun b => m (c, b)) main_v9 _ = _
  unfold hostOps0; after_results
  show shapeCast S1x1024 (argG m c) shapeCasts_S1024_S1x1024 (ValueIdx.ix2 0 k) = _
  pointwise
  rfl

/-- A head's weight, four times over in a row. -/
theorem tile4 (q : FVec Ideal S64 .f32) (e : Fin 256) : shapeCast S1x256 (shapeCast S256 (broadcastInDim S4x64 ![0, 1] bcast_S1x64_S4x64_0_1 (shapeCast S1x64 q shapeCasts_S64_S1x64))
    shapeCasts_S4x64_S256) shapeCasts_S256_S1x256 (ValueIdx.ix2 0 e) = q (ValueIdx.ix1 ⟨e.val % 64, by omega⟩) := by
  pointwise
  rfl

/-- The query norm's weight. -/
theorem V_q (e : Fin 256) : (V m c main_v13 : FVec Ideal S1x256 .f32) (ValueIdx.ix2 0 e) = argQ m c (ValueIdx.ix1 ⟨e.val % 64, by omega⟩) := by
  show StableHlo.after hostOps0 (fun b => m (c, b)) main_v13 _ = _
  unfold hostOps0; after_results
  exact tile4 (argQ m c) e

/-- The key norm's weight. -/
theorem V_k (e : Fin 256) : (V m c main_v17 : FVec Ideal S1x256 .f32) (ValueIdx.ix2 0 e) = argK m c (ValueIdx.ix1 ⟨e.val % 64, by omega⟩) := by
  show StableHlo.after hostOps0 (fun b => m (c, b)) main_v17 _ = _
  unfold hostOps0; after_results
  exact tile4 (argK m c) e

/-- The table of ones. -/
theorem V_ones (a b : Fin 256) : (V m c main_cst : FVec Ideal S256x256 .bf16) (ValueIdx.ix2 a b) = if a.val / 64 = b.val / 64 then (1 : EReal) else (0 : EReal) := by
  show StableHlo.after hostOps0 (fun b => m (c, b)) main_cst _ = _
  unfold hostOps0; after_results
  exact ones_apply a b

/-- Point `t` reads the rows from `512 t` on. -/
theorem blk_x (t : Fin cfg0.N) (r : Fin 512) (k : Fin 1024) (n : Fin 32768) (hn : n.val = t.val * 512 + r.val) :
    (iblk m c 0 t : FVec Ideal S512x1024 .f32) (ValueIdx.ix2 r k) = argX m c (ValueIdx.ix2 n k) := by
  unfold iblk
  show ((cfg0.win 0).blk t).view.read (Elt Ideal) (V m c main_arg0) _ = _
  rw [V_main_arg0]
  blk_ext! [idx t]
  exact hn.symm

/-- Every point reads the whole of the norm's weight. -/
theorem blk_g (t : Fin cfg0.N) : (iblk m c 2 t : FVec Ideal S1x1024 .f32) = V m c main_v9 := by
  unfold iblk
  show ((cfg0.win 2).blk t).view.read (Elt Ideal) (V m c main_v9) = _
  blk_ext! [idx t]

/-- Every point reads the whole of the main weight. -/
theorem blk_main (t : Fin cfg0.N) : (iblk m c 3 t : FVec Ideal S1024x3072 .bf16) = V m c main_v5 := by
  unfold iblk
  show ((cfg0.win 3).blk t).view.read (Elt Ideal) (V m c main_v5) = _
  blk_ext! [idx t]

/-- Every point reads the whole of the narrow weight. -/
theorem blk_ab (t : Fin cfg0.N) : (iblk m c 4 t : FVec Ideal S1024x16 .bf16) = V m c main_v7 := by
  unfold iblk
  show ((cfg0.win 4).blk t).view.read (Elt Ideal) (V m c main_v7) = _
  blk_ext! [idx t]

/-- Every point reads the whole of its transpose. -/
theorem blk_abT (t : Fin cfg0.N) : (iblk m c 5 t : FVec Ideal S16x1024 .bf16) = V m c main_v8 := by
  unfold iblk
  show ((cfg0.win 5).blk t).view.read (Elt Ideal) (V m c main_v8) = _
  blk_ext! [idx t]

/-- Every point reads the query norm's weight. -/
theorem blk_q (t : Fin cfg0.N) : (iblk m c 6 t : FVec Ideal S1x256 .f32) = V m c main_v13 := by
  unfold iblk
  show ((cfg0.win 6).blk t).view.read (Elt Ideal) (V m c main_v13) = _
  blk_ext! [idx t]

/-- Every point reads the key norm's weight. -/
theorem blk_k (t : Fin cfg0.N) : (iblk m c 7 t : FVec Ideal S1x256 .f32) = V m c main_v17 := by
  unfold iblk
  show ((cfg0.win 7).blk t).view.read (Elt Ideal) (V m c main_v17) = _
  blk_ext! [idx t]

/-- Every point reads the whole table of ones. -/
theorem blk_ones (t : Fin cfg0.N) : (iblk m c 8 t : FVec Ideal S256x256 .bf16) = V m c main_cst := by
  unfold iblk
  show ((cfg0.win 8).blk t).view.read (Elt Ideal) (V m c main_cst) = _
  blk_ext! [idx t]

/-- The modulation row that point `t` reads. -/
abbrev modRow (t : Fin cfg0.N) : FVec Ideal S1x6144 .f32 :=
  View.ld (Val := Elt Ideal) (e' := .f32) (iblk m c 1 t : FVec Ideal S8x6144 .f32) (Rect.unit (s := S8x6144) (k0_off1 (grid0.coords t)) ![1, 6144] (k0_off1_inb _))

/-- It is that of its own batch. -/
theorem blk_mod (t : Fin cfg0.N) (j : Fin 6144) (b : Fin 2) (hb : b.val = t.val / 32) : modRow m c t (ValueIdx.ix2 0 j) = argMod m c (ValueIdx.ix2 b j) := by
  have e : (iblk m c 1 t : FVec Ideal S8x6144 .f32) = V m c main_v1 := by
    unfold iblk
    show ((cfg0.win 1).blk t).view.read (Elt Ideal) (V m c main_v1) = _
    blk_ext! [idx t]
  have o := (idx t).2.2.2.2.2.2.2.2.2.2.2.2.2.2.2.2.2
  unfold modRow
  rw [e]
  refine (View.ld_unit_apply_of _ _ _ _ _ (ValueIdx.ix2 (n0 := 8) (n1 := 6144) ⟨b.val, by omega⟩ j) fun a => ?_).trans (V_mod m c _ b.isLt j)
  match a with
  | ⟨0, _⟩ => exact hb.trans (congrFun o 0).symm
  | ⟨1, _⟩ => exact (Nat.zero_add _).symm.trans (congrArg (· + j.val) (congrFun o 1).symm)

/-- So point `t`'s modulated norm is the array's. -/
theorem blkH_eq (t : Fin cfg0.N) (r : Fin 512) (n : Fin 32768) (hn : n.val = t.val * 512 + r.val) (k : Fin 1024) :
    blkH (modRow m c t) (iblk m c 0 t : FVec Ideal S512x1024 .f32) (iblk m c 2 t : FVec Ideal S1x1024 .f32) r k = H m c n k := by
  have hb : n.val / 16384 = t.val / 32 := by omega
  unfold blkH H
  rw [blk_g]
  simp only [blk_x m c t r _ n hn, blk_mod m c t _ ⟨n.val / 16384, by omega⟩ hb]
  exact congrArg (hrow _ · _ _ k) (funext fun k => V_g m c k)

/-- Columns of the main weight from `o` on, where they are the projection's from `o'` on. -/
theorem ld_main {N : Nat} (t : Fin cfg0.N) (o o' : Nat) (ib) (k : Fin 1024) (e : Fin N) (he : o' + e.val < 3088)
    (h : o + e.val < 2048 ∧ o' = o ∨ 2048 ≤ o ∧ o' = o + 16) :
    View.ld (Val := Elt Ideal) (e' := .bf16) (iblk m c 3 t : FVec Ideal S1024x3072 .bf16) (Rect.unit (s := S1024x3072) ![0, o] ![1024, N] ib) (ValueIdx.ix2 k e)
      = argW m c (ValueIdx.ix2 k ⟨o' + e.val, he⟩) := by
  rw [blk_main]
  refine (View.ld_unit_apply_of _ _ _ _ _ (ValueIdx.ix2 (n0 := 1024) (n1 := 3072) k ⟨o + e.val, by omega⟩) fun a => ?_).trans ?_
  · match a with | ⟨0, _⟩ => exact (Nat.zero_add _).symm | ⟨1, _⟩ => rfl
  · rcases h with ⟨h1, h2⟩ | ⟨h1, h2⟩
    · exact (V_main_left m c k _ h1).trans (congrArg (argW m c) (congrArg (ValueIdx.ix2 k) (Fin.ext (by show o + e.val = o' + e.val; omega))))
    · exact (V_main_right m c k _ (h1.trans (Nat.le_add_right _ _))).trans (congrArg (argW m c) (congrArg (ValueIdx.ix2 k) (Fin.ext (by show o + e.val + 16 = o' + e.val; omega))))

/-- Four strips of rows read back: where each has the value `v`, so has the whole. -/
theorem rows4 {N : Nat} {f : EltTy} (ib3 ib2 ib1 ib0) (P3 P2 P1 P0 : (⟨2, ![128, N]⟩ : Shape).Idx → Elt Ideal f) (y : (⟨2, ![512, N]⟩ : Shape).Idx) (v : Elt Ideal f)
    (h3 : View.TileAt (S := ⟨2, ![512, N]⟩) (Val := Elt Ideal) (e := f) y ![384, 0] ![128, N] P3 v) (h2 : View.TileAt (S := ⟨2, ![512, N]⟩) (Val := Elt Ideal) (e := f) y ![256, 0] ![128, N] P2 v)
    (h1 : View.TileAt (S := ⟨2, ![512, N]⟩) (Val := Elt Ideal) (e := f) y ![128, 0] ![128, N] P1 v) (h0 : View.TileAt (S := ⟨2, ![512, N]⟩) (Val := Elt Ideal) (e := f) y ![0, 0] ![128, N] P0 v) :
    View.canon (Val := Elt Ideal) (e := f) [⟨Rect.unit (s := ⟨2, ![512, N]⟩) ![384, 0] ![128, N] ib3, P3⟩, ⟨Rect.unit (s := ⟨2, ![512, N]⟩) ![256, 0] ![128, N] ib2, P2⟩,
      ⟨Rect.unit (s := ⟨2, ![512, N]⟩) ![128, 0] ![128, N] ib1, P1⟩, ⟨Rect.unit (s := ⟨2, ![512, N]⟩) ![0, 0] ![128, N] ib0, P0⟩] y = v := by
  refine View.canon_eq_of_allAt _ y v ?_ (View.allAt_cons_unit _ _ _ _ _ h3 (View.allAt_cons_unit _ _ _ _ _ h2 (View.allAt_cons_unit _ _ _ _ _ h1 (View.allAt_cons_unit _ _ _ _ _ h0 (View.allAt_nil _ _)))))
  have hy : (y 0).val < 512 := (y 0).isLt
  have hz : (y 1).val < N := (y 1).isLt
  have mem (o : Nat) (ib) (ho : o ≤ (y 0).val ∧ (y 0).val < o + 128) : y ∈ (Rect.unit (s := ⟨2, ![512, N]⟩) ![o, 0] ![128, N] ib).set :=
    Rect.mem_set_unit.mpr fun a => by
      match a with | ⟨0, _⟩ => exact ho | ⟨1, _⟩ => exact ⟨Nat.zero_le _, hz.trans_eq (Nat.zero_add _).symm⟩
  rcases lt_or_ge (y 0).val 128 with l0 | g0
  · exact ⟨_, .tail _ (.tail _ (.tail _ (.head _))), mem 0 ib0 (by omega)⟩
  rcases lt_or_ge (y 0).val 256 with l1 | g1
  · exact ⟨_, .tail _ (.tail _ (.head _)), mem 128 ib1 (by omega)⟩
  rcases lt_or_ge (y 0).val 384 with l2 | g2
  · exact ⟨_, .tail _ (.head _), mem 256 ib2 (by omega)⟩
  · exact ⟨_, .head _, mem 384 ib3 (by omega)⟩

/-- Columns of the main weight against a block's rows. -/
theorem dot_main {N : Nat} (t : Fin cfg0.N) (o o' : Nat) (ib) (r : Fin 512) (n : Fin 32768) (hn : n.val = t.val * 512 + r.val) (e : Fin N) (he : o' + e.val < 3088)
    (h : o + e.val < 2048 ∧ o' = o ∨ 2048 ≤ o ∧ o' = o + 16) :
    ∑ k, blkH (modRow m c t) (iblk m c 0 t) (iblk m c 2 t) r k * View.ld (Val := Elt Ideal) (e' := .bf16) (iblk m c 3 t : FVec Ideal S1024x3072 .bf16)
      (Rect.unit (s := S1024x3072) ![0, o] ![1024, N] ib) (ValueIdx.ix2 k e) = Y m c n ⟨o' + e.val, he⟩ :=
  Finset.sum_congr rfl fun k _ => congrArg₂ (· * ·) (blkH_eq m c t r n hn k) (ld_main m c t o o' ib k e he h)

/-- A strip of rows, from row `r` on, against the columns of the main weight from `o` on. -/
abbrev stripDot {N : Nat} (t : Fin cfg0.N) (o : Nat) (ib : ∀ a, (![0, o] : Fin 2 → Nat) a + (![1024, N] : Fin 2 → Nat) a ≤ S1024x3072.size a)
    (r : Nat) (ir : ∀ a, (![r, 0] : Fin 2 → Nat) a + (![128, 1024] : Fin 2 → Nat) a ≤ S512x1024.size a) : FVec Ideal ⟨2, ![128, N]⟩ .bf16 :=
  matmul (F := Ideal) (φ₁ := .bf16) (φ₂ := .bf16) (DotDims.plain 128 1024 N) none (stripH (modRow m c t) (iblk m c 0 t) (iblk m c 2 t) r ir)
    (View.ld (Val := Elt Ideal) (e' := .bf16) (iblk m c 3 t : FVec Ideal S1024x3072 .bf16) (Rect.unit (s := S1024x3072) ![0, o] ![1024, N] ib)) (constant ⟨2, ![128, N]⟩ .f32 0x00000000#32)

/-- Four such strips side by side. -/
theorem rows_main {N : Nat} (t : Fin cfg0.N) (o o' : Nat) (ib) (y : (⟨2, ![512, N]⟩ : Shape).Idx) (n : Fin 32768) (hn : n.val = t.val * 512 + (y 0).val) (he : o' + (y 1).val < 3088)
    (h : o + (y 1).val < 2048 ∧ o' = o ∨ 2048 ≤ o ∧ o' = o + 16) (ib3 ib2 ib1 ib0) (P3 P2 P1 P0 : FVec Ideal ⟨2, ![128, N]⟩ .bf16)
    (e3 : P3 = stripDot m c t o ib 384 inb_S512x1024_S128x1024_384_0) (e2 : P2 = stripDot m c t o ib 256 inb_S512x1024_S128x1024_256_0)
    (e1 : P1 = stripDot m c t o ib 128 inb_S512x1024_S128x1024_128_0) (e0 : P0 = stripDot m c t o ib 0 inb_S512x1024_S128x1024_0_0) :
    View.canon (Val := Elt Ideal) (e := .bf16) [⟨Rect.unit (s := ⟨2, ![512, N]⟩) ![384, 0] ![128, N] ib3, P3⟩, ⟨Rect.unit (s := ⟨2, ![512, N]⟩) ![256, 0] ![128, N] ib2, P2⟩,
      ⟨Rect.unit (s := ⟨2, ![512, N]⟩) ![128, 0] ![128, N] ib1, P1⟩, ⟨Rect.unit (s := ⟨2, ![512, N]⟩) ![0, 0] ![128, N] ib0, P0⟩] y = Y m c n ⟨o' + (y 1).val, he⟩ := by
  rw [e3, e2, e1, e0]
  exact (rows4 ib3 ib2 ib1 ib0 _ _ _ _ y _ (tile_dot _ _ _ 384 _ _ y) (tile_dot _ _ _ 256 _ _ y) (tile_dot _ _ _ 128 _ _ y) (tile_dot _ _ _ 0 _ _ y)).trans
    (dot_main m c t o o' ib (y 0) n hn (y 1) he h)

/-- The launch leaves the first result at `outQkv`. -/
theorem final9 : (Gen.dats m 0 c).arrAt 9 cfg0.N = outQkv m c := by
  refine (Gen.dats m 0 c).arrAt_eq_of_covers 9 _ (by decide +kernel) fun t hf y => ?_
  have h0 : ((((cfg0.win 9).blk t).view.emb y) 0).val = t.val * 512 + (y 0).val := by blk_simp [idx t]
  have h1 : ((((cfg0.win 9).blk t).view.emb y) 1).val = (y 1).val := by blk_simp [idx t]
  have hy : (y 1).val < 1536 := (y 1).isLt
  blk_simp
  rw [after0_9]
  unfold outsAt0
  frame_out
  refine (rows_main (N := 1536) m c t 0 0 inb_S1024x3072_S1024x1536_0_0 y _ h0 (by omega) (by omega) _ _ _ _ _ _ _ _ ?_ ?_ ?_ ?_).trans ?_
  · unfold k0_pay39; rw [shapeCast_self]; rfl
  · unfold k0_pay28; rw [shapeCast_self]; rfl
  · unfold k0_pay17; rw [shapeCast_self]; rfl
  · unfold k0_pay8; rw [shapeCast_self]; rfl
  · exact congrArg (Y m c _) (Fin.ext ((Nat.zero_add _).trans h1.symm))

/-- The launch leaves the second result at `outZ`. -/
theorem final10 : (Gen.dats m 0 c).arrAt 10 cfg0.N = outZ m c := by
  refine (Gen.dats m 0 c).arrAt_eq_of_covers 10 _ (by decide +kernel) fun t hf y => ?_
  have h0 : ((((cfg0.win 10).blk t).view.emb y) 0).val = t.val * 512 + (y 0).val := by blk_simp [idx t]
  have h1 : ((((cfg0.win 10).blk t).view.emb y) 1).val = (y 1).val := by blk_simp [idx t]
  have hy : (y 1).val < 512 := (y 1).isLt
  blk_simp
  rw [after0_10]
  unfold outsAt0
  frame_out
  refine (rows_main (N := 512) m c t 1536 1536 inb_S1024x3072_S1024x512_0_1536 y _ h0 (by omega) (by omega) _ _ _ _ _ _ _ _ ?_ ?_ ?_ ?_).trans ?_
  · unfold k0_pay40; rw [shapeCast_self]; rfl
  · unfold k0_pay29; rw [shapeCast_self]; rfl
  · unfold k0_pay18; rw [shapeCast_self]; rfl
  · unfold k0_pay9; rw [shapeCast_self]; rfl
  · exact congrArg (Y m c _) (Fin.ext (congrArg (1536 + ·) h1.symm))

/-- The launch leaves the seventh result at `outNv`. -/
theorem final15 : (Gen.dats m 0 c).arrAt 15 cfg0.N = outNv m c := by
  refine (Gen.dats m 0 c).arrAt_eq_of_covers 15 _ (by decide +kernel) fun t hf y => ?_
  have h0 : ((((cfg0.win 15).blk t).view.emb y) 0).val = t.val * 512 + (y 0).val := by blk_simp [idx t]
  have h1 : ((((cfg0.win 15).blk t).view.emb y) 1).val = (y 1).val := by blk_simp [idx t]
  have hy : (y 1).val < 256 := (y 1).isLt
  blk_simp
  rw [after0_15]
  unfold outsAt0
  frame_out
  refine (rows_main (N := 256) m c t 2560 2576 inb_S1024x3072_S1024x256_0_2560 y _ h0 (by omega) (by omega) _ _ _ _ _ _ _ _ ?_ ?_ ?_ ?_).trans ?_
  · unfold k0_pay46; rw [shapeCast_self]; rfl
  · unfold k0_pay34; rw [shapeCast_self]; rfl
  · unfold k0_pay21; rw [shapeCast_self]; rfl
  · unfold k0_pay12; rw [shapeCast_self]; rfl
  · exact congrArg (Y m c _) (Fin.ext (congrArg (2576 + ·) h1.symm))

/-- The launch leaves the eighth result at `outFt`. -/
theorem final16 : (Gen.dats m 0 c).arrAt 16 cfg0.N = outFt m c := by
  refine (Gen.dats m 0 c).arrAt_eq_of_covers 16 _ (by decide +kernel) fun t hf y => ?_
  have h0 : ((((cfg0.win 16).blk t).view.emb y) 0).val = t.val * 512 + (y 0).val := by blk_simp [idx t]
  have h1 : ((((cfg0.win 16).blk t).view.emb y) 1).val = (y 1).val := by blk_simp [idx t]
  have hy : (y 1).val < 256 := (y 1).isLt
  blk_simp
  rw [after0_16]
  unfold outsAt0
  frame_out
  refine (rows_main (N := 256) m c t 2816 2832 inb_S1024x3072_S1024x256_0_2816 y _ h0 (by omega) (by omega) _ _ _ _ _ _ _ _ ?_ ?_ ?_ ?_).trans ?_
  · unfold k0_pay47; rw [shapeCast_self]; rfl
  · unfold k0_pay35; rw [shapeCast_self]; rfl
  · unfold k0_pay22; rw [shapeCast_self]; rfl
  · unfold k0_pay13; rw [shapeCast_self]; rfl
  · exact congrArg (Y m c _) (Fin.ext (congrArg (2832 + ·) h1.symm))

end Cert.InProj
-- ==== Proof.InProjRest.lean ====
module

public import proofs.«01_k».proof.Defs
public import proofs.«01_k».proof.Proof.Gen.Kernel4Ideal.Value
public import proofs.«01_k».proof.Proof.InProj
public import Idealize.ShloMosaic.Lib.Pipeline.ValueKit
public import Idealize.ShloMosaic.Lib.ValueIdx
public import Idealize.ShloMosaic.Lib.MatmulPlain
public import Idealize.ShloMosaic.Lib.IdealHost
public import Idealize.ShloMosaic.Lib.Pointwise
public import Idealize.ShloMosaic.Lib.Claim

@[expose] public section

set_option maxRecDepth 16384

noncomputable section

namespace Cert.InProj

open Cert.Kernel4Ideal Cert.Kernel4Ideal.Gen
open Idealize.ShloMosaic Idealize.ShloMosaic.TcCoe Idealize.SL.Sem
open scoped BigOperators

variable (m : (ℓ : Loc nD τ sig) → Buf (Elt Ideal) ℓ) (c : Dev nD)

/-- Four strips of columns read back: where each has the value `v`, so has the whole. -/
theorem cols4 (P3 P2 P1 P0 : S16x128.Idx → Elt Ideal .f32) (y : S16x512.Idx) (v : Elt Ideal .f32)
    (h3 : View.TileAt (S := S16x512) (Val := Elt Ideal) (e := .f32) y ![0, 384] ![16, 128] P3 v) (h2 : View.TileAt (S := S16x512) (Val := Elt Ideal) (e := .f32) y ![0, 256] ![16, 128] P2 v)
    (h1 : View.TileAt (S := S16x512) (Val := Elt Ideal) (e := .f32) y ![0, 128] ![16, 128] P1 v) (h0 : View.TileAt (S := S16x512) (Val := Elt Ideal) (e := .f32) y ![0, 0] ![16, 128] P0 v) :
    View.canon (Val := Elt Ideal) (e := .f32) [⟨Rect.unit (s := S16x512) ![0, 384] ![16, 128] inb_S16x512_S16x128_0_384, P3⟩, ⟨Rect.unit (s := S16x512) ![0, 256] ![16, 128] inb_S16x512_S16x128_0_256, P2⟩,
      ⟨Rect.unit (s := S16x512) ![0, 128] ![16, 128] inb_S16x512_S16x128_0_128, P1⟩, ⟨Rect.unit (s := S16x512) ![0, 0] ![16, 128] inb_S16x512_S16x128_0_0, P0⟩] y = v := by
  refine View.canon_eq_of_allAt _ y v ?_ (View.allAt_cons_unit _ _ _ _ _ h3 (View.allAt_cons_unit _ _ _ _ _ h2 (View.allAt_cons_unit _ _ _ _ _ h1 (View.allAt_cons_unit _ _ _ _ _ h0 (View.allAt_nil _ _)))))
  have hy : (y 0).val < 16 := (y 0).isLt
  have hz : (y 1).val < 512 := (y 1).isLt
  have mem (o : Nat) (ib) (ho : o ≤ (y 1).val ∧ (y 1).val < o + 128) : y ∈ (Rect.unit (s := S16x512) ![0, o] ![16, 128] ib).set :=
    Rect.mem_set_unit.mpr fun a => by
      match a with | ⟨0, _⟩ => exact ⟨Nat.zero_le _, hy.trans_eq (Nat.zero_add _).symm⟩ | ⟨1, _⟩ => exact ho
  rcases lt_or_ge (y 1).val 128 with l0 | g0
  · exact ⟨_, .tail _ (.tail _ (.tail _ (.head _))), mem 0 inb_S16x512_S16x128_0_0 (by omega)⟩
  rcases lt_or_ge (y 1).val 256 with l1 | g1
  · exact ⟨_, .tail _ (.tail _ (.head _)), mem 128 inb_S16x512_S16x128_0_128 (by omega)⟩
  rcases lt_or_ge (y 1).val 384 with l2 | g2
  · exact ⟨_, .tail _ (.head _), mem 256 inb_S16x512_S16x128_0_256 (by omega)⟩
  · exact ⟨_, .head _, mem 384 inb_S16x512_S16x128_0_384 (by omega)⟩

/-- The narrow weight against a block's rows. -/
theorem dot_ab (t : Fin cfg0.N) (r : Fin 512) (n : Fin 32768) (hn : n.val = t.val * 512 + r.val) (e : Fin 16) :
    ∑ k, blkH (modRow m c t) (iblk m c 0 t) (iblk m c 2 t) r k * (iblk m c 4 t : FVec Ideal S1024x16 .bf16) (ValueIdx.ix2 k e) = Y m c n ⟨2048 + e.val, by omega⟩ :=
  Finset.sum_congr rfl fun k _ => congrArg₂ (· * ·) (blkH_eq m c t r n hn k) ((congrFun (blk_ab m c t) _).trans (V_ab m c k e))

/-- So its transpose. -/
theorem dot_abT (t : Fin cfg0.N) (r : Fin 512) (n : Fin 32768) (hn : n.val = t.val * 512 + r.val) (e : Fin 16) :
    ∑ k, blkH (modRow m c t) (iblk m c 0 t) (iblk m c 2 t) r k * (iblk m c 5 t : FVec Ideal S16x1024 .bf16) (ValueIdx.ix2 e k) = Y m c n ⟨2048 + e.val, by omega⟩ :=
  Finset.sum_congr rfl fun k _ => congrArg₂ (· * ·) (blkH_eq m c t r n hn k) ((congrFun (blk_abT m c t) _).trans (V_abT m c k e))

/-- A strip of rows, from row `r` on, of the columns from `o` on normalised. -/
abbrev stripNorm (t : Fin cfg0.N) (o : Nat) (ib : ∀ a, (![0, o] : Fin 2 → Nat) a + (![1024, 256] : Fin 2 → Nat) a ≤ S1024x3072.size a) (q : FVec Ideal S1x256 .f32)
    (r : Nat) (ir : ∀ a, (![r, 0] : Fin 2 → Nat) a + (![128, 1024] : Fin 2 → Nat) a ≤ S512x1024.size a) : FVec Ideal S128x256 .bf16 :=
  k0_pay20 (F := Ideal) (iblk m c 8 t) (stripH (modRow m c t) (iblk m c 0 t) (iblk m c 2 t) r ir)
    (View.ld (Val := Elt Ideal) (e' := .bf16) (iblk m c 3 t : FVec Ideal S1024x3072 .bf16) (Rect.unit (s := S1024x3072) ![0, o] ![1024, 256] ib)) q

set_option maxHeartbeats 2000000 in
/-- Four such strips side by side, each entry taken through `φ`. -/
theorem rows_norm (φ : EReal → EReal) (t : Fin cfg0.N) (o o' : Nat) (ib) (q : FVec Ideal S1x256 .f32) (qn : Fin 64 → EReal) (hq : ∀ e : Fin 256, q (ValueIdx.ix2 0 e) = qn ⟨e.val % 64, by omega⟩)
    (y : S512x256.Idx) (n : Fin 32768) (hn : n.val = t.val * 512 + (y 0).val) (he : o' + 256 ≤ 3088) (ho : 2048 ≤ o ∧ o' = o + 16) (ib3 ib2 ib1 ib0) (P3 P2 P1 P0 : FVec Ideal S128x256 .bf16)
    (e3 : ∀ i, P3 i = φ (stripNorm m c t o ib q 384 inb_S512x1024_S128x1024_384_0 i)) (e2 : ∀ i, P2 i = φ (stripNorm m c t o ib q 256 inb_S512x1024_S128x1024_256_0 i))
    (e1 : ∀ i, P1 i = φ (stripNorm m c t o ib q 128 inb_S512x1024_S128x1024_128_0 i)) (e0 : ∀ i, P0 i = φ (stripNorm m c t o ib q 0 inb_S512x1024_S128x1024_0_0 i)) :
    View.canon (Val := Elt Ideal) (e := .bf16) [⟨Rect.unit (s := S512x256) ![384, 0] ![128, 256] ib3, P3⟩, ⟨Rect.unit (s := S512x256) ![256, 0] ![128, 256] ib2, P2⟩,
      ⟨Rect.unit (s := S512x256) ![128, 0] ![128, 256] ib1, P1⟩, ⟨Rect.unit (s := S512x256) ![0, 0] ![128, 256] ib0, P0⟩] y
      = φ (headNorm (fun e => Y m c n ⟨o' + e.val, by omega⟩) qn (y 1)) := by
  have f : (fun e : Fin 256 => ∑ k, blkH (modRow m c t) (iblk m c 0 t) (iblk m c 2 t) (y 0) k * View.ld (Val := Elt Ideal) (e' := .bf16) (iblk m c 3 t : FVec Ideal S1024x3072 .bf16)
      (Rect.unit (s := S1024x3072) ![0, o] ![1024, 256] ib) (ValueIdx.ix2 k e)) = fun e => Y m c n ⟨o' + e.val, by omega⟩ :=
    funext fun e => dot_main m c t o o' ib (y 0) n hn e (by omega) (.inr ho)
  have tile (r ir) := tile_norm (modRow m c t) (iblk m c 0 t) (iblk m c 2 t) r ir
    (View.ld (Val := Elt Ideal) (e' := .bf16) (iblk m c 3 t : FVec Ideal S1024x3072 .bf16) (Rect.unit (s := S1024x3072) ![0, o] ![1024, 256] ib)) q qn hq (iblk m c 8 t)
    (fun a b => (congrFun (blk_ones m c t) _).trans (V_ones m c a b)) y
  rw [f] at tile
  have tile' (r ir) (x : S128x256.Idx) (hx : ∀ a, (y a : Nat) = (![r, 0] : Fin 2 → Nat) a + x a) := congrArg φ (tile r ir x hx)
  exact rows4 (N := 256) (f := .bf16) ib3 ib2 ib1 ib0 P3 P2 P1 P0 y _ (fun x hx => (e3 x).trans (tile' 384 inb_S512x1024_S128x1024_384_0 x hx)) (fun x hx => (e2 x).trans (tile' 256 inb_S512x1024_S128x1024_256_0 x hx))
    (fun x hx => (e1 x).trans (tile' 128 inb_S512x1024_S128x1024_128_0 x hx)) (fun x hx => (e0 x).trans (tile' 0 inb_S512x1024_S128x1024_0_0 x hx))

/-- The launch leaves the third result at `outAb`. -/
theorem final11 : (Gen.dats m 0 c).arrAt 11 cfg0.N = outAb m c := by
  refine (Gen.dats m 0 c).arrAt_eq_of_covers 11 _ (by decide +kernel) fun t hf y => ?_
  have h0 : ((((cfg0.win 11).blk t).view.emb y) 0).val = t.val * 512 + (y 0).val := by blk_simp [idx t]
  have h1 : ((((cfg0.win 11).blk t).view.emb y) 1).val = (y 1).val := by blk_simp [idx t]
  have hy : (y 1).val < 16 := (y 1).isLt
  blk_simp
  rw [after0_11]
  unfold outsAt0
  frame_out
  have tile (o ib) := tile_dot (N := 16) (modRow m c t) (iblk m c 0 t) (iblk m c 2 t) o ib (iblk m c 4 t : FVec Ideal S1024x16 .bf16) y
  have e (h : FVec Ideal S128x1024 .bf16) (w : FVec Ideal S1024x16 .bf16) : k0_pay14 (F := Ideal) h w = matmul (F := Ideal) (DotDims.plain 128 1024 16) none h w (constant S128x16 .f32 0x00000000#32) := by
    unfold k0_pay14; rw [shapeCast_self]; rfl
  simp only [← e] at tile
  refine (rows4 (f := .f32) _ _ _ _ _ _ _ _ y _ (tile 384 inb_S512x1024_S128x1024_384_0) (tile 256 inb_S512x1024_S128x1024_256_0) (tile 128 inb_S512x1024_S128x1024_128_0) (tile 0 inb_S512x1024_S128x1024_0_0)).trans ?_
  exact (dot_ab m c t (y 0) _ h0 (y 1)).trans (congrArg (Y m c _) (Fin.ext (congrArg (2048 + ·) h1.symm)))

/-- The launch leaves the fourth result at `outAbT`. -/
theorem final12 : (Gen.dats m 0 c).arrAt 12 cfg0.N = outAbT m c := by
  refine (Gen.dats m 0 c).arrAt_eq_of_covers 12 _ (by decide +kernel) fun t hf y => ?_
  have h0 : ((((cfg0.win 12).blk t).view.emb y) 0).val = (y 0).val := by blk_simp [idx t]
  have h1 : ((((cfg0.win 12).blk t).view.emb y) 1).val = t.val * 512 + (y 1).val := by blk_simp [idx t]
  have hy : (y 1).val < 512 := (y 1).isLt
  blk_simp
  rw [after0_12]
  unfold outsAt0
  frame_out
  have tile (o ib) := tile_dotT (modRow m c t) (iblk m c 0 t) (iblk m c 2 t) o ib (iblk m c 5 t : FVec Ideal S16x1024 .bf16) y
  have e (h : FVec Ideal S128x1024 .bf16) (w : FVec Ideal S16x1024 .bf16) : k0_pay15 (F := Ideal) h w = matmul (F := Ideal) dot_S16x1024_S128x1024_S16x128_1_1_0_0_n_n none w h (constant S16x128 .f32 0x00000000#32) := by
    unfold k0_pay15; rw [shapeCast_self]
  simp only [← e] at tile
  refine (cols4 _ _ _ _ y _ (tile 384 inb_S512x1024_S128x1024_384_0) (tile 256 inb_S512x1024_S128x1024_256_0) (tile 128 inb_S512x1024_S128x1024_128_0) (tile 0 inb_S512x1024_S128x1024_0_0)).trans ?_
  exact (dot_abT m c t (y 1) _ h1 (y 0)).trans (congrArg (Y m c _) (Fin.ext (congrArg (2048 + ·) h0.symm)))

/-- The launch leaves the fifth result at `outNq`. -/
theorem final13 : (Gen.dats m 0 c).arrAt 13 cfg0.N = outNq m c := by
  refine (Gen.dats m 0 c).arrAt_eq_of_covers 13 _ (by decide +kernel) fun t hf y => ?_
  have h0 : ((((cfg0.win 13).blk t).view.emb y) 0).val = t.val * 512 + (y 0).val := by blk_simp [idx t]
  have h1 : ((((cfg0.win 13).blk t).view.emb y) 1).val = (y 1).val := by blk_simp [idx t]
  have hy : (y 1).val < 256 := (y 1).isLt
  blk_simp
  rw [after0_13]
  unfold outsAt0
  frame_out
  refine (rows_norm m c (· * Ideal.ofBits .f32 0x3E000000#32) t 2048 2064 inb_S1024x3072_S1024x256_0_2048 (iblk m c 6 t) (fun d => argQ m c (ValueIdx.ix1 d))
    (fun e => (congrFun (blk_q m c t) _).trans (V_q m c e)) y _ h0 (by omega) (by omega) _ _ _ _ _ _ _ _ ?_ ?_ ?_ ?_).trans ?_
  · intro i; unfold stripNorm k0_pay41 k0_pay20; rfl
  · intro i; unfold stripNorm k0_pay32 k0_pay31 k0_pay30 k0_pay20; rfl
  · intro i; unfold stripNorm k0_pay19 k0_pay20; rfl
  · intro i; unfold stripNorm k0_pay10 k0_pay20; rfl
  · exact congrArg (· * _) (congrArg (headNorm _ _) (Fin.ext h1.symm))

/-- The launch leaves the sixth result at `outNk`. -/
theorem final14 : (Gen.dats m 0 c).arrAt 14 cfg0.N = outNk m c := by
  refine (Gen.dats m 0 c).arrAt_eq_of_covers 14 _ (by decide +kernel) fun t hf y => ?_
  have h0 : ((((cfg0.win 14).blk t).view.emb y) 0).val = t.val * 512 + (y 0).val := by blk_simp [idx t]
  have h1 : ((((cfg0.win 14).blk t).view.emb y) 1).val = (y 1).val := by blk_simp [idx t]
  have hy : (y 1).val < 256 := (y 1).isLt
  blk_simp
  rw [after0_14]
  unfold outsAt0
  frame_out
  refine (rows_norm m c (fun x => x) t 2304 2320 inb_S1024x3072_S1024x256_0_2304 (iblk m c 7 t) (fun d => argK m c (ValueIdx.ix1 d))
    (fun e => (congrFun (blk_k m c t) _).trans (V_k m c e)) y _ h0 (by omega) (by omega) _ _ _ _ _ _ _ _ ?_ ?_ ?_ ?_).trans ?_
  · intro i; unfold stripNorm k0_pay45 k0_pay44 k0_pay43 k0_pay42 k0_pay20; rfl
  · intro i; unfold stripNorm k0_pay33 k0_pay20; rfl
  · intro i; unfold stripNorm  k0_pay20; rfl
  · intro i; unfold stripNorm k0_pay11 k0_pay20; rfl
  · exact congrArg (headNorm _ _) (Fin.ext h1.symm)

end Cert.InProj
-- ==== Proof.InProjRef.lean ====
module

public import proofs.«01_k».proof.Proof.InProjRest
public import proofs.«01_k».proof.Proof.Gen.Reference4Ideal.Run
public import Idealize.ShloMosaic.Lib.StackMember

@[expose] public section

noncomputable section

namespace Cert.InProjRef

open Cert.Reference4Ideal Cert.Reference4Ideal.Gen Idealize.ShloMosaic Idealize.ShloMosaic.TcCoe Idealize.SL.Sem
open Idealize.ShloMosaic.StackMember (dotGeneral_plain_apply)
open Cert.InProj (hrow headNorm)

variable (x : FVec Ideal S32768x1024 .f32) (md : FVec Ideal S2x6144 .f32) (g : FVec Ideal S1024 .f32) (w : FVec Ideal S1024x3088 .f32)

/-- The reference's modulated norm. -/
def hT (X : FVec Ideal S2x16384x1024 .f32) : FVec Ideal S2x16384x1024 .f32 :=
  addf (mulf (mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 0, 1024] (broadcastInDim S2x1x6144 ![0, 2] bcast_S2x6144_S2x1x6144_0_2 md) slices_S2x1x6144_S2x1x1024_0_0_1024)))) (broadcastInDim S2x16384x1024 ![0, 1, 2] bcast_S2x1x1024_S2x16384x1024_0_1_2 (extractStridedSlice S2x1x1024 ![0, 0, 0] (broadcastInDim S2x1x6144 ![0, 2] bcast_S2x6144_S2x1x6144_0_2 md) slices_S2x1x6144_S2x1x1024_0_0_0))

/-- It at batch `b`, position `p`, column `k`. -/
theorem hT_apply (X : FVec Ideal S2x16384x1024 .f32) (b : Fin 2) (p : Fin 16384) (k : Fin 1024) : hT md g X (ValueIdx.ix3 b p k)
    = hrow (fun k => X (ValueIdx.ix3 b p k)) (fun k => g (ValueIdx.ix1 k)) (fun k => md (ValueIdx.ix2 b ⟨k.val, by omega⟩)) (fun k => md (ValueIdx.ix2 b ⟨1024 + k.val, by omega⟩)) k := by
  unfold hT hrow
  pointwise
  rfl

/-- The reference's input projection. -/
def yT : FVec Ideal S32768x3088 .f32 :=
  Host.dotGeneral dot_S32768x1024_S1024x3088_S32768x3088_1_0_0_1_n_n none (shapeCast _ (hT md g (shapeCast _ x shapeCasts_S32768x1024_S2x16384x1024)) shapeCasts_S2x16384x1024_S32768x1024) w

/-- It at row `n`, column `j`. -/
theorem yT_apply (n : Fin 32768) (j : Fin 3088) : yT x md g w (ValueIdx.ix2 n j)
    = ∑ k, hrow (fun k => x (ValueIdx.ix2 n k)) (fun k => g (ValueIdx.ix1 k)) (fun k => md (ValueIdx.ix2 ⟨n.val / 16384, by omega⟩ ⟨k.val, by omega⟩))
        (fun k => md (ValueIdx.ix2 ⟨n.val / 16384, by omega⟩ ⟨1024 + k.val, by omega⟩)) k * w (ValueIdx.ix2 k j) := by
  have hn : n.val / 16384 < 2 := by omega
  have sc (k : Fin 1024) : shapeCast S2x16384x1024 x shapeCasts_S32768x1024_S2x16384x1024 (ValueIdx.ix3 (n0 := 2) (n1 := 16384) (n2 := 1024) ⟨n.val / 16384, hn⟩ ⟨n.val % 16384, Nat.mod_lt _ (by decide)⟩ k) = x (ValueIdx.ix2 n k) := by
    refine shapeCast_apply _ _ _ _ ?_
    rw [Shape.rowMajor_val_two, Shape.rowMajor_val_three]
    show n.val * 1024 + k.val = (n.val / 16384 * 16384 + n.val % 16384) * 1024 + k.val
    omega
  refine (dotGeneral_plain_apply (m := 32768) (k := 1024) (n := 3088) none _ w n j).trans ?_
  refine Finset.sum_congr rfl fun k _ => congrArg (· * w (ValueIdx.ix2 k j)) ?_
  refine (shapeCast_apply _ _ _ (ValueIdx.ix3 (n0 := 2) (n1 := 16384) (n2 := 1024) ⟨n.val / 16384, hn⟩ ⟨n.val % 16384, Nat.mod_lt _ (by decide)⟩ k) ?_).trans ?_
  · rw [Shape.rowMajor_val_two, Shape.rowMajor_val_three]
    show (n.val / 16384 * 16384 + n.val % 16384) * 1024 + k.val = n.val * 1024 + k.val
    omega
  · rw [hT_apply]
    simp only [sc]

/-- The reference's norm of one head's columns. -/
def nT (y : FVec Ideal S32768x256 .f32) (q : FVec Ideal S64 .f32) : FVec Ideal S32768x4x64 .f32 :=
  mulf (mulf (shapeCast _ y shapeCasts_S32768x256_S32768x4x64) (broadcastInDim S32768x4x64 ![0, 1, 2] bcast_S32768x4x1_S32768x4x64_0_1_2 (Host.rsqrt (addf (Host.divf (broadcastInDim S32768x4x1 ![0, 1] bcast_S32768x4_S32768x4x1_0_1 (Host.reduceAdd (mulf (shapeCast _ y shapeCasts_S32768x256_S32768x4x64) (shapeCast _ y shapeCasts_S32768x256_S32768x4x64)) (constant S_ .f32 0x00000000#32) reducesTo_S32768x4x64_S32768x4_d2 h_S_)) (broadcastInDim S32768x4x1 ![] bcast_S_S32768x4x1 (constant S_ .f32 0x42800000#32))) (broadcastInDim S32768x4x1 ![] bcast_S_S32768x4x1 (constant S_ .f32 0x358637BD#32)))))) (broadcastInDim S32768x4x64 ![0, 1, 2] bcast_S1x1x64_S32768x4x64_0_1_2 (broadcastInDim S1x1x64 ![2] bcast_S64_S1x1x64_2 q))

/-- It at row `n`, column `e`. -/
theorem nT_apply (y : FVec Ideal S32768x256 .f32) (q : FVec Ideal S64 .f32) (n : Fin 32768) (e : Fin 256) :
    nT y q (ValueIdx.ix3 (n0 := 32768) (n1 := 4) (n2 := 64) n ⟨e.val / 64, by omega⟩ ⟨e.val % 64, by omega⟩) = headNorm (fun e => y (ValueIdx.ix2 n e)) (fun d => q (ValueIdx.ix1 d)) e := by
  have sc (d : Fin 64) : shapeCast S32768x4x64 y shapeCasts_S32768x256_S32768x4x64 (ValueIdx.ix3 (n0 := 32768) (n1 := 4) (n2 := 64) n ⟨e.val / 64, by omega⟩ d) = y (ValueIdx.ix2 n ⟨64 * (e.val / 64) + d.val, by omega⟩) := by
    refine shapeCast_apply _ _ _ _ ?_
    rw [Shape.rowMajor_val_two, Shape.rowMajor_val_three]
    show n.val * 256 + (64 * (e.val / 64) + d.val) = (n.val * 4 + e.val / 64) * 64 + d.val
    omega
  unfold nT headNorm
  generalize shapeCast S32768x4x64 y shapeCasts_S32768x256_S32768x4x64 = Z at sc ⊢
  pointwise
  have he : y (ValueIdx.ix2 n e) = y (ValueIdx.ix2 n ⟨64 * (e.val / 64) + e.val % 64, by omega⟩) :=
    congrArg y (congrArg (ValueIdx.ix2 n) (Fin.ext (Nat.div_add_mod e.val 64).symm))
  exact congrArg₂ (· * ·) (congrArg₂ (· * ·) ((sc ⟨e.val % 64, by omega⟩).trans he.symm)
    (congrArg Ideal.rsqrt (congrArg (· + _) (congrArg (Ideal.div · _) (Finset.sum_congr rfl fun d _ => congrArg₂ (· * ·) (sc d) (sc d)))))) rfl

/-- Columns of a projection from `o` on. -/
theorem cols {N : Nat} (o : Nat) (y : FVec Ideal S32768x3088 .f32) (h : Shape.Slices S32768x3088 ![0, o] ⟨2, ![32768, N]⟩) (n : Fin 32768) (e : Fin N) (he : o + e.val < 3088) :
    extractStridedSlice ⟨2, ![32768, N]⟩ ![0, o] y h (ValueIdx.ix2 n e) = y (ValueIdx.ix2 n ⟨o + e.val, he⟩) := by
  refine congrArg y ?_
  funext a; apply Fin.ext; match a with | ⟨0, _⟩ => exact Nat.zero_add _ | ⟨1, _⟩ => rfl

/-- The norm's array of heads, read as rows. -/
theorem heads (z : FVec Ideal S32768x4x64 .f32) (n : Fin 32768) (e : Fin 256) : shapeCast S32768x256 z shapeCasts_S32768x4x64_S32768x256 (ValueIdx.ix2 n e)
    = z (ValueIdx.ix3 (n0 := 32768) (n1 := 4) (n2 := 64) n ⟨e.val / 64, by omega⟩ ⟨e.val % 64, by omega⟩) := by
  refine shapeCast_apply _ _ _ _ ?_
  rw [Shape.rowMajor_val_two, Shape.rowMajor_val_three]
  show (n.val * 4 + e.val / 64) * 64 + e.val % 64 = n.val * 256 + e.val
  omega

/-- The input projection kernel and its reference, over the extended reals, end with the same eight results. -/
theorem algebraic : Cert.algebraic_Kernel4Ideal_Reference4Ideal := by
  intro m g m' g' _ hargs
  refine ⟨Cert.InProj.outQkv m, Cert.InProj.outZ m, Cert.InProj.outAb m, Cert.InProj.outAbT m, Cert.InProj.outNq m, Cert.InProj.outNk m, Cert.InProj.outNv m, Cert.InProj.outFt m, ?_, ?_⟩
  · refine (θ_run _ _ _).mono (fun r h c => ?_) (Cert.Kernel4Ideal.Value.run_blocks m g)
    obtain ⟨h9, h10, h11, h12, h13, h14, h15, h16, ha⟩ := h c
    exact ⟨h9.trans (Cert.InProj.final9 m c), h10.trans (Cert.InProj.final10 m c), h11.trans (Cert.InProj.final11 m c), h12.trans (Cert.InProj.final12 m c),
      h13.trans (Cert.InProj.final13 m c), h14.trans (Cert.InProj.final14 m c), h15.trans (Cert.InProj.final15 m c), h16.trans (Cert.InProj.final16 m c), ha⟩
  · refine (θ_run _ _ _).mono (fun r h c => ?_) (Cert.Reference4Ideal.Value.run m' g')
    obtain ⟨h0, h1, h2, h3, h4, h5⟩ := hargs c
    obtain ⟨r0, r1, r2, r3, r4, r5, r6, r7, ha⟩ := h c
    unfold Cert.Reference4Ideal.Value.res_main_v71 at r4
    unfold Cert.Reference4Ideal.Value.res_main_v72 at r5
    rw [h0, h1, h2, h3] at r0 r1 r2 r3 r6 r7
    rw [h0, h1, h2, h3, h4] at r4
    rw [h0, h1, h2, h3, h5] at r5
    have hY := yT_apply (Cert.InProj.argX m c) (Cert.InProj.argMod m c) (Cert.InProj.argG m c) (Cert.InProj.argW m c)
    set y := yT (Cert.InProj.argX m c) (Cert.InProj.argMod m c) (Cert.InProj.argG m c) (Cert.InProj.argW m c) with hy
    have hn (o : Nat) (h : Shape.Slices S32768x3088 ![0, o] S32768x256) (ho : o + 256 ≤ 3088) (q : FVec Ideal S64 .f32) (n : Fin 32768) (e : Fin 256) :
        nT (extractStridedSlice S32768x256 ![0, o] y h) q (ValueIdx.ix3 (n0 := 32768) (n1 := 4) (n2 := 64) n ⟨e.val / 64, by omega⟩ ⟨e.val % 64, by omega⟩)
          = headNorm (fun e => Cert.InProj.Y m c n ⟨o + e.val, by omega⟩) (fun d => q (ValueIdx.ix1 d)) e :=
      (nT_apply _ q n e).trans (congrArg (headNorm · _ e) (funext fun e => (cols o y h n e (by omega)).trans (hY n _)))
    refine ⟨r0.trans ?_, r1.trans ?_, r2.trans ?_, r3.trans ?_, r4.trans ?_, r5.trans ?_, r6.trans ?_, r7.trans ?_, ha⟩
    · funext i
      exact (congrArg _ (ValueIdx.eq_ix2 i)).trans ((cols 0 y slices_S32768x3088_S32768x1536_0_0 (i 0) (i 1) (by omega)).trans ((hY (i 0) _).trans (congrArg (Cert.InProj.Y m c (i 0)) (Fin.ext (Nat.zero_add _)))))
    · funext i
      exact (congrArg _ (ValueIdx.eq_ix2 i)).trans ((cols 1536 y slices_S32768x3088_S32768x512_0_1536 (i 0) (i 1) (by omega)).trans (hY (i 0) _))
    · funext i
      exact (congrArg _ (ValueIdx.eq_ix2 i)).trans ((cols 2048 y slices_S32768x3088_S32768x16_0_2048 (i 0) (i 1) (by omega)).trans (hY (i 0) _))
    · funext i
      refine (congrArg (y ·) ?_).trans (hY (i 1) ⟨2048 + (i 0).val, _⟩)
      funext a; apply Fin.ext; match a with | ⟨0, _⟩ => exact Nat.zero_add _ | ⟨1, _⟩ => rfl
    · funext i
      let z : FVec Ideal S32768x4x64 .f32 := mulf (nT (extractStridedSlice S32768x256 ![0, 2064] y slices_S32768x3088_S32768x256_0_2064) (Cert.InProj.argQ m c))
        (broadcastInDim S32768x4x64 ![] bcast_S_S32768x4x64 (constant S_ .f32 0x3E000000#32))
      refine (congrArg (shapeCast S32768x256 z shapeCasts_S32768x4x64_S32768x256) (ValueIdx.eq_ix2 i)).trans ((heads z (i 0) (i 1)).trans ?_)
      exact congrArg (· * Ideal.ofBits .f32 0x3E000000#32) (hn 2064 _ (by omega) (Cert.InProj.argQ m c) (i 0) (i 1))
    · funext i
      let z : FVec Ideal S32768x4x64 .f32 := nT (extractStridedSlice S32768x256 ![0, 2320] y slices_S32768x3088_S32768x256_0_2320) (Cert.InProj.argK m c)
      refine (congrArg (shapeCast S32768x256 z shapeCasts_S32768x4x64_S32768x256) (ValueIdx.eq_ix2 i)).trans ((heads z (i 0) (i 1)).trans ?_)
      exact hn 2320 _ (by omega) (Cert.InProj.argK m c) (i 0) (i 1)
    · funext i
      exact (congrArg _ (ValueIdx.eq_ix2 i)).trans ((cols 2576 y slices_S32768x3088_S32768x256_0_2576 (i 0) (i 1) (by omega)).trans (hY (i 0) _))
    · funext i
      exact (congrArg _ (ValueIdx.eq_ix2 i)).trans ((cols 2832 y slices_S32768x3088_S32768x256_0_2832 (i 0) (i 1) (by omega)).trans (hY (i 0) _))

end Cert.InProjRef

end
-- ==== Proof.MixOutOnes.lean ====
module

public import proofs.«01_k».proof.Kernel5Ideal
import Mathlib.Tactic.IntervalCases

@[expose] public section

set_option maxRecDepth 16384

noncomputable section

namespace Cert.MixOut

open Cert.Kernel5Ideal

/-- A stretch of ones. -/
theorem full (i : Nat) : lit0t0_0 i = 0x3F80#16 := by
  have h : i % 128 < 128 := Nat.mod_lt _ (by decide)
  unfold lit0t0_0
  generalize i % 128 = r at h ⊢
  interval_cases r <;> rfl

/-- A stretch of zeros. -/
theorem blank (i : Nat) : lit0t0_1 i = 0#16 := by
  have h : i % 128 < 128 := Nat.mod_lt _ (by decide)
  unfold lit0t0_1
  generalize i % 128 = r at h ⊢
  interval_cases r <;> rfl

/-- The stretch that the digits `d`, `e` name. -/
def stretch (d e : Nat) : BitVec 16 := if d / 4 = e % 4 then 0x3F80#16 else 0#16

set_option maxHeartbeats 4000000 in
/-- The table's stretches. -/
theorem stretches (i : Nat) (h : i < 262144) : lit0t i = stretch (i / 16384) (i / 128 % 128) := by
  have hd : i / 16384 < 16 := by omega
  have he : i / 128 % 128 < 128 := Nat.mod_lt _ (by decide)
  unfold lit0t
  generalize i / 16384 = d at hd ⊢
  interval_cases d <;> first
    | (show lit0t1_0 i = _; unfold lit0t1_0) | (show lit0t1_4 i = _; unfold lit0t1_4)
    | (show lit0t1_8 i = _; unfold lit0t1_8) | (show lit0t1_12 i = _; unfold lit0t1_12)
  all_goals
    generalize i / 128 % 128 = r at he ⊢
    interval_cases r <;> first | exact blank i | exact full i

/-- The table's entry: one where the row and the column are of one head. -/
theorem table (a b : Nat) (ha : a < 512) (hb : b < 512) :
    lit0t (a * 512 + b) = if a / 128 = b / 128 then 0x3F80#16 else 0#16 := by
  have e1 : (a * 512 + b) / 16384 / 4 = a / 128 := by omega
  have e2 : (a * 512 + b) / 128 % 128 % 4 = b / 128 := by omega
  rw [stretches _ (by omega), stretch, e1, e2]

end Cert.MixOut

end
-- ==== Proof.MixOut.lean ====
module

public import proofs.«01_k».proof.Defs
public import proofs.«01_k».proof.Proof.Gen.Kernel5Ideal.Value
public import proofs.«01_k».proof.Proof.MixOutOnes
public import proofs.«01_k».proof.Proof.InProj

@[expose] public section

set_option maxRecDepth 16384

noncomputable section

namespace Cert.MixOut

open Cert.Kernel5Ideal Cert.Kernel5Ideal.Gen
open Idealize.ShloMosaic Idealize.ShloMosaic.TcCoe Idealize.SL.Sem
open Cert.InProj (hrow dot rows4)
open scoped BigOperators

/-- One entry of a root-mean-square norm taken over each head's 128 columns of a row of 512. -/
def headNorm (y : Fin 512 → EReal) (q : Fin 128 → EReal) (e : Fin 512) : EReal :=
  y e * Ideal.rsqrt (Ideal.div (∑ i : Fin 128, y ⟨128 * (e.val / 128) + i.val, by omega⟩ * y ⟨128 * (e.val / 128) + i.val, by omega⟩) (Ideal.ofBits .f32 0x43000000#32)
      + Ideal.ofBits .f32 0x358637BD#32) * q ⟨e.val % 128, by omega⟩

/-- One entry of the delta network's gated output. -/
def gated (o z : Fin 512 → EReal) (q : Fin 128 → EReal) (e : Fin 512) : EReal := headNorm o q e * (z e * Ideal.logistic (z e))

/-- One entry of a row of the three mixers' outputs side by side. -/
def mixed (o z : Fin 512 → EReal) (q : Fin 128 → EReal) (b c : Fin 256 → EReal) (j : Fin 1024) : EReal :=
  if h : j.val < 512 then gated o z q ⟨j.val, h⟩ else if h' : j.val < 768 then b ⟨j.val - 512, by omega⟩ else c ⟨j.val - 768, by omega⟩

/-- One entry of the residual row with the mixers' projection added through its gate. -/
def xrow (o z : Fin 512 → EReal) (q : Fin 128 → EReal) (b c : Fin 256 → EReal) (w : Fin 1024 → Fin 1024 → EReal) (gate x : Fin 1024 → EReal) (k : Fin 1024) : EReal :=
  x k + gate k * ∑ j, mixed o z q b c j * w j k

/-- The word of a hundred-and-twenty-eighth. -/
theorem bits_128th : Ideal.ofBits .f32 0x3C000000#32 = ((1 / 128 : ℝ) : EReal) := by
  simp [Ideal.ofBits, Ideal.ieee]; rw [← EReal.coe_mul]; norm_num

/-- The word of a hundred and twenty-eight. -/
theorem bits_128 : Ideal.ofBits .f32 0x43000000#32 = ((128 : ℝ) : EReal) := by
  simp [Ideal.ofBits, Ideal.ieee]; rw [← EReal.coe_mul]; norm_num

/-- A product by a hundred-and-twenty-eighth is a division by a hundred and twenty-eight. -/
theorem mul_128th (x : EReal) : x * Ideal.ofBits .f32 0x3C000000#32 = Ideal.div x (Ideal.ofBits .f32 0x43000000#32) := by
  rw [bits_128th, bits_128]
  rw [Ideal.div, if_neg (by exact_mod_cast (by norm_num : (128 : ℝ) ≠ 0)), ← EReal.coe_inv]
  norm_num

/-- A row against the table of ones is the sum over the column's own head. -/
theorem sum_ones (f : Fin 512 → EReal) (e : Fin 512) :
    ∑ j, f j * (if j.val / 128 = e.val / 128 then (1 : EReal) else 0) = ∑ i : Fin 128, f ⟨128 * (e.val / 128) + i.val, by omega⟩ := by
  have hs : ∀ j, f j * (if j.val / 128 = e.val / 128 then (1 : EReal) else 0) = if j.val / 128 = e.val / 128 then f j else 0 := fun j => by
    split_ifs <;> simp
  rw [Finset.sum_congr rfl fun j _ => hs j, ← Finset.sum_filter]
  refine (Finset.sum_bij (fun (i : Fin 128) _ => (⟨128 * (e.val / 128) + i.val, by omega⟩ : Fin 512)) ?_ ?_ ?_ ?_).symm
  · intro i _
    refine Finset.mem_filter.mpr ⟨Finset.mem_univ _, ?_⟩
    show (128 * (e.val / 128) + i.val) / 128 = _
    omega
  · intro i _ j _ h
    have h' : 128 * (e.val / 128) + i.val = 128 * (e.val / 128) + j.val := congrArg Fin.val h
    exact Fin.ext (by omega)
  · intro j hj
    have := (Finset.mem_filter.mp hj).2
    exact ⟨⟨j.val - 128 * (e.val / 128), by omega⟩, Finset.mem_univ _, Fin.ext (by show 128 * (e.val / 128) + (j.val - 128 * (e.val / 128)) = j.val; omega)⟩
  · intro i _; rfl

/-- The table of ones as the launch reads it. -/
theorem ones_apply (a b : Fin 512) : (fun i => FloatOps.ofBits (F := Ideal) .bf16 (lit0t (S512x512.rowMajor i).val) : FVec Ideal S512x512 .bf16) (ValueIdx.ix2 a b)
    = if a.val / 128 = b.val / 128 then (1 : EReal) else 0 := by
  have e : (S512x512.rowMajor (ValueIdx.ix2 a b)).val = a.val * 512 + b.val := by
    rw [Shape.rowMajor_val_two]; rfl
  refine (congrArg (Ideal.ofBits .bf16) ((congrArg lit0t e).trans (table _ _ a.isLt b.isLt))).trans ?_
  split_ifs
  · exact Ideal.ofBits_one_bf16
  · exact Ideal.ofBits_zero_bf16

/-- A sum over the joined row is the sum over its three parts. -/
theorem sum_parts (f : Fin 1024 → EReal) :
    ∑ j, f j = (∑ j : Fin 512, f ⟨j.val, by omega⟩ + ∑ j : Fin 256, f ⟨512 + j.val, by omega⟩) + ∑ j : Fin 256, f ⟨768 + j.val, by omega⟩ :=
  (Fin.sum_univ_add (a := 768) (b := 256) f).trans
    (congrArg (· + _) (Fin.sum_univ_add (a := 512) (b := 256) fun i : Fin 768 => f ⟨i.val, by omega⟩))

/-- A strip's gated output at row `r`, column `e`. -/
theorem gated_apply (a b : FVec Ideal S1x128x512 .bf16) (ones : FVec Ideal S512x512 .bf16) (nw : FVec Ideal S1x512 .f32) (z : FVec Ideal S128x512 .bf16) (q : Fin 128 → EReal)
    (hq : ∀ e : Fin 512, nw (ValueIdx.ix2 0 e) = q ⟨e.val % 128, by omega⟩)
    (ho : ∀ a b : Fin 512, ones (ValueIdx.ix2 a b) = if a.val / 128 = b.val / 128 then 1 else 0) (r : Fin 128) (e : Fin 512) :
    k0_pay29 (F := Ideal) a b ones nw z (ValueIdx.ix2 r e)
      = gated (fun e => a (ValueIdx.ix3 0 r e) + b (ValueIdx.ix3 0 r e)) (fun e => z (ValueIdx.ix2 r e)) q e := by
  unfold k0_pay29 gated headNorm
  simp only [shapeCast_self]
  rw [← hq]
  have hy (e : Fin 512) : k0_pay3 (F := Ideal) a b (ValueIdx.ix2 r e) = a (ValueIdx.ix3 0 r e) + b (ValueIdx.ix3 0 r e) := by
    unfold k0_pay3
    pointwise
    rfl
  show k0_pay3 (F := Ideal) a b (ValueIdx.ix2 r e) * Ideal.rsqrt (matmul (F := Ideal) (DotDims.plain 128 512 512) none
      (truncf .bf16 (mulf (k0_pay3 (F := Ideal) a b) (k0_pay3 (F := Ideal) a b)) bitsLt_bf16_f32) ones (constant S128x512 .f32 0x00000000#32) (ValueIdx.ix2 r e)
      * Ideal.ofBits .f32 0x3C000000#32 + Ideal.ofBits .f32 0x358637BD#32) * broadcastTo S128x512 nw broadcasts_S1x512_S128x512 (ValueIdx.ix2 r e)
      * (z (ValueIdx.ix2 r e) * Ideal.logistic (z (ValueIdx.ix2 r e))) = _
  rw [mul_128th]
  refine congrArg (· * _) (congrArg₂ (· * ·) (congrArg₂ (· * ·) (hy e) (congrArg Ideal.rsqrt (congrArg (· + _) (congrArg (Ideal.div · _) ?_)))) ?_)
  · refine (dot (M := 128) (K := 512) (N := 512) _ ones r e).trans ?_
    simp only [ho]
    refine (sum_ones (fun j => k0_pay3 (F := Ideal) a b (ValueIdx.ix2 r j) * k0_pay3 (F := Ideal) a b (ValueIdx.ix2 r j)) e).trans ?_
    simp only [hy]
  · pointwise
    rfl

/-- A strip's residual rows at row `r`, column `k`. -/
theorem x_apply (md : FVec Ideal S1x6144 .f32) (oa : FVec Ideal S128x512 .bf16) (w1 : FVec Ideal S512x1024 .bf16) (ob : FVec Ideal S128x256 .bf16) (w2 : FVec Ideal S256x1024 .bf16)
    (oc : FVec Ideal S128x256 .bf16) (w3 : FVec Ideal S256x1024 .bf16) (x : FVec Ideal S128x1024 .f32) (r : Fin 128) (k : Fin 1024) :
    k0_pay30 (F := Ideal) (k0_pay2 md) oa w1 ob w2 oc w3 x (ValueIdx.ix2 r k)
      = x (ValueIdx.ix2 r k) + md (ValueIdx.ix2 0 ⟨2048 + k.val, by omega⟩)
        * ((∑ j, oa (ValueIdx.ix2 r j) * w1 (ValueIdx.ix2 j k) + ∑ j, ob (ValueIdx.ix2 r j) * w2 (ValueIdx.ix2 j k)) + ∑ j, oc (ValueIdx.ix2 r j) * w3 (ValueIdx.ix2 j k)) := by
  unfold k0_pay30 k0_pay2
  simp only [shapeCast_self]
  show x (ValueIdx.ix2 r k) + broadcastTo S128x1024 (extractStridedSlice S1x1024 ![0, 2048] md slices_S1x6144_o0_2048_S1x1024) broadcasts_S1x1024_S128x1024 (ValueIdx.ix2 r k)
    * ((matmul (F := Ideal) (DotDims.plain 128 512 1024) none oa w1 (constant S128x1024 .f32 0x00000000#32) (ValueIdx.ix2 r k)
      + matmul (F := Ideal) (DotDims.plain 128 256 1024) none ob w2 (constant S128x1024 .f32 0x00000000#32) (ValueIdx.ix2 r k))
      + matmul (F := Ideal) (DotDims.plain 128 256 1024) none oc w3 (constant S128x1024 .f32 0x00000000#32) (ValueIdx.ix2 r k)) = _
  refine congrArg (_ + ·) (congrArg₂ (· * ·) ?_ (congrArg₂ (· + ·) (congrArg₂ (· + ·) (dot _ _ r k) (dot _ _ r k)) (dot _ _ r k)))
  pointwise
  rfl

/-- A strip's modulated norm at row `r`, column `k`. -/
theorem h_apply (md : FVec Ideal S1x6144 .f32) (oa : FVec Ideal S128x512 .bf16) (w1 : FVec Ideal S512x1024 .bf16) (ob : FVec Ideal S128x256 .bf16) (w2 : FVec Ideal S256x1024 .bf16)
    (oc : FVec Ideal S128x256 .bf16) (w3 : FVec Ideal S256x1024 .bf16) (x : FVec Ideal S128x1024 .f32) (g : FVec Ideal S1x1024 .f32) (r : Fin 128) (k : Fin 1024) :
    k0_pay1 (F := Ideal) (k0_pay31 (k0_pay2 md)) (k0_pay32 (k0_pay2 md)) (k0_pay33 (k0_pay2 md) oa w1 ob w2 oc w3 x g) (Scalar.ofBits .f32 0x3F800000#32) (ValueIdx.ix2 r k)
      = hrow (fun k => k0_pay30 (F := Ideal) (k0_pay2 md) oa w1 ob w2 oc w3 x (ValueIdx.ix2 r k)) (fun k => g (ValueIdx.ix2 0 k))
        (fun k => md (ValueIdx.ix2 0 ⟨3072 + k.val, by omega⟩)) (fun k => md (ValueIdx.ix2 0 ⟨4096 + k.val, by omega⟩)) k := by
  unfold k0_pay1 k0_pay31 k0_pay32 k0_pay33 hrow
  generalize k0_pay30 (F := Ideal) (k0_pay2 md) oa w1 ob w2 oc w3 x = X
  unfold k0_pay2
  simp only [shapeCast_self]
  pointwise
  rfl

end Cert.MixOut
-- ==== Proof.MixOutVal.lean ====
module

public import proofs.«01_k».proof.Proof.MixOut
public import Idealize.ShloMosaic.Lib.Pipeline.ValueKit
public import Idealize.ShloMosaic.Lib.ValueIdx
public import Idealize.ShloMosaic.Lib.MatmulPlain
public import Idealize.ShloMosaic.Lib.IdealHost
public import Idealize.ShloMosaic.Lib.Pointwise
public import Idealize.ShloMosaic.Lib.Claim

@[expose] public section

set_option maxRecDepth 16384

noncomputable section

namespace Cert.MixOut

open Cert.Kernel5Ideal Cert.Kernel5Ideal.Gen
open Idealize.ShloMosaic Idealize.ShloMosaic.TcCoe Idealize.SL.Sem
open Cert.InProj (hrow rows4)
open scoped BigOperators

section Block

variable (md : FVec Ideal S1x6144 .f32) (O : FVec Ideal S2x512x512 .bf16) (Z : FVec Ideal S512x512 .bf16) (B C : FVec Ideal S512x256 .bf16) (X : FVec Ideal S512x1024 .f32)
  (nw : FVec Ideal S1x512 .f32) (q : Fin 128 → EReal) (ones : FVec Ideal S512x512 .bf16) (W : FVec Ideal S1024x1024 .bf16) (g : FVec Ideal S1x1024 .f32)

/-- A whole block's residual rows at row `r`, column `k`. -/
def blkX (r : Fin 512) (k : Fin 1024) : EReal :=
  xrow (fun e => O (ValueIdx.ix3 0 r e) + O (ValueIdx.ix3 1 r e)) (fun e => Z (ValueIdx.ix2 r e)) q (fun e => B (ValueIdx.ix2 r e)) (fun e => C (ValueIdx.ix2 r e))
    (fun j k => W (ValueIdx.ix2 j k)) (fun k => md (ValueIdx.ix2 0 ⟨2048 + k.val, by omega⟩)) (fun k => X (ValueIdx.ix2 r k)) k

/-- Rows of a block from row `o` on. -/
abbrev strip {N : Nat} {f : EltTy} (A : (⟨2, ![512, N]⟩ : Shape).Idx → Elt Ideal f) (o : Nat) (ib : ∀ a, (![o, 0] : Fin 2 → Nat) a + (![128, N] : Fin 2 → Nat) a ≤ (⟨2, ![512, N]⟩ : Shape).size a) :
    (⟨2, ![128, N]⟩ : Shape).Idx → Elt Ideal f :=
  View.ld (Val := Elt Ideal) (e' := f) A (Rect.unit (s := ⟨2, ![512, N]⟩) ![o, 0] ![128, N] ib)

/-- Such a row is the block's own. -/
theorem strip_apply {N : Nat} {f : EltTy} (A : (⟨2, ![512, N]⟩ : Shape).Idx → Elt Ideal f) (o : Nat) (ib) (r : Fin 128) (k : Fin N) (R : Fin 512) (hR : R.val = o + r.val) :
    strip A o ib (ValueIdx.ix2 r k) = A (ValueIdx.ix2 R k) :=
  View.ld_unit_apply_of _ _ _ _ _ _ fun a => by
    match a with | ⟨0, _⟩ => exact hR | ⟨1, _⟩ => exact (Nat.zero_add _).symm

/-- Rows of the direction `d`'s block from row `o` on. -/
abbrev stripDir (d o : Nat) (ib : ∀ a, (![d, o, 0] : Fin 3 → Nat) a + (![1, 128, 512] : Fin 3 → Nat) a ≤ S2x512x512.size a) : FVec Ideal S1x128x512 .bf16 :=
  View.ld (Val := Elt Ideal) (e' := .bf16) O (Rect.unit (s := S2x512x512) ![d, o, 0] ![1, 128, 512] ib)

/-- Such a row is the block's own. -/
theorem stripDir_apply (d o : Nat) (ib) (r : Fin 128) (k : Fin 512) (D : Fin 2) (hD : D.val = d) (R : Fin 512) (hR : R.val = o + r.val) :
    stripDir O d o ib (ValueIdx.ix3 0 r k) = O (ValueIdx.ix3 D R k) :=
  View.ld_unit_apply_of _ _ _ _ _ _ fun a => by
    match a with | ⟨0, _⟩ => exact hD.trans (Nat.add_zero _).symm | ⟨1, _⟩ => exact hR | ⟨2, _⟩ => exact (Nat.zero_add _).symm

/-- Rows of the output weight from row `o` on. -/
abbrev rowsW (N o : Nat) (ib : ∀ a, (![o, 0] : Fin 2 → Nat) a + (![N, 1024] : Fin 2 → Nat) a ≤ S1024x1024.size a) : FVec Ideal ⟨2, ![N, 1024]⟩ .bf16 :=
  View.ld (Val := Elt Ideal) (e' := .bf16) W (Rect.unit (s := S1024x1024) ![o, 0] ![N, 1024] ib)

/-- Such a row is the weight's own. -/
theorem rowsW_apply (N o : Nat) (ib) (j : Fin N) (k : Fin 1024) (J : Fin 1024) (hJ : J.val = o + j.val) : rowsW W N o ib (ValueIdx.ix2 j k) = W (ValueIdx.ix2 J k) :=
  View.ld_unit_apply_of _ _ _ _ _ _ fun a => by
    match a with | ⟨0, _⟩ => exact hJ | ⟨1, _⟩ => exact (Nat.zero_add _).symm

variable (o : Nat) (i0 : ∀ a, (![0, o, 0] : Fin 3 → Nat) a + (![1, 128, 512] : Fin 3 → Nat) a ≤ S2x512x512.size a) (i1 : ∀ a, (![1, o, 0] : Fin 3 → Nat) a + (![1, 128, 512] : Fin 3 → Nat) a ≤ S2x512x512.size a)
  (iz : ∀ a, (![o, 0] : Fin 2 → Nat) a + (![128, 512] : Fin 2 → Nat) a ≤ S512x512.size a) (ib : ∀ a, (![o, 0] : Fin 2 → Nat) a + (![128, 256] : Fin 2 → Nat) a ≤ S512x256.size a)
  (ix : ∀ a, (![o, 0] : Fin 2 → Nat) a + (![128, 1024] : Fin 2 → Nat) a ≤ S512x1024.size a)

/-- The residual rows of the strip of a block that starts at row `o`. -/
abbrev stripX : FVec Ideal S128x1024 .f32 :=
  k0_pay30 (F := Ideal) (k0_pay2 md) (k0_pay29 (stripDir O 0 o i0) (stripDir O 1 o i1) ones nw (strip (f := .bf16) Z o iz)) (rowsW W 512 0 inb_S1024x1024_S512x1024_0_0)
    (strip (f := .bf16) B o ib) (rowsW W 256 512 inb_S1024x1024_S256x1024_512_0) (strip (f := .bf16) C o ib) (rowsW W 256 768 inb_S1024x1024_S256x1024_768_0) (strip (f := .f32) X o ix)

/-- Its modulated norm. -/
abbrev stripH : FVec Ideal S128x1024 .bf16 :=
  k0_pay1 (F := Ideal) (k0_pay31 (k0_pay2 md)) (k0_pay32 (k0_pay2 md))
    (k0_pay33 (k0_pay2 md) (k0_pay29 (stripDir O 0 o i0) (stripDir O 1 o i1) ones nw (strip (f := .bf16) Z o iz)) (rowsW W 512 0 inb_S1024x1024_S512x1024_0_0)
      (strip (f := .bf16) B o ib) (rowsW W 256 512 inb_S1024x1024_S256x1024_512_0) (strip (f := .bf16) C o ib) (rowsW W 256 768 inb_S1024x1024_S256x1024_768_0) (strip (f := .f32) X o ix) g)
    (Scalar.ofBits .f32 0x3F800000#32)

/-- The strip's rows are the block's own. -/
theorem stripX_apply (hq : ∀ e : Fin 512, nw (ValueIdx.ix2 0 e) = q ⟨e.val % 128, by omega⟩)
    (ho : ∀ a b : Fin 512, ones (ValueIdx.ix2 a b) = if a.val / 128 = b.val / 128 then 1 else 0) (r : Fin 128) (k : Fin 1024) (R : Fin 512) (hR : R.val = o + r.val) :
    stripX md O Z B C X nw ones W o i0 i1 iz ib ix (ValueIdx.ix2 r k) = blkX md O Z B C X q W R k := by
  refine (x_apply md _ _ _ _ _ _ _ r k).trans ?_
  unfold blkX xrow
  rw [sum_parts]
  refine congrArg₂ (· + ·) (strip_apply (f := .f32) X o ix r k R hR) (congrArg (_ * ·) (congrArg₂ (· + ·) (congrArg₂ (· + ·) ?_ ?_) ?_))
  · refine Finset.sum_congr rfl fun j _ => congrArg₂ (· * ·) ?_ (rowsW_apply W 512 0 _ j k ⟨j.val, by omega⟩ (Nat.zero_add _).symm)
    refine (gated_apply _ _ ones nw _ q hq ho r j).trans ?_
    unfold mixed
    rw [dif_pos (show j.val < 512 from j.isLt)]
    simp only [stripDir_apply O 0 o i0 r _ 0 rfl R hR, stripDir_apply O 1 o i1 r _ 1 rfl R hR, strip_apply (f := .bf16) Z o iz r _ R hR]
  · refine Finset.sum_congr rfl fun j _ => congrArg₂ (· * ·) ?_ (rowsW_apply W 256 512 _ j k ⟨512 + j.val, by omega⟩ rfl)
    refine (strip_apply (f := .bf16) B o ib r j R hR).trans ?_
    unfold mixed
    rw [dif_neg (show ¬ 512 + j.val < 512 by omega), dif_pos (show 512 + j.val < 768 by omega)]
    exact congrArg (fun e => B (ValueIdx.ix2 R e)) (Fin.ext (Nat.add_sub_cancel_left 512 j.val).symm)
  · refine Finset.sum_congr rfl fun j _ => congrArg₂ (· * ·) ?_ (rowsW_apply W 256 768 _ j k ⟨768 + j.val, by omega⟩ rfl)
    refine (strip_apply (f := .bf16) C o ib r j R hR).trans ?_
    unfold mixed
    rw [dif_neg (show ¬ 768 + j.val < 512 by omega), dif_neg (show ¬ 768 + j.val < 768 by omega)]
    exact congrArg (fun e => C (ValueIdx.ix2 R e)) (Fin.ext (Nat.add_sub_cancel_left 768 j.val).symm)

/-- A strip of the residual rows. -/
theorem tile_x (hq : ∀ e : Fin 512, nw (ValueIdx.ix2 0 e) = q ⟨e.val % 128, by omega⟩)
    (ho : ∀ a b : Fin 512, ones (ValueIdx.ix2 a b) = if a.val / 128 = b.val / 128 then 1 else 0) (y : S512x1024.Idx) :
    View.TileAt (Val := Elt Ideal) (S := S512x1024) (e := .f32) y ![o, 0] ![128, 1024] (stripX md O Z B C X nw ones W o i0 i1 iz ib ix) (blkX md O Z B C X q W (y 0) (y 1)) := by
  intro x hx
  have e1 : x 1 = y 1 := Fin.ext (((hx 1).trans (Nat.zero_add _)).symm)
  refine (congrArg _ (ValueIdx.eq_ix2 x)).trans ((stripX_apply md O Z B C X nw q ones W o i0 i1 iz ib ix hq ho (x 0) (x 1) (y 0) (hx 0)).trans ?_)
  rw [e1]

/-- A strip of their modulated norms. -/
theorem tile_h (hq : ∀ e : Fin 512, nw (ValueIdx.ix2 0 e) = q ⟨e.val % 128, by omega⟩)
    (ho : ∀ a b : Fin 512, ones (ValueIdx.ix2 a b) = if a.val / 128 = b.val / 128 then 1 else 0) (y : S512x1024.Idx) :
    View.TileAt (Val := Elt Ideal) (S := S512x1024) (e := .bf16) y ![o, 0] ![128, 1024] (stripH md O Z B C X nw ones W g o i0 i1 iz ib ix)
      (hrow (blkX md O Z B C X q W (y 0)) (fun k => g (ValueIdx.ix2 0 k)) (fun k => md (ValueIdx.ix2 0 ⟨3072 + k.val, by omega⟩)) (fun k => md (ValueIdx.ix2 0 ⟨4096 + k.val, by omega⟩)) (y 1)) := by
  intro x hx
  have e1 : x 1 = y 1 := Fin.ext (((hx 1).trans (Nat.zero_add _)).symm)
  refine (congrArg _ (ValueIdx.eq_ix2 x)).trans ((h_apply md _ _ _ _ _ _ _ g (x 0) (x 1)).trans ?_)
  rw [e1]
  exact congrArg (hrow · _ _ _ (y 1)) (funext fun k => stripX_apply md O Z B C X nw q ones W o i0 i1 iz ib ix hq ho (x 0) k (y 0) (hx 0))

end Block

variable (m : (ℓ : Loc nD τ sig) → Buf (Elt Ideal) ℓ) (c : Dev nD)

/-- The delta network's two directions as the program is launched, and so below for the other arguments. -/
abbrev argO : FVec Ideal S2x32768x512 .f32 := m ((c : Thread nD τ).loc main_arg0)
/-- The gate. -/
abbrev argZ : FVec Ideal S32768x512 .f32 := m ((c : Thread nD τ).loc main_arg1)
/-- The attention's output. -/
abbrev argB : FVec Ideal S32768x256 .f32 := m ((c : Thread nD τ).loc main_arg2)
/-- The Fourier mixing's output. -/
abbrev argC : FVec Ideal S32768x256 .f32 := m ((c : Thread nD τ).loc main_arg3)
/-- The residual stream. -/
abbrev argX : FVec Ideal S32768x1024 .f32 := m ((c : Thread nD τ).loc main_arg4)
/-- The modulation. -/
abbrev argMod : FVec Ideal S2x6144 .f32 := m ((c : Thread nD τ).loc main_arg5)
/-- The delta norm's weight. -/
abbrev argQ : FVec Ideal S128 .f32 := m ((c : Thread nD τ).loc main_arg6)
/-- The output weight. -/
abbrev argW : FVec Ideal S1024x1024 .f32 := m ((c : Thread nD τ).loc main_arg7)
/-- The norm's weight. -/
abbrev argG : FVec Ideal S1024 .f32 := m ((c : Thread nD τ).loc main_arg8)

/-- The residual row `n` at column `k`. -/
def Xo (n : Fin 32768) (k : Fin 1024) : EReal :=
  xrow (fun e => argO m c (ValueIdx.ix3 0 n e) + argO m c (ValueIdx.ix3 1 n e)) (fun e => argZ m c (ValueIdx.ix2 n e)) (fun d => argQ m c (ValueIdx.ix1 d)) (fun e => argB m c (ValueIdx.ix2 n e))
    (fun e => argC m c (ValueIdx.ix2 n e)) (fun j k => argW m c (ValueIdx.ix2 j k)) (fun k => argMod m c (ValueIdx.ix2 ⟨n.val / 16384, by omega⟩ ⟨2048 + k.val, by omega⟩))
    (fun k => argX m c (ValueIdx.ix2 n k)) k

/-- The first result. -/
def outX : FVec Ideal S32768x1024 .f32 := fun i => Xo m c (i 0) (i 1)
/-- The second result. -/
def outH : FVec Ideal S32768x1024 .bf16 := fun i => hrow (Xo m c (i 0)) (fun k => argG m c (ValueIdx.ix1 k))
  (fun k => argMod m c (ValueIdx.ix2 ⟨(i 0).val / 16384, by have h : (i 0).val < 32768 := (i 0).isLt; omega⟩ ⟨3072 + k.val, by omega⟩))
  (fun k => argMod m c (ValueIdx.ix2 ⟨(i 0).val / 16384, by have h : (i 0).val < 32768 := (i 0).isLt; omega⟩ ⟨4096 + k.val, by omega⟩)) (i 1)

/-- Where the windows stand at point `t`. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![t.val, 0] ∧ k0_off1 (grid0.coords t) = ![t.val / 32, 0] :=
  (by decide +kernel : ∀ t : Fin grid0.N, _)

/-- The modulation the launch reads has six rows of zeros below the argument's two. -/
theorem V_mod (r : Fin 8) (hr : r.val < 2) (j : Fin 6144) : (V m c main_v1 : FVec Ideal S8x6144 .f32) (ValueIdx.ix2 r j) = argMod m c (ValueIdx.ix2 ⟨r.val, hr⟩ j) := by
  show StableHlo.after hostOps0 (fun b => m (c, b)) main_v1 _ = _
  unfold hostOps0; after_results
  exact concatenate_pair_apply_left (t := S8x6144) (s₁ := S2x6144) (s₂ := S6x6144) 0 _ _ _ _ rfl (ValueIdx.ix2 (n0 := 2) (n1 := 6144) ⟨r.val, hr⟩ j)
    fun b => by match b with | ⟨0, _⟩ => rfl | ⟨1, _⟩ => rfl

/-- The delta network's two directions as the launch reads them. -/
theorem V_o : V m c main_v2 = (argO m c : FVec Ideal S2x32768x512 .f32) := by
  show StableHlo.after hostOps0 (fun b => m (c, b)) main_v2 = _
  unfold hostOps0; after_results; rfl
/-- The delta network's gate as the launch reads it. -/
theorem V_z : V m c main_v3 = (argZ m c : FVec Ideal S32768x512 .f32) := by
  show StableHlo.after hostOps0 (fun b => m (c, b)) main_v3 = _
  unfold hostOps0; after_results; rfl
/-- The attention's output as the launch reads it. -/
theorem V_b : V m c main_v4 = (argB m c : FVec Ideal S32768x256 .f32) := by
  show StableHlo.after hostOps0 (fun b => m (c, b)) main_v4 = _
  unfold hostOps0; after_results; rfl
/-- The Fourier mixing's output as the launch reads it. -/
theorem V_c : V m c main_v5 = (argC m c : FVec Ideal S32768x256 .f32) := by
  show StableHlo.after hostOps0 (fun b => m (c, b)) main_v5 = _
  unfold hostOps0; after_results; rfl
/-- The output weight as the launch reads it. -/
theorem V_w : V m c main_v6 = (argW m c : FVec Ideal S1024x1024 .f32) := by
  show StableHlo.after hostOps0 (fun b => m (c, b)) main_v6 = _
  unfold hostOps0; after_results; rfl

/-- The delta norm's weight, four times over in a row. -/
theorem V_q (e : Fin 512) : (V m c main_v10 : FVec Ideal S1x512 .f32) (ValueIdx.ix2 0 e) = argQ m c (ValueIdx.ix1 ⟨e.val % 128, by omega⟩) := by
  show StableHlo.after hostOps0 (fun b => m (c, b)) main_v10 _ = _
  unfold hostOps0; after_results
  show shapeCast S1x512 (shapeCast S512 (broadcastInDim S4x128 ![0, 1] bcast_S1x128_S4x128_0_1 (shapeCast S1x128 (argQ m c) shapeCasts_S128_S1x128))
    shapeCasts_S4x128_S512) shapeCasts_S512_S1x512 (ValueIdx.ix2 0 e) = _
  pointwise
  rfl

/-- The norm's weight as a row. -/
theorem V_g (k : Fin 1024) : (V m c main_v11 : FVec Ideal S1x1024 .f32) (ValueIdx.ix2 0 k) = argG m c (ValueIdx.ix1 k) := by
  show StableHlo.after hostOps0 (fun b => m (c, b)) main_v11 _ = _
  unfold hostOps0; after_results
  show shapeCast S1x1024 (argG m c) shapeCasts_S1024_S1x1024 (ValueIdx.ix2 0 k) = _
  pointwise
  rfl

/-- The table of ones. -/
theorem V_ones (a b : Fin 512) : (V m c main_cst : FVec Ideal S512x512 .bf16) (ValueIdx.ix2 a b) = if a.val / 128 = b.val / 128 then (1 : EReal) else (0 : EReal) := by
  show StableHlo.after hostOps0 (fun b => m (c, b)) main_cst _ = _
  unfold hostOps0; after_results
  refine Eq.trans ?_ (ones_apply a b)
  unfold lit0
  rfl

/-- Point `t` reads the rows from `512 t` on. -/
theorem blk_o (t : Fin cfg0.N) (d : Fin 2) (r : Fin 512) (k : Fin 512) (n : Fin 32768) (hn : n.val = t.val * 512 + r.val) :
    (iblk m c 0 t : FVec Ideal S2x512x512 .bf16) (ValueIdx.ix3 d r k) = argO m c (ValueIdx.ix3 d n k) := by
  unfold iblk
  show ((cfg0.win 0).blk t).view.read (Elt Ideal) (V m c main_v2) _ = _
  rw [V_o]
  blk_ext! [idx t]
  exact hn.symm
/-- So it does of the gate. -/
theorem blk_z (t : Fin cfg0.N) (r : Fin 512) (k : Fin 512) (n : Fin 32768) (hn : n.val = t.val * 512 + r.val) :
    (iblk m c 1 t : FVec Ideal S512x512 .bf16) (ValueIdx.ix2 r k) = argZ m c (ValueIdx.ix2 n k) := by
  unfold iblk
  show ((cfg0.win 1).blk t).view.read (Elt Ideal) (V m c main_v3) _ = _
  rw [V_z]
  blk_ext! [idx t]
  exact hn.symm
/-- So it does of the attention's output. -/
theorem blk_b (t : Fin cfg0.N) (r : Fin 512) (k : Fin 256) (n : Fin 32768) (hn : n.val = t.val * 512 + r.val) :
    (iblk m c 2 t : FVec Ideal S512x256 .bf16) (ValueIdx.ix2 r k) = argB m c (ValueIdx.ix2 n k) := by
  unfold iblk
  show ((cfg0.win 2).blk t).view.read (Elt Ideal) (V m c main_v4) _ = _
  rw [V_b]
  blk_ext! [idx t]
  exact hn.symm
/-- So it does of the Fourier mixing's output. -/
theorem blk_c (t : Fin cfg0.N) (r : Fin 512) (k : Fin 256) (n : Fin 32768) (hn : n.val = t.val * 512 + r.val) :
    (iblk m c 3 t : FVec Ideal S512x256 .bf16) (ValueIdx.ix2 r k) = argC m c (ValueIdx.ix2 n k) := by
  unfold iblk
  show ((cfg0.win 3).blk t).view.read (Elt Ideal) (V m c main_v5) _ = _
  rw [V_c]
  blk_ext! [idx t]
  exact hn.symm
/-- So it does of the residual stream. -/
theorem blk_x (t : Fin cfg0.N) (r : Fin 512) (k : Fin 1024) (n : Fin 32768) (hn : n.val = t.val * 512 + r.val) :
    (iblk m c 4 t : FVec Ideal S512x1024 .f32) (ValueIdx.ix2 r k) = argX m c (ValueIdx.ix2 n k) := by
  unfold iblk
  show ((cfg0.win 4).blk t).view.read (Elt Ideal) (V m c main_arg4) _ = _
  rw [V_main_arg4]
  blk_ext! [idx t]
  exact hn.symm

/-- Every point reads the whole of the delta norm's weight, and so of the next three arrays. -/
theorem blk_q (t : Fin cfg0.N) : (iblk m c 6 t : FVec Ideal S1x512 .f32) = V m c main_v10 := by
  unfold iblk
  show ((cfg0.win 6).blk t).view.read (Elt Ideal) (V m c main_v10) = _
  blk_ext! [idx t]
/-- The table of ones. -/
theorem blk_ones (t : Fin cfg0.N) : (iblk m c 7 t : FVec Ideal S512x512 .bf16) = V m c main_cst := by
  unfold iblk
  show ((cfg0.win 7).blk t).view.read (Elt Ideal) (V m c main_cst) = _
  blk_ext! [idx t]
/-- The output weight. -/
theorem blk_w (t : Fin cfg0.N) : (iblk m c 8 t : FVec Ideal S1024x1024 .bf16) = V m c main_v6 := by
  unfold iblk
  show ((cfg0.win 8).blk t).view.read (Elt Ideal) (V m c main_v6) = _
  blk_ext! [idx t]
/-- The norm's weight. -/
theorem blk_g (t : Fin cfg0.N) : (iblk m c 9 t : FVec Ideal S1x1024 .f32) = V m c main_v11 := by
  unfold iblk
  show ((cfg0.win 9).blk t).view.read (Elt Ideal) (V m c main_v11) = _
  blk_ext! [idx t]

/-- The modulation row that point `t` reads. -/
abbrev modRow (t : Fin cfg0.N) : FVec Ideal S1x6144 .f32 :=
  View.ld (Val := Elt Ideal) (e' := .f32) (iblk m c 5 t : FVec Ideal S8x6144 .f32) (Rect.unit (s := S8x6144) (k0_off1 (grid0.coords t)) ![1, 6144] (k0_off1_inb _))

/-- It is that of its own batch. -/
theorem blk_mod (t : Fin cfg0.N) (j : Fin 6144) (b : Fin 2) (hb : b.val = t.val / 32) : modRow m c t (ValueIdx.ix2 0 j) = argMod m c (ValueIdx.ix2 b j) := by
  have e : (iblk m c 5 t : FVec Ideal S8x6144 .f32) = V m c main_v1 := by
    unfold iblk
    show ((cfg0.win 5).blk t).view.read (Elt Ideal) (V m c main_v1) = _
    blk_ext! [idx t]
  have o := (idx t).2.2.2.2.2.2.2.2.2.2.2.2
  unfold modRow
  rw [e]
  refine (View.ld_unit_apply_of _ _ _ _ _ (ValueIdx.ix2 (n0 := 8) (n1 := 6144) ⟨b.val, by omega⟩ j) fun a => ?_).trans (V_mod m c _ b.isLt j)
  match a with
  | ⟨0, _⟩ => exact hb.trans (congrFun o 0).symm
  | ⟨1, _⟩ => exact (Nat.zero_add _).symm.trans (congrArg (· + j.val) (congrFun o 1).symm)

/-- The block's rows at point `t` are the array's. -/
theorem blkX_eq (t : Fin cfg0.N) (r : Fin 512) (n : Fin 32768) (hn : n.val = t.val * 512 + r.val) :
    blkX (modRow m c t) (iblk m c 0 t) (iblk m c 1 t) (iblk m c 2 t) (iblk m c 3 t) (iblk m c 4 t) (fun d => argQ m c (ValueIdx.ix1 d)) (iblk m c 8 t) r = Xo m c n := by
  have hb : n.val / 16384 = t.val / 32 := by omega
  funext k
  unfold blkX Xo
  rw [blk_w, V_w]
  simp only [blk_o m c t _ r _ n hn, blk_z m c t r _ n hn, blk_b m c t r _ n hn, blk_c m c t r _ n hn, blk_x m c t r _ n hn, blk_mod m c t _ ⟨n.val / 16384, by omega⟩ hb]

end Cert.MixOut
-- ==== Proof.MixOutRest.lean ====
module

public import proofs.«01_k».proof.Proof.MixOutVal

@[expose] public section

set_option maxRecDepth 16384

noncomputable section

namespace Cert.MixOut

open Cert.Kernel5Ideal Cert.Kernel5Ideal.Gen
open Idealize.ShloMosaic Idealize.ShloMosaic.TcCoe Idealize.SL.Sem
open Cert.InProj (hrow rows4)
open scoped BigOperators

section Forms

variable (md : FVec Ideal S1x6144 .f32) (a b : FVec Ideal S1x128x512 .bf16) (ones : FVec Ideal S512x512 .bf16) (nw : FVec Ideal S1x512 .f32) (z : FVec Ideal S128x512 .bf16)
  (w1 : FVec Ideal S512x1024 .bf16) (ob : FVec Ideal S128x256 .bf16) (w2 : FVec Ideal S256x1024 .bf16) (oc : FVec Ideal S128x256 .bf16) (w3 : FVec Ideal S256x1024 .bf16)
  (x : FVec Ideal S128x1024 .f32) (g : FVec Ideal S1x1024 .f32)

/-- The first strip of the residual rows is computed as the last one is. -/
theorem form0 : k0_pay7 (F := Ideal) (k0_pay2 md) (k0_pay3 a b) (k0_pay4 nw) (k0_pay5 a b ones) k0_pay6 z w1 ob w2 oc w3 x
    = k0_pay30 (k0_pay2 md) (k0_pay29 a b ones nw z) w1 ob w2 oc w3 x := rfl
/-- The second strip's. -/
theorem form1 : k0_pay14 (F := Ideal) (k0_pay2 md) (k0_pay13 a b ones nw) z w1 ob w2 oc w3 x = k0_pay30 (k0_pay2 md) (k0_pay29 a b ones nw z) w1 ob w2 oc w3 x := rfl
/-- The third strip's. -/
theorem form2 : k0_pay23 (F := Ideal) (k0_pay2 md) (k0_pay21 a b ones nw) (k0_pay22 z) w1 ob w2 oc w3 x = k0_pay30 (k0_pay2 md) (k0_pay29 a b ones nw z) w1 ob w2 oc w3 x := rfl

/-- So is the first strip of their modulated norms. -/
theorem formH0 : k0_pay12 (F := Ideal) (k0_pay7 (k0_pay2 md) (k0_pay3 a b) (k0_pay4 nw) (k0_pay5 a b ones) k0_pay6 z w1 ob w2 oc w3 x) (k0_pay8 g) (k0_pay9 (k0_pay2 md)) (k0_pay10 (k0_pay2 md)) (k0_pay11 (k0_pay2 md) (k0_pay3 a b) (k0_pay4 nw) (k0_pay5 a b ones) k0_pay6 z w1 ob w2 oc w3 x)
    = k0_pay1 (k0_pay31 (k0_pay2 md)) (k0_pay32 (k0_pay2 md)) (k0_pay33 (k0_pay2 md) (k0_pay29 a b ones nw z) w1 ob w2 oc w3 x g) (Scalar.ofBits .f32 0x3F800000#32) := by
  unfold k0_pay11 k0_pay33
  rw [form0]
  rfl
/-- The second strip's. -/
theorem formH1 : k0_pay20 (F := Ideal) (k0_pay14 (k0_pay2 md) (k0_pay13 a b ones nw) z w1 ob w2 oc w3 x) (k0_pay15 g) (k0_pay16 (k0_pay2 md)) (k0_pay17 (k0_pay2 md)) (k0_pay18 (k0_pay2 md) (k0_pay13 a b ones nw) z w1 ob w2 oc w3 x) k0_pay19
    = k0_pay1 (k0_pay31 (k0_pay2 md)) (k0_pay32 (k0_pay2 md)) (k0_pay33 (k0_pay2 md) (k0_pay29 a b ones nw z) w1 ob w2 oc w3 x g) (Scalar.ofBits .f32 0x3F800000#32) := by
  unfold k0_pay18 k0_pay33
  rw [form1]
  rfl
/-- The third strip's. -/
theorem formH2 : k0_pay28 (F := Ideal) (k0_pay23 (k0_pay2 md) (k0_pay21 a b ones nw) (k0_pay22 z) w1 ob w2 oc w3 x) (k0_pay24 g) (k0_pay25 (k0_pay2 md)) (k0_pay26 (k0_pay2 md)) (k0_pay27 (k0_pay2 md) (k0_pay21 a b ones nw) (k0_pay22 z) w1 ob w2 oc w3 x)
    = k0_pay1 (k0_pay31 (k0_pay2 md)) (k0_pay32 (k0_pay2 md)) (k0_pay33 (k0_pay2 md) (k0_pay29 a b ones nw z) w1 ob w2 oc w3 x g) (Scalar.ofBits .f32 0x3F800000#32) := by
  unfold k0_pay27 k0_pay33
  rw [form2]
  rfl

end Forms

variable (m : (ℓ : Loc nD τ sig) → Buf (Elt Ideal) ℓ) (c : Dev nD)

/-- The delta norm's weight as point `t` reads it. -/
theorem pt_q (t : Fin cfg0.N) (e : Fin 512) : (iblk m c 6 t : FVec Ideal S1x512 .f32) (ValueIdx.ix2 0 e) = argQ m c (ValueIdx.ix1 ⟨e.val % 128, by omega⟩) :=
  (congrFun (blk_q m c t) _).trans (V_q m c e)
/-- The table of ones as point `t` reads it. -/
theorem pt_ones (t : Fin cfg0.N) (a b : Fin 512) : (iblk m c 7 t : FVec Ideal S512x512 .bf16) (ValueIdx.ix2 a b) = if a.val / 128 = b.val / 128 then (1 : EReal) else (0 : EReal) :=
  (congrFun (blk_ones m c t) _).trans (V_ones m c a b)

set_option maxHeartbeats 2000000 in
/-- The launch leaves the first result at `outX`. -/
theorem final10 : (Gen.dats m 0 c).arrAt 10 cfg0.N = outX m c := by
  refine (Gen.dats m 0 c).arrAt_eq_of_covers 10 _ (by decide +kernel) fun t hf y => ?_
  have h0 : ((((cfg0.win 10).blk t).view.emb y) 0).val = t.val * 512 + (y 0).val := by blk_simp [idx t]
  have h1 : ((((cfg0.win 10).blk t).view.emb y) 1).val = (y 1).val := by blk_simp [idx t]
  blk_simp
  rw [after0_10]
  unfold outsAt0
  frame_out
  have tile (o i0 i1 iz ib ix) := tile_x (modRow m c t) (iblk m c 0 t) (iblk m c 1 t) (iblk m c 2 t) (iblk m c 3 t) (iblk m c 4 t) (iblk m c 6 t) (fun d => argQ m c (ValueIdx.ix1 d))
    (iblk m c 7 t) (iblk m c 8 t) o i0 i1 iz ib ix (pt_q m c t) (pt_ones m c t) y
  have t2 := tile 256 inb_S2x512x512_S1x128x512_0_256_0 inb_S2x512x512_S1x128x512_1_256_0 inb_S512x512_S128x512_256_0 inb_S512x256_S128x256_256_0 inb_S512x1024_S128x1024_256_0
  have t1 := tile 128 inb_S2x512x512_S1x128x512_0_128_0 inb_S2x512x512_S1x128x512_1_128_0 inb_S512x512_S128x512_128_0 inb_S512x256_S128x256_128_0 inb_S512x1024_S128x1024_128_0
  have t0 := tile 0 inb_S2x512x512_S1x128x512_0_0_0 inb_S2x512x512_S1x128x512_1_0_0 inb_S512x512_S128x512_0_0 inb_S512x256_S128x256_0_0 inb_S512x1024_S128x1024_0_0
  rw [stripX, ← form2] at t2
  rw [stripX, ← form1] at t1
  rw [stripX, ← form0] at t0
  refine (rows4 (N := 1024) (f := .f32) _ _ _ _ _ _ _ _ y _
    (tile 384 inb_S2x512x512_S1x128x512_0_384_0 inb_S2x512x512_S1x128x512_1_384_0 inb_S512x512_S128x512_384_0 inb_S512x256_S128x256_384_0 inb_S512x1024_S128x1024_384_0) t2 t1 t0).trans ?_
  rw [blkX_eq m c t (y 0) _ h0]
  exact congrArg (Xo m c _) (Fin.ext h1.symm)

set_option maxHeartbeats 2000000 in
/-- The launch leaves the second result at `outH`. -/
theorem final11 : (Gen.dats m 0 c).arrAt 11 cfg0.N = outH m c := by
  refine (Gen.dats m 0 c).arrAt_eq_of_covers 11 _ (by decide +kernel) fun t hf y => ?_
  have h0 : ((((cfg0.win 11).blk t).view.emb y) 0).val = t.val * 512 + (y 0).val := by blk_simp [idx t]
  have h1 : ((((cfg0.win 11).blk t).view.emb y) 1).val = (y 1).val := by blk_simp [idx t]
  blk_simp
  rw [after0_11]
  unfold outsAt0
  frame_out
  have tile (o i0 i1 iz ib ix) := tile_h (modRow m c t) (iblk m c 0 t) (iblk m c 1 t) (iblk m c 2 t) (iblk m c 3 t) (iblk m c 4 t) (iblk m c 6 t) (fun d => argQ m c (ValueIdx.ix1 d))
    (iblk m c 7 t) (iblk m c 8 t) (iblk m c 9 t) o i0 i1 iz ib ix (pt_q m c t) (pt_ones m c t) y
  have t2 := tile 256 inb_S2x512x512_S1x128x512_0_256_0 inb_S2x512x512_S1x128x512_1_256_0 inb_S512x512_S128x512_256_0 inb_S512x256_S128x256_256_0 inb_S512x1024_S128x1024_256_0
  have t1 := tile 128 inb_S2x512x512_S1x128x512_0_128_0 inb_S2x512x512_S1x128x512_1_128_0 inb_S512x512_S128x512_128_0 inb_S512x256_S128x256_128_0 inb_S512x1024_S128x1024_128_0
  have t0 := tile 0 inb_S2x512x512_S1x128x512_0_0_0 inb_S2x512x512_S1x128x512_1_0_0 inb_S512x512_S128x512_0_0 inb_S512x256_S128x256_0_0 inb_S512x1024_S128x1024_0_0
  rw [stripH, ← formH2] at t2
  rw [stripH, ← formH1] at t1
  rw [stripH, ← formH0] at t0
  refine (rows4 (N := 1024) (f := .bf16) _ _ _ _ _ _ _ _ y _
    (tile 384 inb_S2x512x512_S1x128x512_0_384_0 inb_S2x512x512_S1x128x512_1_384_0 inb_S512x512_S128x512_384_0 inb_S512x256_S128x256_384_0 inb_S512x1024_S128x1024_384_0) t2 t1 t0).trans ?_
  have hb : (((((cfg0.win 11).blk t).view.emb y) 0).val) / 16384 = t.val / 32 := by have hy : (y 0).val < 512 := (y 0).isLt; omega
  rw [blkX_eq m c t (y 0) _ h0, blk_g]
  unfold outH
  have e1 : y 1 = (((cfg0.win 11).blk t).view.emb y) 1 := Fin.ext h1.symm
  have hm (j : Fin 6144) := blk_mod m c t j ⟨_, by have h := ((((cfg0.win 11).blk t).view.emb y) 0).isLt; exact Nat.div_lt_of_lt_mul h⟩ hb
  simp only [hm]
  exact (congrArg (hrow _ · _ _ (y 1)) (funext (V_g m c))).trans (congrArg (hrow _ _ _ _) e1)

end Cert.MixOut
-- ==== Proof.MixOutRef.lean ====
module

public import proofs.«01_k».proof.Proof.MixOutRest
public import proofs.«01_k».proof.Proof.Gen.Reference5Ideal.Run
public import Idealize.ShloMosaic.Lib.StackMember

@[expose] public section

noncomputable section

namespace Cert.MixOutRef

open Cert.Reference5Ideal Cert.Reference5Ideal.Gen Idealize.ShloMosaic Idealize.ShloMosaic.TcCoe Idealize.SL.Sem
open Idealize.ShloMosaic.StackMember (dotGeneral_plain_apply)
open Cert.InProj (hrow)
open Cert.MixOut (headNorm gated mixed xrow)

variable (O : FVec Ideal S2x32768x512 .f32) (z : FVec Ideal S32768x512 .f32) (B C : FVec Ideal S32768x256 .f32) (x : FVec Ideal S32768x1024 .f32) (md : FVec Ideal S2x6144 .f32)
  (q : FVec Ideal S128 .f32) (w : FVec Ideal S1024x1024 .f32) (g : FVec Ideal S1024 .f32)

/-- Rows split into heads. -/
abbrev headsT (y : FVec Ideal S32768x512 .f32) : FVec Ideal S32768x4x128 .f32 := shapeCast _ y shapeCasts_S32768x512_S32768x4x128

/-- They at row `n`, head `h`, column `d`. -/
theorem headsT_apply (y : FVec Ideal S32768x512 .f32) (n : Fin 32768) (h : Fin 4) (d : Fin 128) : headsT y (ValueIdx.ix3 n h d) = y (ValueIdx.ix2 n ⟨128 * h.val + d.val, by omega⟩) := by
  refine shapeCast_apply _ _ _ _ ?_
  rw [Shape.rowMajor_val_two, Shape.rowMajor_val_three]
  show n.val * 512 + (128 * h.val + d.val) = (n.val * 4 + h.val) * 128 + d.val
  omega

/-- The two directions of the delta network added, in heads. -/
def sT : FVec Ideal S32768x4x128 .f32 :=
  addf (headsT (shapeCast _ (extractStridedSlice S1x32768x512 ![0, 0, 0] O slices_S2x32768x512_S1x32768x512_0_0_0) shapeCasts_S1x32768x512_S32768x512))
    (headsT (shapeCast _ (extractStridedSlice S1x32768x512 ![1, 0, 0] O slices_S2x32768x512_S1x32768x512_1_0_0) shapeCasts_S1x32768x512_S32768x512))

/-- It at row `n`, head `h`, column `d`. -/
theorem sT_apply (n : Fin 32768) (h : Fin 4) (d : Fin 128) : sT O (ValueIdx.ix3 n h d)
    = O (ValueIdx.ix3 0 n ⟨128 * h.val + d.val, by omega⟩) + O (ValueIdx.ix3 1 n ⟨128 * h.val + d.val, by omega⟩) := by
  refine congrArg₂ (· + ·) ((headsT_apply _ n h d).trans ?_) ((headsT_apply _ n h d).trans ?_)
  all_goals
    pointwise
    try rfl

/-- The delta network's gated output, in heads. -/
def gT (S Z : FVec Ideal S32768x4x128 .f32) : FVec Ideal S32768x4x128 .f32 :=
  mulf (mulf (mulf S (broadcastInDim S32768x4x128 ![0, 1, 2] bcast_S32768x4x1_S32768x4x128_0_1_2 (Host.rsqrt (addf (Host.divf (broadcastInDim S32768x4x1 ![0, 1] bcast_S32768x4_S32768x4x1_0_1 (Host.reduceAdd (mulf S S) (constant S_ .f32 0x00000000#32) reducesTo_S32768x4x128_S32768x4_d2 h_S_)) (broadcastInDim S32768x4x1 ![] bcast_S_S32768x4x1 (constant S_ .f32 0x43000000#32))) (broadcastInDim S32768x4x1 ![] bcast_S_S32768x4x1 (constant S_ .f32 0x358637BD#32)))))) (broadcastInDim S32768x4x128 ![0, 1, 2] bcast_S1x1x128_S32768x4x128_0_1_2 (broadcastInDim S1x1x128 ![2] bcast_S128_S1x1x128_2 q)))
    (mulf Z (Host.divf (broadcastInDim S32768x4x128 ![] bcast_S_S32768x4x128 (constant S_ .f32 0x3F800000#32)) (addf (broadcastInDim S32768x4x128 ![] bcast_S_S32768x4x128 (constant S_ .f32 0x3F800000#32)) (Host.exp (Host.negf Z)))))

/-- It at row `n`, column `e`. -/
theorem gT_apply (n : Fin 32768) (e : Fin 512) : gT q (sT O) (headsT z) (ValueIdx.ix3 (n0 := 32768) (n1 := 4) (n2 := 128) n ⟨e.val / 128, by omega⟩ ⟨e.val % 128, by omega⟩)
    = gated (fun e => O (ValueIdx.ix3 0 n e) + O (ValueIdx.ix3 1 n e)) (fun e => z (ValueIdx.ix2 n e)) (fun d => q (ValueIdx.ix1 d)) e := by
  have hS (d : Fin 128) := sT_apply O n ⟨e.val / 128, by omega⟩ d
  have hZ := headsT_apply z n ⟨e.val / 128, by omega⟩ ⟨e.val % 128, by omega⟩
  have he : (⟨128 * (e.val / 128) + e.val % 128, by omega⟩ : Fin 512) = e := Fin.ext (Nat.div_add_mod e.val 128)
  have hS' := hS ⟨e.val % 128, by omega⟩
  simp only [he] at hS' hZ
  unfold gT gated headNorm
  generalize sT O = S at hS hS' ⊢
  generalize headsT z = Z at hZ ⊢
  pointwise
  refine congrArg₂ (· * ·) (congrArg₂ (· * ·) (congrArg₂ (· * ·) hS'
    (congrArg Ideal.rsqrt (congrArg (· + _) (congrArg (Ideal.div · _) (Finset.sum_congr rfl fun d _ => congrArg₂ (· * ·) (hS d) (hS d)))))) rfl) ?_
  rw [hZ]
  rfl

/-- Three arrays side by side, read at row `n`, column `j`. -/
theorem sides_apply (A : FVec Ideal S32768x512 .f32) (n : Fin 32768) (j : Fin 1024) :
    concatenate S32768x1024 1 [⟨S32768x512, A⟩, ⟨S32768x256, B⟩, ⟨S32768x256, C⟩] concatenates_S32768x512_S32768x256_S32768x256_S32768x1024_d1 (ValueIdx.ix2 n j)
      = if h : j.val < 512 then A (ValueIdx.ix2 n ⟨j.val, h⟩) else if h' : j.val < 768 then B (ValueIdx.ix2 n ⟨j.val - 512, by omega⟩) else C (ValueIdx.ix2 n ⟨j.val - 768, by omega⟩) := by
  have piece := concatenate_apply_piece (t := S32768x1024) 1 [⟨S32768x512, A⟩, ⟨S32768x256, B⟩, ⟨S32768x256, C⟩] concatenates_S32768x512_S32768x256_S32768x256_S32768x1024_d1 (ValueIdx.ix2 n j)
  split_ifs with h h'
  · exact piece 0 (by simp) S32768x512 A rfl rfl 0 rfl (ValueIdx.ix2 (n0 := 32768) (n1 := 512) n ⟨j.val, h⟩)
      (fun b hb => by match b with | ⟨0, _⟩ => rfl | ⟨1, _⟩ => exact absurd rfl hb) (Nat.zero_add _)
  · exact piece 1 (by simp) S32768x256 B rfl rfl 512 rfl (ValueIdx.ix2 (n0 := 32768) (n1 := 256) n ⟨j.val - 512, by omega⟩)
      (fun b hb => by match b with | ⟨0, _⟩ => rfl | ⟨1, _⟩ => exact absurd rfl hb) (Nat.add_sub_cancel' (Nat.le_of_not_lt h))
  · exact piece 2 (by simp) S32768x256 C rfl rfl 768 rfl (ValueIdx.ix2 (n0 := 32768) (n1 := 256) n ⟨j.val - 768, by omega⟩)
      (fun b hb => by match b with | ⟨0, _⟩ => rfl | ⟨1, _⟩ => exact absurd rfl hb) (Nat.add_sub_cancel' (Nat.le_of_not_lt h'))

/-- The three mixers' outputs side by side. -/
def mT : FVec Ideal S32768x1024 .f32 :=
  concatenate S32768x1024 1 [⟨S32768x512, (shapeCast _ (gT q (sT O) (headsT z)) shapeCasts_S32768x4x128_S32768x512 : FVec Ideal S32768x512 .f32)⟩, ⟨S32768x256, B⟩, ⟨S32768x256, C⟩]
    concatenates_S32768x512_S32768x256_S32768x256_S32768x1024_d1

/-- They at row `n`, column `j`. -/
theorem mT_apply (n : Fin 32768) (j : Fin 1024) : mT O z B C q (ValueIdx.ix2 n j)
    = mixed (fun e => O (ValueIdx.ix3 0 n e) + O (ValueIdx.ix3 1 n e)) (fun e => z (ValueIdx.ix2 n e)) (fun d => q (ValueIdx.ix1 d)) (fun e => B (ValueIdx.ix2 n e)) (fun e => C (ValueIdx.ix2 n e)) j := by
  unfold mT mixed
  rw [sides_apply]
  split_ifs with h h'
  · refine (shapeCast_apply _ _ _ (ValueIdx.ix3 (n0 := 32768) (n1 := 4) (n2 := 128) n ⟨j.val / 128, by omega⟩ ⟨j.val % 128, by omega⟩) ?_).trans (gT_apply O z q n ⟨j.val, h⟩)
    rw [Shape.rowMajor_val_two, Shape.rowMajor_val_three]
    show (n.val * 4 + j.val / 128) * 128 + j.val % 128 = n.val * 512 + j.val
    omega
  · rfl
  · rfl

/-- Rows split by batch. -/
abbrev batches (y : FVec Ideal S32768x1024 .f32) : FVec Ideal S2x16384x1024 .f32 := shapeCast _ y shapeCasts_S32768x1024_S2x16384x1024

/-- The batch and the position of row `n`, with a column. -/
abbrev at3 (n : Fin 32768) (k : Fin 1024) : S2x16384x1024.Idx := ValueIdx.ix3 (n0 := 2) (n1 := 16384) (n2 := 1024) ⟨n.val / 16384, by omega⟩ ⟨n.val % 16384, by omega⟩ k

/-- They at row `n`'s place. -/
theorem batches_apply (y : FVec Ideal S32768x1024 .f32) (n : Fin 32768) (k : Fin 1024) : batches y (at3 n k) = y (ValueIdx.ix2 n k) := by
  refine shapeCast_apply _ _ _ _ ?_
  rw [Shape.rowMajor_val_two, Shape.rowMajor_val_three]
  show n.val * 1024 + k.val = (n.val / 16384 * 16384 + n.val % 16384) * 1024 + k.val
  omega

/-- An array by batch, read as rows. -/
theorem rows_apply (y : FVec Ideal S2x16384x1024 .f32) (n : Fin 32768) (k : Fin 1024) : shapeCast S32768x1024 y shapeCasts_S2x16384x1024_S32768x1024 (ValueIdx.ix2 n k) = y (at3 n k) := by
  refine shapeCast_apply _ _ _ _ ?_
  rw [Shape.rowMajor_val_two, Shape.rowMajor_val_three]
  show (n.val / 16384 * 16384 + n.val % 16384) * 1024 + k.val = n.val * 1024 + k.val
  omega

/-- The reference's residual stream with the mixers' projection added. -/
def xT : FVec Ideal S2x16384x1024 .f32 :=
  addf (batches x) (mulf (broadcastInDim S2x16384x1024 ![0, 1, 2] bcast_S2x1x1024_S2x16384x1024_0_1_2 (extractStridedSlice S2x1x1024 ![0, 0, 2048] (broadcastInDim S2x1x6144 ![0, 2] bcast_S2x6144_S2x1x6144_0_2 md) slices_S2x1x6144_S2x1x1024_0_0_2048)) (batches (Host.dotGeneral dot_S32768x1024_S1024x1024_S32768x1024_1_0_0_1_n_n none (mT O z B C q) w)))

/-- It at row `n`, column `k`. -/
theorem xT_apply (n : Fin 32768) (k : Fin 1024) : xT O z B C x md q w (at3 n k)
    = xrow (fun e => O (ValueIdx.ix3 0 n e) + O (ValueIdx.ix3 1 n e)) (fun e => z (ValueIdx.ix2 n e)) (fun d => q (ValueIdx.ix1 d)) (fun e => B (ValueIdx.ix2 n e)) (fun e => C (ValueIdx.ix2 n e))
      (fun j k => w (ValueIdx.ix2 j k)) (fun k => md (ValueIdx.ix2 ⟨n.val / 16384, by omega⟩ ⟨2048 + k.val, by omega⟩)) (fun k => x (ValueIdx.ix2 n k)) k := by
  unfold xT xrow
  refine congrArg₂ (· + ·) (batches_apply x n k) (congrArg₂ (· * ·) ?_ ((batches_apply _ n k).trans ((dotGeneral_plain_apply (m := 32768) (k := 1024) (n := 1024) none _ w n k).trans ?_)))
  · pointwise
    refine congrArg md ?_
    funext a; apply Fin.ext; match a with | ⟨0, _⟩ => rfl | ⟨1, _⟩ => rfl
  · exact Finset.sum_congr rfl fun j _ => congrArg (· * w (ValueIdx.ix2 j k)) (mT_apply O z B C q n j)

/-- The reference's modulated norm. -/
def hT (X : FVec Ideal S2x16384x1024 .f32) : FVec Ideal S2x16384x1024 .f32 :=
  addf (mulf (mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 0, 4096] (broadcastInDim S2x1x6144 ![0, 2] bcast_S2x6144_S2x1x6144_0_2 md) slices_S2x1x6144_S2x1x1024_0_0_4096)))) (broadcastInDim S2x16384x1024 ![0, 1, 2] bcast_S2x1x1024_S2x16384x1024_0_1_2 (extractStridedSlice S2x1x1024 ![0, 0, 3072] (broadcastInDim S2x1x6144 ![0, 2] bcast_S2x6144_S2x1x6144_0_2 md) slices_S2x1x6144_S2x1x1024_0_0_3072))

/-- It at batch `b`, position `p`, column `k`. -/
theorem hT_apply (X : FVec Ideal S2x16384x1024 .f32) (b : Fin 2) (p : Fin 16384) (k : Fin 1024) : hT md g X (ValueIdx.ix3 b p k)
    = hrow (fun k => X (ValueIdx.ix3 b p k)) (fun k => g (ValueIdx.ix1 k)) (fun k => md (ValueIdx.ix2 b ⟨3072 + k.val, by omega⟩)) (fun k => md (ValueIdx.ix2 b ⟨4096 + k.val, by omega⟩)) k := by
  unfold hT hrow
  pointwise
  rfl

/-- The output projection kernel and its reference, over the extended reals, end with the same two results. -/
theorem algebraic : Cert.algebraic_Kernel5Ideal_Reference5Ideal := by
  intro m g m' g' _ hargs
  refine ⟨Cert.MixOut.outX m, Cert.MixOut.outH m, ?_, ?_⟩
  · refine (θ_run _ _ _).mono (fun r h c => ?_) (Cert.Kernel5Ideal.Value.run_blocks m g)
    obtain ⟨h10, h11, ha⟩ := h c
    exact ⟨h10.trans (Cert.MixOut.final10 m c), h11.trans (Cert.MixOut.final11 m c), ha⟩
  · refine (θ_run _ _ _).mono (fun r h c => ?_) (Cert.Reference5Ideal.Value.run m' g')
    obtain ⟨h0, h1, h2, h3, h4, h5, h6, h7, h8⟩ := hargs c
    obtain ⟨r0, r1, ha⟩ := h c
    unfold Cert.Reference5Ideal.Value.res_main_v59 at r1
    rw [h0, h1, h2, h3, h4, h5, h6, h7] at r0 r1
    rw [h8] at r1
    have hX := xT_apply (Cert.MixOut.argO m c) (Cert.MixOut.argZ m c) (Cert.MixOut.argB m c) (Cert.MixOut.argC m c) (Cert.MixOut.argX m c) (Cert.MixOut.argMod m c) (Cert.MixOut.argQ m c) (Cert.MixOut.argW m c)
    let X : FVec Ideal S2x16384x1024 .f32 := xT (Cert.MixOut.argO m c) (Cert.MixOut.argZ m c) (Cert.MixOut.argB m c) (Cert.MixOut.argC m c) (Cert.MixOut.argX m c) (Cert.MixOut.argMod m c) (Cert.MixOut.argQ m c) (Cert.MixOut.argW m c)
    let H : FVec Ideal S2x16384x1024 .f32 := hT (Cert.MixOut.argMod m c) (Cert.MixOut.argG m c) X
    have r0' : _ = shapeCast S32768x1024 X shapeCasts_S2x16384x1024_S32768x1024 := r0
    have r1' : _ = truncf (F := Ideal) .bf16 (shapeCast S32768x1024 H shapeCasts_S2x16384x1024_S32768x1024) bitsLt_bf16_f32 := r1
    refine ⟨r0'.trans ?_, r1'.trans ?_, ha⟩
    · funext i
      exact (congrArg (shapeCast S32768x1024 X shapeCasts_S2x16384x1024_S32768x1024) (ValueIdx.eq_ix2 i)).trans ((rows_apply X (i 0) (i 1)).trans (hX (i 0) (i 1)))
    · funext i
      refine (congrArg (shapeCast S32768x1024 H shapeCasts_S2x16384x1024_S32768x1024) (ValueIdx.eq_ix2 i)).trans ((rows_apply H (i 0) (i 1)).trans ((hT_apply _ _ X _ _ _).trans ?_))
      exact congrArg (hrow · _ _ _ (i 1)) (funext (hX (i 0)))

end Cert.MixOutRef
-- ==== Proof.Mod.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.ValueIdx
public import Idealize.ShloMosaic.Lib.MatmulPlain
public import Idealize.ShloMosaic.Lib.IdealHost
public import Idealize.ShloMosaic.Lib.Pointwise
public import Idealize.ShloMosaic.Lib.Claim

@[expose] public section

set_option maxRecDepth 16384

noncomputable section

namespace Cert.Mod

open Idealize.ShloMosaic Idealize.ShloMosaic.TcCoe Idealize.SL.Sem
open scoped BigOperators

/-- One entry of a layer's modulation: the gated conditioning row against a column of the weight, and the bias. -/
def entry (x w : Fin 1024 → EReal) (b : EReal) : EReal := ∑ k, x k * Ideal.logistic (x k) * w k + b

section Kernel

open Cert.Kernel6Ideal Cert.Kernel6Ideal.Gen

/-- What the body stores, at row `r`, column `e`. -/
theorem pay (x : FVec Ideal S8x1024 .f32) (w : FVec Ideal S1x1024x1536 .f32) (b : FVec Ideal S1x1x1536 .f32) (r : Fin 8) (e : Fin 1536) :
    k0_pay1 (F := Ideal) x w b (ValueIdx.ix3 0 r e)
      = entry (fun k => x (ValueIdx.ix2 r k)) (fun k => w (ValueIdx.ix3 0 k e)) (b (ValueIdx.ix3 0 0 e)) := by
  have hw (k : Fin 1024) : shapeCast S1024x1536 w shapeCasts_S1x1024x1536_S1024x1536 (ValueIdx.ix2 k e) = w (ValueIdx.ix3 0 k e) := by
    pointwise
    rfl
  have hd := Ideal.matmul_plain_apply (M := 8) (K := 1024) (N := 1536) (some .fp32) (mulf x (logistic x)) (shapeCast S1024x1536 w shapeCasts_S1x1024x1536_S1024x1536)
    (constant S8x1536 .f32 0x00000000#32) r e
  unfold k0_pay1 entry
  refine (shapeCast_apply _ _ _ (ValueIdx.ix2 (n0 := 8) (n1 := 1536) r e) ?_).trans ?_
  · rw [Shape.rowMajor_val_two, Shape.rowMajor_val_three]
    show r.val * 1536 + e.val = (0 * 8 + r.val) * 1536 + e.val
    omega
  refine congrArg₂ (· + ·) (hd.trans ?_) ?_
  · show Ideal.ofBits .f32 0x00000000#32 + _ = _
    rw [Ideal.ofBits_zero_f32, zero_add]
    exact Finset.sum_congr rfl fun k _ => congrArg (_ * ·) (hw k)
  · pointwise
    rfl

variable (m : (ℓ : Loc nD τ sig) → Buf (Elt Ideal) ℓ) (c : Dev nD)

/-- The conditioning rows as the program is launched. -/
abbrev argC : FVec Ideal S8x1024 .f32 := m ((c : Thread nD τ).loc main_arg0)
/-- The weight. -/
abbrev argW : FVec Ideal S2x1024x6144 .f32 := m ((c : Thread nD τ).loc main_arg1)
/-- The bias. -/
abbrev argB : FVec Ideal S2x6144 .f32 := m ((c : Thread nD τ).loc main_arg2)

/-- The whole result. -/
def out : FVec Ideal S2x8x6144 .f32 := fun i =>
  entry (fun k => argC m c (ValueIdx.ix2 (i 1) k)) (fun k => argW m c (ValueIdx.ix3 (i 0) k (i 2))) (argB m c (ValueIdx.ix2 (i 0) (i 2)))

/-- Where the windows stand at point `t`. -/
theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

/-- The bias as the launch reads it. -/
theorem V_b (l : Fin 2) (e : Fin 6144) : (V m c main_v0 : FVec Ideal S2x1x6144 .f32) (ValueIdx.ix3 l 0 e) = argB m c (ValueIdx.ix2 l e) := by
  show StableHlo.after hostOps0 (fun b => m (c, b)) main_v0 _ = _
  unfold hostOps0; after_results
  show shapeCast S2x1x6144 (argB m c) shapeCasts_S2x6144_S2x1x6144 (ValueIdx.ix3 l 0 e) = _
  pointwise
  rfl

/-- Every point reads all of the conditioning rows. -/
theorem blk_c (t : Fin cfg0.N) : (iblk m c 0 t : FVec Ideal S8x1024 .f32) = argC m c := by
  unfold iblk
  show ((cfg0.win 0).blk t).view.read (Elt Ideal) (V m c main_arg0) = _
  rw [V_main_arg0]
  blk_ext! [idx t]

/-- Point `t` reads the columns of its own layer's weight that its output block covers. -/
theorem blk_w (t : Fin cfg0.N) (k : Fin 1024) (e : Fin 1536) (l : Fin 2) (n : Fin 6144) (hl : l.val = t.val / 4) (hn : n.val = t.val % 4 * 1536 + e.val) :
    (iblk m c 1 t : FVec Ideal S1x1024x1536 .f32) (ValueIdx.ix3 0 k e) = argW m c (ValueIdx.ix3 l k n) := by
  unfold iblk
  show ((cfg0.win 1).blk t).view.read (Elt Ideal) (V m c main_arg1) _ = _
  rw [V_main_arg1]
  blk_ext! [idx t]
  · exact hl.symm
  · exact hn.symm

/-- So it does of the bias. -/
theorem blk_b (t : Fin cfg0.N) (e : Fin 1536) (l : Fin 2) (n : Fin 6144) (hl : l.val = t.val / 4) (hn : n.val = t.val % 4 * 1536 + e.val) :
    (iblk m c 2 t : FVec Ideal S1x1x1536 .f32) (ValueIdx.ix3 0 0 e) = argB m c (ValueIdx.ix2 l n) := by
  refine Eq.trans ?_ (V_b m c l n)
  unfold iblk
  show ((cfg0.win 2).blk t).view.read (Elt Ideal) (V m c main_v0) _ = _
  blk_ext! [idx t]
  · exact hl.symm
  · exact hn.symm

/-- The launch leaves the result at `out`. -/
theorem final : (Gen.dats m 0 c).arrAt 3 cfg0.N = out m c := by
  refine (Gen.dats m 0 c).arrAt_eq_of_covers 3 _ (by decide +kernel) fun t hf y => ?_
  have h0 : ((((cfg0.win 3).blk t).view.emb y) 0).val = t.val / 4 := by blk_simp [idx t]
  have h1 : ((((cfg0.win 3).blk t).view.emb y) 1).val = (y 1).val := by blk_simp [idx t]
  have h2 : ((((cfg0.win 3).blk t).view.emb y) 2).val = t.val % 4 * 1536 + (y 2).val := by blk_simp [idx t]
  blk_simp
  rw [after0_3]
  unfold out0_3
  frame_out
  have ey : y = ValueIdx.ix3 (n0 := 1) (n1 := 8) (n2 := 1536) 0 (y 1) (y 2) := by
    refine (ValueIdx.eq_ix3 y).trans ?_
    rw [show y 0 = (0 : Fin 1) from Fin.ext (Nat.lt_one_iff.mp (y 0).isLt)]
    rfl
  refine (congrArg _ ey).trans ((pay _ _ _ (y 1) (y 2)).trans ?_)
  unfold out
  rw [blk_c, blk_b m c t (y 2) _ _ h0 h2]
  simp only [blk_w m c t _ (y 2) _ _ h0 h2]
  rw [show (((cfg0.win 3).blk t).view.emb y) 1 = y 1 from Fin.ext h1]

end Kernel

section Reference

open Cert.Reference6Ideal Cert.Reference6Ideal.Gen

variable (x : FVec Ideal S8x1024 .f32) (w : FVec Ideal S1024x6144 .f32) (b : FVec Ideal S6144 .f32)

/-- The reference's modulation of one layer. -/
def layerT : FVec Ideal S1x8x6144 .f32 :=
  broadcastInDim S1x8x6144 ![1, 2] bcast_S8x6144_S1x8x6144_1_2 (addf (Host.dotGeneral dot_S8x1024_S1024x6144_S8x6144_1_0_0_1_n_n none (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))) w)
    (broadcastInDim S8x6144 ![0, 1] bcast_S1x6144_S8x6144_0_1 (broadcastInDim S1x6144 ![1] bcast_S6144_S1x6144_1 b)))

/-- It at row `r`, column `e`. -/
theorem layerT_apply (r : Fin 8) (e : Fin 6144) : layerT x w b (ValueIdx.ix3 0 r e) = entry (fun k => x (ValueIdx.ix2 r k)) (fun k => w (ValueIdx.ix2 k e)) (b (ValueIdx.ix1 e)) := by
  unfold layerT entry
  pointwise
  rfl

/-- The modulation kernel and its reference, over the extended reals, end with the same result. -/
theorem algebraic : Cert.algebraic_Kernel6Ideal_Reference6Ideal := by
  intro m g m' g' _ hargs
  refine ⟨out m, ?_, ?_⟩
  · exact (θ_run _ _ _).mono (fun r h c => ⟨(h c).1.trans (final m c), (h c).2⟩) (Cert.Kernel6Ideal.Value.run_blocks m g)
  · refine (θ_run _ _ _).mono (fun r h c => ⟨(h c).1.trans ?_, (h c).2⟩) (Cert.Reference6Ideal.Value.run m' g')
    obtain ⟨h0, h1, h2⟩ := hargs c
    rw [h0, h1, h2]
    funext i
    let W (l : Nat) (h : Shape.Slices S2x1024x6144 ![l, 0, 0] S1x1024x6144) : FVec Ideal S1024x6144 .f32 :=
      shapeCast _ (extractStridedSlice S1x1024x6144 ![l, 0, 0] (argW m c) h) shapeCasts_S1x1024x6144_S1024x6144
    let b (l : Nat) (h : Shape.Slices S2x6144 ![l, 0] S1x6144) : FVec Ideal S6144 .f32 := shapeCast _ (extractStridedSlice S1x6144 ![l, 0] (argB m c) h) shapeCasts_S1x6144_S6144
    have hW (l : Fin 2) (h) (k : Fin 1024) (e : Fin 6144) : W l.val h (ValueIdx.ix2 k e) = argW m c (ValueIdx.ix3 l k e) := by
      refine (shapeCast_apply _ _ _ (ValueIdx.ix3 (n0 := 1) (n1 := 1024) (n2 := 6144) 0 k e) ?_).trans (congrArg (argW m c) ?_)
      · rw [Shape.rowMajor_val_two, Shape.rowMajor_val_three]
        show (0 * 1024 + k.val) * 6144 + e.val = k.val * 6144 + e.val
        omega
      · funext a; apply Fin.ext; match a with | ⟨0, _⟩ => rfl | ⟨1, _⟩ => exact Nat.zero_add _ | ⟨2, _⟩ => exact Nat.zero_add _
    have hb (l : Fin 2) (h) (e : Fin 6144) : b l.val h (ValueIdx.ix1 e) = argB m c (ValueIdx.ix2 l e) := by
      refine (shapeCast_apply _ _ _ (ValueIdx.ix2 (n0 := 1) (n1 := 6144) 0 e) ?_).trans (congrArg (argB m c) ?_)
      · rw [Shape.rowMajor_val_two, Shape.rowMajor_val_one]
        show 0 * 6144 + e.val = e.val
        omega
      · funext a; apply Fin.ext; match a with | ⟨0, _⟩ => rfl | ⟨1, _⟩ => exact Nat.zero_add _
    have hL (l : Fin 2) (h h') (r : Fin 8) (e : Fin 6144) : layerT (argC m c) (W l.val h) (b l.val h') (ValueIdx.ix3 0 r e)
        = entry (fun k => argC m c (ValueIdx.ix2 r k)) (fun k => argW m c (ValueIdx.ix3 l k e)) (argB m c (ValueIdx.ix2 l e)) := by
      refine (layerT_apply _ _ _ r e).trans ?_
      rw [hb]
      simp only [hW]
    show concatenate S2x8x6144 0 [⟨S1x8x6144, layerT (argC m c) (W 0 slices_S2x1024x6144_S1x1024x6144_0_0_0) (b 0 slices_S2x6144_S1x6144_0_0)⟩,
      ⟨S1x8x6144, layerT (argC m c) (W 1 slices_S2x1024x6144_S1x1024x6144_1_0_0) (b 1 slices_S2x6144_S1x6144_1_0)⟩] concatenates_S1x8x6144_S1x8x6144_S2x8x6144_d0 i = out m c i
    have piece := concatenate_apply_piece (t := S2x8x6144) 0 [⟨S1x8x6144, layerT (argC m c) (W 0 slices_S2x1024x6144_S1x1024x6144_0_0_0) (b 0 slices_S2x6144_S1x6144_0_0)⟩,
      ⟨S1x8x6144, layerT (argC m c) (W 1 slices_S2x1024x6144_S1x1024x6144_1_0_0) (b 1 slices_S2x6144_S1x6144_1_0)⟩] concatenates_S1x8x6144_S1x8x6144_S2x8x6144_d0 i
    have hi (l : Fin 2) (h : i 0 = l) : out m c i = entry (fun k => argC m c (ValueIdx.ix2 (i 1) k)) (fun k => argW m c (ValueIdx.ix3 l k (i 2))) (argB m c (ValueIdx.ix2 l (i 2))) := by
      rw [← h]; rfl
    have h2 : (i 0).val < 2 := (i 0).isLt
    rcases Nat.lt_or_ge (i 0).val 1 with h | h
    · have h0 : i 0 = (0 : Fin 2) := Fin.ext (show (i 0).val = 0 by omega)
      rw [hi 0 h0]
      exact (piece 0 (by simp) S1x8x6144 _ rfl rfl 0 rfl (ValueIdx.ix3 (n0 := 1) (n1 := 8) (n2 := 6144) 0 (i 1) (i 2))
        (fun b hb => by match b with | ⟨0, _⟩ => exact absurd rfl hb | ⟨1, _⟩ => rfl | ⟨2, _⟩ => rfl) (show 0 + 0 = (i 0).val by omega)).trans (hL 0 _ _ (i 1) (i 2))
    · have h1 : i 0 = (1 : Fin 2) := Fin.ext (show (i 0).val = 1 by omega)
      rw [hi 1 h1]
      exact (piece 1 (by simp) S1x8x6144 _ rfl rfl 1 rfl (ValueIdx.ix3 (n0 := 1) (n1 := 8) (n2 := 6144) 0 (i 1) (i 2))
        (fun b hb => by match b with | ⟨0, _⟩ => exact absurd rfl hb | ⟨1, _⟩ => rfl | ⟨2, _⟩ => rfl) (show 1 + 0 = (i 0).val by omega)).trans (hL 1 _ _ (i 1) (i 2))

end Reference

end Cert.Mod

end
-- ==== Proof.CtxSoft.lean ====
module

public import Idealize.ShloMosaic.Lib.ValueIdx
public import Idealize.ShloMosaic.Lib.IdealHost

@[expose] public section

noncomputable section

namespace Cert.Ctx

open Idealize.ShloMosaic
open scoped BigOperators

/-- Neither infinity. -/
def Fin' (x : EReal) : Prop := x ≠ ⊥ ∧ x ≠ ⊤

/-- Products of finite values are finite. -/
theorem fin_mul {x y : EReal} (hx : Fin' x) (hy : Fin' y) : Fin' (x * y) := by
  lift x to ℝ using ⟨hx.2, hx.1⟩
  lift y to ℝ using ⟨hy.2, hy.1⟩
  rw [← EReal.coe_mul]
  exact ⟨EReal.coe_ne_bot _, EReal.coe_ne_top _⟩

/-- So are sums. -/
theorem fin_sum {ι : Type} (s : Finset ι) (f : ι → EReal) (h : ∀ i, Fin' (f i)) : Fin' (∑ i ∈ s, f i) := by
  refine Finset.sum_induction f Fin' (fun x y hx hy => ?_) ⟨EReal.zero_ne_bot, EReal.zero_ne_top⟩ fun i _ => h i
  lift x to ℝ using ⟨hx.2, hx.1⟩
  lift y to ℝ using ⟨hy.2, hy.1⟩
  rw [← EReal.coe_add]
  exact ⟨EReal.coe_ne_bot _, EReal.coe_ne_top _⟩

/-- The pattern a row's maximum starts from is the least value. -/
theorem neg_inf : Ideal.ofBits .f32 0xFF800000#32 = ⊥ := by simp [Ideal.ofBits, Ideal.ieee]

/-- The pattern that bounds a finite value is the greatest. -/
theorem pos_inf : Ideal.ofBits .f32 0x7F800000#32 = ⊤ := by simp [Ideal.ofBits, Ideal.ieee]

/-- The scale of the queries. -/
theorem eighth : Ideal.ofBits .f32 0x3E000000#32 = ((1 / 8 : ℝ) : EReal) := by
  simp [Ideal.ofBits, Ideal.ieee]
  rw [← EReal.coe_mul]
  norm_num

/-- A row's maximum. -/
def mx (s : Fin 256 → EReal) : EReal := Finset.univ.fold max (Ideal.ofBits .f32 0xFF800000#32) s

/-- It is attained. -/
theorem mx_mem (s : Fin 256 → EReal) : ∃ j, mx s = s j := by
  obtain ⟨j, _, h⟩ := Finset.exists_mem_eq_sup (Finset.univ : Finset (Fin 256)) Finset.univ_nonempty s
  refine ⟨j, Eq.trans ?_ h⟩
  unfold mx
  rw [neg_inf]
  rfl

/-- The exponential is nowhere negative. -/
theorem exp_nonneg (x : EReal) : 0 ≤ Ideal.exp x := by
  induction x with
  | bot => exact le_rfl
  | top => exact le_top
  | coe r => exact EReal.coe_nonneg.2 (Real.exp_pos r).le

/-- The weights of a row of finite scores do not sum to zero: the greatest score has weight one. -/
theorem weights_ne_zero (s : Fin 256 → EReal) (h : ∀ j, Fin' (s j)) : ∑ j, Ideal.exp (s j - mx s) ≠ 0 := by
  obtain ⟨j, hj⟩ := mx_mem s
  have h1 : Ideal.exp (s j - mx s) = 1 := by
    rw [hj]
    obtain ⟨r, hr⟩ : ∃ r : ℝ, s j = r := ⟨(s j).toReal, (EReal.coe_toReal (h j).2 (h j).1).symm⟩
    rw [hr, ← EReal.coe_sub, sub_self]
    show ((Real.exp 0 : ℝ) : EReal) = 1
    rw [Real.exp_zero]
    rfl
  have h2 := Finset.single_le_sum (f := fun j => Ideal.exp (s j - mx s)) (fun i _ => exp_nonneg _) (Finset.mem_univ j)
  have h3 : (1 : EReal) ≤ ∑ j, Ideal.exp (s j - mx s) := h1 ▸ h2
  exact (lt_of_lt_of_le zero_lt_one h3).ne'

/-- A factor that is neither negative nor infinite comes out of a sum. -/
theorem sum_mul_out {ι : Type} (s : Finset ι) (f : ι → EReal) (c : EReal) (h0 : 0 ≤ c) (h1 : c ≠ ⊤) : ∑ i ∈ s, f i * c = (∑ i ∈ s, f i) * c := by
  classical
  induction s using Finset.induction_on with
  | empty => simp
  | insert a s ha ih => rw [Finset.sum_insert ha, Finset.sum_insert ha, ih, EReal.right_distrib_of_nonneg_of_ne_top h0 h1]

/-- One result of the attention: the values weighted by the exponentials of the scores, over the sum of the weights. -/
def attn (s v : Fin 256 → EReal) : EReal := Ideal.div (∑ j, Ideal.exp (s j - mx s) * v j) (∑ j, Ideal.exp (s j - mx s))

/-- Dividing each weight by their sum first gives the same. -/
theorem attn_eq (s v : Fin 256 → EReal) (h : ∀ j, Fin' (s j)) :
    ∑ j, v j * Ideal.div (Ideal.exp (s j - mx s)) (∑ j, Ideal.exp (s j - mx s)) = attn s v := by
  have hz := weights_ne_zero s h
  have hn : 0 ≤ ∑ j, Ideal.exp (s j - mx s) := Finset.sum_nonneg fun j _ => exp_nonneg _
  unfold attn Ideal.div
  simp only [if_neg hz]
  rw [← sum_mul_out _ _ _ (EReal.inv_nonneg_of_nonneg hn) (EReal.inv_lt_top _).ne]
  exact Finset.sum_congr rfl fun j _ => by rw [mul_comm (v j), mul_right_comm]

/-- A score with the query scaled and masked to one head, over all 256 columns: the head's 64 products, scaled. -/
theorem score_eq (q k : Fin 256 → EReal) (h : Fin 4) :
    ∑ l : Fin 256, (if l.val / 64 = h.val then q l * Ideal.ofBits .f32 0x3E000000#32 else 0) * k l
      = (∑ d : Fin 64, q (finProdFinEquiv (m := 4) (n := 64) (h, d)) * k (finProdFinEquiv (m := 4) (n := 64) (h, d))) * Ideal.ofBits .f32 0x3E000000#32 := by
  have hv (a : Fin 4) (d : Fin 64) : (finProdFinEquiv (m := 4) (n := 64) (a, d)).val / 64 = a.val := by
    rw [finProdFinEquiv_apply_val]
    show (d.val + 64 * a.val) / 64 = a.val
    omega
  rw [← Equiv.sum_comp (finProdFinEquiv (m := 4) (n := 64)), Fintype.sum_prod_type, Finset.sum_eq_single h]
  · rw [← sum_mul_out _ _ _ (by rw [eighth]; exact EReal.coe_nonneg.2 (by norm_num)) (by rw [eighth]; exact EReal.coe_ne_top _)]
    exact Finset.sum_congr rfl fun d _ => by rw [if_pos (hv h d), mul_right_comm]
  · intro a _ ha
    exact Finset.sum_eq_zero fun d _ => by rw [if_neg (by rw [hv]; exact fun e => ha (Fin.ext e)), zero_mul]
  · exact fun hn => absurd (Finset.mem_univ h) hn

end Cert.Ctx

end
-- ==== Proof.CtxAttn.lean ====
module

public import proofs.«01_k».proof.Defs
public import proofs.«01_k».proof.Proof.CtxSoft
public import proofs.«01_k».proof.Proof.Gen.Kernel7Ideal.Value
public import Idealize.ShloMosaic.Lib.Pipeline.ValueKit
public import Idealize.ShloMosaic.Lib.MatmulPlain
public import Idealize.ShloMosaic.Lib.Pointwise
public import Idealize.ShloMosaic.Lib.Claim

@[expose] public section

set_option maxRecDepth 16384

noncomputable section

namespace Cert.Ctx

open Cert.Kernel7Ideal Cert.Kernel7Ideal.Gen
open Idealize.ShloMosaic Idealize.ShloMosaic.TcCoe Idealize.SL.Sem
open scoped BigOperators

/-- A head's mask, spread over the rows. -/
def rowsOf (mk : IVec S1x256 1) : IVec S256x256 1 := broadcastTo S256x256 (shapeCast S1x256 mk shapeCasts_S1x256_S1x256) broadcasts_S1x256_S256x256

/-- A head's scores, from the queries masked to its columns. -/
def scoresT (mk : IVec S1x256 1) (q k : FVec Ideal S256x256 .bf16) : FVec Ideal S256x256 .f32 :=
  matmul dot_S256x256_S256x256_S256x256_1_1_0_0_n_n none (select (rowsOf mk) q (broadcast S256x256 (Scalar.ofBits .bf16 0x0000#16))) k (constant S256x256 .f32 0x00000000#32)

/-- The weights of the scores. -/
def weightsT (s : FVec Ideal S256x256 .f32) : FVec Ideal S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))

/-- The values weighted, over the sum of the weights. -/
def meanT (p : FVec Ideal S256x256 .f32) (v : FVec Ideal S256x256 .bf16) : FVec Ideal S256x256 .f32 :=
  divf (matmul dot_S256x256_S256x256_S256x256_1_0_0_1_n_n none (truncf .bf16 p bitsLt_bf16_f32) v (constant S256x256 .f32 0x00000000#32))
    (broadcastTo S256x256 (shapeCast S256x1 (multiReduction .add [1] S256 p 0x00000000#32 reduces_S256x256_S256 (.inl rfl) rfl) shapeCasts_S256_S256x1) broadcasts_S256x1_S256x256)

/-- One head's part of the result: zero outside of its columns. -/
def headT (mk : IVec S1x256 1) (q k v : FVec Ideal S256x256 .bf16) : FVec Ideal S256x256 .f32 :=
  select (rowsOf mk) (meanT (weightsT (scoresT mk q k)) v) (broadcast S256x256 (Scalar.ofBits .f32 0x00000000#32))

/-- The four heads' masks. -/
def maskOf : Fin 4 → IVec S1x256 1 := ![k0_pay5, k0_pay8 (iota .tc S1x256 32 [1] iota_S1x256_d1_w32) 64#32 k0_pay6 k0_pay7, k0_pay9 (iota .tc S1x256 32 [1] iota_S1x256_d1_w32),
  k0_pay11 (iota .tc S1x256 32 [1] iota_S1x256_d1_w32) 64#32 (k0_pay10 (iota .tc S1x256 32 [1] iota_S1x256_d1_w32)) 0#32]

/-- A head's mask is one in its own 64 columns. -/
theorem mask_apply : ∀ (h : Fin 4) (n : Fin 256), maskOf h (ValueIdx.ix2 0 n) = if n.val / 64 = h.val then 1#1 else 0#1 := by
  decide +kernel

/-- So is the mask spread over the rows. -/
theorem rowsOf_apply (h : Fin 4) (r n : Fin 256) : rowsOf (maskOf h) (ValueIdx.ix2 r n) = if n.val / 64 = h.val then 1#1 else 0#1 := by
  refine Eq.trans ?_ (mask_apply h n)
  unfold rowsOf
  pointwise
  rfl

/-- A score. -/
theorem scoresT_apply (h : Fin 4) (q k : FVec Ideal S256x256 .bf16) (r j : Fin 256) :
    scoresT (maskOf h) q k (ValueIdx.ix2 r j) = ∑ l : Fin 256, (if l.val / 64 = h.val then q (ValueIdx.ix2 r l) else 0) * k (ValueIdx.ix2 j l) := by
  refine (Ideal.matmul_transposedRhs_apply (M := 256) (K := 256) (N := 256) none _ _ _ r j).trans ?_
  show Ideal.ofBits .f32 0x00000000#32 + _ = _
  rw [Ideal.ofBits_zero_f32, zero_add]
  refine Finset.sum_congr rfl fun l _ => congrArg (· * _) ?_
  show Scalar.select (rowsOf (maskOf h) (ValueIdx.ix2 r l)) (q (ValueIdx.ix2 r l)) (Ideal.ofBits .bf16 0x0000#16) = _
  rw [rowsOf_apply, Ideal.ofBits_zero_bf16]
  split <;> rfl

/-- A weight. -/
theorem weightsT_apply (s : FVec Ideal S256x256 .f32) (r j : Fin 256) :
    weightsT s (ValueIdx.ix2 r j) = Ideal.exp (s (ValueIdx.ix2 r j) - mx fun j => s (ValueIdx.ix2 r j)) := by
  have hm := Ideal.multiReduction_maximumf_single (s := S256x256) (t := S256) (a := 1) s 0xFF800000#32 reduces_S256x256_S256 (.inl rfl) rfl (ValueIdx.ix1 r)
  have hb : (broadcastTo S256x256 (shapeCast S256x1 (multiReduction .maximumf [1] S256 s 0xFF800000#32 reduces_S256x256_S256 (.inl rfl) rfl) shapeCasts_S256_S256x1) broadcasts_S256x1_S256x256 : FVec Ideal S256x256 .f32) (ValueIdx.ix2 r j)
      = multiReduction .maximumf [1] S256 s 0xFF800000#32 reduces_S256x256_S256 (.inl rfl) rfl (ValueIdx.ix1 r) := by
    generalize (multiReduction .maximumf [1] S256 s 0xFF800000#32 reduces_S256x256_S256 (.inl rfl) rfl : FVec Ideal S256 .f32) = z
    pointwise
    rfl
  refine congrArg (fun z => Ideal.exp (s (ValueIdx.ix2 r j) - z)) ((hb.trans hm).trans ?_)
  refine congrArg (Finset.fold max (Ideal.ofBits .f32 0xFF800000#32) · Finset.univ) (funext fun l => congrArg s ?_)
  funext a; match a with | ⟨0, _⟩ => rfl | ⟨1, _⟩ => rfl

/-- The values weighted, at an entry. -/
theorem meanT_apply (p : FVec Ideal S256x256 .f32) (v : FVec Ideal S256x256 .bf16) (r n : Fin 256) :
    meanT p v (ValueIdx.ix2 r n) = Ideal.div (∑ j, p (ValueIdx.ix2 r j) * v (ValueIdx.ix2 j n)) (∑ j, p (ValueIdx.ix2 r j)) := by
  have hm := Ideal.multiReduction_add_single (s := S256x256) (t := S256) (a := 1) p 0x00000000#32 reduces_S256x256_S256 (.inl rfl) rfl (ValueIdx.ix1 r)
  have hb : (broadcastTo S256x256 (shapeCast S256x1 (multiReduction .add [1] S256 p 0x00000000#32 reduces_S256x256_S256 (.inl rfl) rfl) shapeCasts_S256_S256x1) broadcasts_S256x1_S256x256 : FVec Ideal S256x256 .f32) (ValueIdx.ix2 r n)
      = multiReduction .add [1] S256 p 0x00000000#32 reduces_S256x256_S256 (.inl rfl) rfl (ValueIdx.ix1 r) := by
    generalize (multiReduction .add [1] S256 p 0x00000000#32 reduces_S256x256_S256 (.inl rfl) rfl : FVec Ideal S256 .f32) = z
    pointwise
    rfl
  refine congrArg₂ Ideal.div ?_ ((hb.trans hm).trans ?_)
  · refine (Ideal.matmul_plain_apply (M := 256) (K := 256) (N := 256) none _ _ _ r n).trans ?_
    show Ideal.ofBits .f32 0x00000000#32 + _ = _
    rw [Ideal.ofBits_zero_f32, zero_add]
    rfl
  · refine Finset.sum_congr rfl fun l _ => congrArg p ?_
    funext a; match a with | ⟨0, _⟩ => rfl | ⟨1, _⟩ => rfl

/-- The scores of row `r` in head `h`. -/
def rowScores (h : Fin 4) (q k : FVec Ideal S256x256 .bf16) (r j : Fin 256) : EReal :=
  ∑ l : Fin 256, (if l.val / 64 = h.val then q (ValueIdx.ix2 r l) else 0) * k (ValueIdx.ix2 j l)

/-- A head's part of the result. -/
theorem headT_apply (h : Fin 4) (q k v : FVec Ideal S256x256 .bf16) (r n : Fin 256) :
    headT (maskOf h) q k v (ValueIdx.ix2 r n) = if n.val / 64 = h.val then attn (rowScores h q k r) (fun j => v (ValueIdx.ix2 j n)) else 0 := by
  show Scalar.select (rowsOf (maskOf h) (ValueIdx.ix2 r n)) (meanT _ v (ValueIdx.ix2 r n)) (Ideal.ofBits .f32 0x00000000#32) = _
  rw [rowsOf_apply, Ideal.ofBits_zero_f32, meanT_apply]
  simp only [weightsT_apply, scoresT_apply]
  split <;> rfl

/-- What the body stores. -/
def storedT (q k v : FVec Ideal S256x256 .bf16) : FVec Ideal S256x256 .bf16 :=
  truncf .bf16 (addf (addf (addf (addf (broadcast S256x256 (Scalar.ofBits .f32 0x00000000#32)) (headT (maskOf 0) q k v)) (headT (maskOf 1) q k v)) (headT (maskOf 2) q k v)) (headT (maskOf 3) q k v)) bitsLt_bf16_f32

/-- It at an entry: the entry's own head alone. -/
theorem storedT_apply (q k v : FVec Ideal S256x256 .bf16) (r n : Fin 256) (h : Fin 4) (hn : n.val / 64 = h.val) :
    storedT q k v (ValueIdx.ix2 r n) = attn (rowScores h q k r) (fun j => v (ValueIdx.ix2 j n)) := by
  show Ideal.ofBits .f32 0x00000000#32 + headT (maskOf 0) q k v (ValueIdx.ix2 r n) + headT (maskOf 1) q k v (ValueIdx.ix2 r n) + headT (maskOf 2) q k v (ValueIdx.ix2 r n)
    + headT (maskOf 3) q k v (ValueIdx.ix2 r n) = _
  simp only [headT_apply, Ideal.ofBits_zero_f32, hn]
  fin_cases h <;> simp

/-- Row `r` of the block of sequence `b`. -/
def rowOf (b : Fin 2) (r : Fin 256) : Fin 512 := ⟨b.val * 256 + r.val, by omega⟩

/-- Column `d` of head `h`. -/
abbrev colOf (h : Fin 4) (d : Fin 64) : Fin 256 := finProdFinEquiv (m := 4) (n := 64) (h, d)

/-- A score of sequence `b`: query `r` against key `j` in head `h`. -/
def scoreOf (q k : FVec Ideal S512x256 .f32) (b : Fin 2) (h : Fin 4) (r j : Fin 256) : EReal :=
  (∑ d : Fin 64, q (ValueIdx.ix2 (rowOf b r) (colOf h d)) * k (ValueIdx.ix2 (rowOf b j) (colOf h d))) * Ideal.ofBits .f32 0x3E000000#32

variable (m : (ℓ : Loc nD τ sig) → Buf (Elt Ideal) ℓ) (c : Dev nD)

/-- The queries as the program is launched. -/
abbrev argQ : FVec Ideal S512x256 .f32 := m ((c : Thread nD τ).loc main_arg0)
/-- The keys. -/
abbrev argK : FVec Ideal S512x256 .f32 := m ((c : Thread nD τ).loc main_arg1)
/-- The values. -/
abbrev argV : FVec Ideal S512x256 .f32 := m ((c : Thread nD τ).loc main_arg2)

/-- One result. -/
def result (b : Fin 2) (h : Fin 4) (r n : Fin 256) : EReal := attn (scoreOf (argQ m c) (argK m c) b h r) fun j => argV m c (ValueIdx.ix2 (rowOf b j) n)

/-- The whole result. -/
def out : FVec Ideal S512x256 .bf16 := fun i =>
  result m c ⟨(i 0).val / 256, by have h : (i 0).val < 512 := (i 0).isLt; omega⟩ ⟨(i 1).val / 64, by have h : (i 1).val < 256 := (i 1).isLt; omega⟩
    ⟨(i 0).val % 256, Nat.mod_lt _ (by decide)⟩ (i 1)

/-- Where the windows stand at point `t`. -/
theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

/-- The queries as the launch reads them. -/
theorem V_q (i : S512x256.Idx) : (V m c main_v2 : FVec Ideal S512x256 .bf16) i = argQ m c i * Ideal.ofBits .f32 0x3E000000#32 := by
  show StableHlo.after hostOps0 (fun b => m (c, b)) main_v2 _ = _
  unfold hostOps0; after_results
  rfl

/-- The keys. -/
theorem V_k (i : S512x256.Idx) : (V m c main_v3 : FVec Ideal S512x256 .bf16) i = argK m c i := by
  show StableHlo.after hostOps0 (fun b => m (c, b)) main_v3 _ = _
  unfold hostOps0; after_results
  rfl

/-- The values. -/
theorem V_v (i : S512x256.Idx) : (V m c main_v4 : FVec Ideal S512x256 .bf16) i = argV m c i := by
  show StableHlo.after hostOps0 (fun b => m (c, b)) main_v4 _ = _
  unfold hostOps0; after_results
  rfl

/-- Point `t` reads the queries of its own sequence. -/
theorem blk_q (t : Fin cfg0.N) (r l : Fin 256) (b : Fin 2) (hb : b.val = t.val) :
    (iblk m c 0 t : FVec Ideal S256x256 .bf16) (ValueIdx.ix2 r l) = argQ m c (ValueIdx.ix2 (rowOf b r) l) * Ideal.ofBits .f32 0x3E000000#32 := by
  refine Eq.trans ?_ (V_q m c _)
  unfold iblk
  show ((cfg0.win 0).blk t).view.read (Elt Ideal) (V m c main_v2) _ = _
  blk_ext! [idx t]
  show _ = b.val * 256 + r.val
  rw [hb]

/-- Its keys. -/
theorem blk_k (t : Fin cfg0.N) (r l : Fin 256) (b : Fin 2) (hb : b.val = t.val) :
    (iblk m c 1 t : FVec Ideal S256x256 .bf16) (ValueIdx.ix2 r l) = argK m c (ValueIdx.ix2 (rowOf b r) l) := by
  refine Eq.trans ?_ (V_k m c _)
  unfold iblk
  show ((cfg0.win 1).blk t).view.read (Elt Ideal) (V m c main_v3) _ = _
  blk_ext! [idx t]
  show _ = b.val * 256 + r.val
  rw [hb]

/-- Its values. -/
theorem blk_v (t : Fin cfg0.N) (r l : Fin 256) (b : Fin 2) (hb : b.val = t.val) :
    (iblk m c 2 t : FVec Ideal S256x256 .bf16) (ValueIdx.ix2 r l) = argV m c (ValueIdx.ix2 (rowOf b r) l) := by
  refine Eq.trans ?_ (V_v m c _)
  unfold iblk
  show ((cfg0.win 2).blk t).view.read (Elt Ideal) (V m c main_v4) _ = _
  blk_ext! [idx t]
  show _ = b.val * 256 + r.val
  rw [hb]

/-- The body's own loads and arithmetic store `storedT` of the blocks. -/
theorem out_eq (q k v : FVec Ideal S256x256 .bf16) : out0_3 (F := Ideal) q k v = storedT q k v := by
  unfold_out out0_3
  frame_out
  unfold k0_pay2 k0_pay3 k0_pay4
  simp only [shapeCast_self]
  rfl

/-- The launch leaves the result at `out`. -/
theorem final : (Gen.dats m 0 c).arrAt 3 cfg0.N = out m c := by
  refine (Gen.dats m 0 c).arrAt_eq_of_covers 3 _ (by decide +kernel) fun t hf y => ?_
  have ht : t.val < 2 := t.isLt
  have y0 : (y 0).val < 256 := (y 0).isLt
  have h0 : ((((cfg0.win 3).blk t).view.emb y) 0).val = t.val * 256 + (y 0).val := by blk_simp [idx t]
  have h1 : ((((cfg0.win 3).blk t).view.emb y) 1).val = (y 1).val := by blk_simp [idx t]
  blk_simp
  rw [after0_3, out_eq]
  have ey : y = ValueIdx.ix2 (n0 := 256) (n1 := 256) (y 0) (y 1) := ValueIdx.eq_ix2 y
  have hh : (y 1).val / 64 < 4 := by have h : (y 1).val < 256 := (y 1).isLt; omega
  refine (congrArg _ ey).trans ((storedT_apply _ _ _ (y 0) (y 1) ⟨(y 1).val / 64, hh⟩ rfl).trans ?_)
  have hs : rowScores ⟨(y 1).val / 64, hh⟩ (iblk m c 0 t) (iblk m c 1 t) (y 0) = scoreOf (argQ m c) (argK m c) ⟨t.val, ht⟩ ⟨(y 1).val / 64, hh⟩ (y 0) := by
    funext j
    refine Eq.trans (Finset.sum_congr rfl fun l _ => ?_) (score_eq (fun l => argQ m c (ValueIdx.ix2 (rowOf ⟨t.val, ht⟩ (y 0)) l)) (fun l => argK m c (ValueIdx.ix2 (rowOf ⟨t.val, ht⟩ j) l)) _)
    exact congrArg₂ (· * ·) (congrArg (ite _ · 0) (blk_q m c t (y 0) l ⟨t.val, ht⟩ rfl)) (blk_k m c t j l ⟨t.val, ht⟩ rfl)
  refine (congrArg₂ attn hs (funext fun j => blk_v m c t j (y 1) ⟨t.val, ht⟩ rfl)).trans ?_
  show result m c ⟨t.val, ht⟩ ⟨(y 1).val / 64, hh⟩ (y 0) (y 1) = out m c _
  unfold out
  congr 1
  · exact Fin.ext (by show t.val = _ / 256; rw [h0]; omega)
  · exact Fin.ext (by show (y 1).val / 64 = _ / 64; rw [h1])
  · exact Fin.ext (by show (y 0).val = _ % 256; rw [h0]; omega)
  · exact Fin.ext h1.symm

end Cert.Ctx

end
-- ==== Proof.CtxAttnRef.lean ====
module

public import proofs.«01_k».proof.Defs
public import proofs.«01_k».proof.Proof.CtxAttn
public import proofs.«01_k».proof.Proof.Gen.Reference7Ideal.Run
public import Idealize.ShloMosaic.Lib.ReduceAll
public import Idealize.ShloMosaic.Lib.StackMember

@[expose] public section

set_option maxRecDepth 16384

noncomputable section

namespace Cert.CtxRef

open Cert.Reference7Ideal Cert.Reference7Ideal.Gen Cert.Ctx
open Idealize.ShloMosaic Idealize.ShloMosaic.TcCoe Idealize.SL.Sem
open scoped BigOperators

/-- The precondition's own side conditions. -/
theorem preFacts : Cert.Pre_finite_scores.Facts := ⟨by decide, by decide, by decide⟩

/-- A value whose size is below the greatest is finite. -/
theorem fin_of_lt (x : EReal) (h : Ideal.cmp .olt (max x (-x)) (Ideal.ofBits .f32 0x7F800000#32) = 1#1) : Fin' x := by
  rw [pos_inf] at h
  have h : max x (-x) < ⊤ := by
    by_contra hn
    exact absurd h (by show ¬ BitVec.ofBool (decide (max x (-x) < ⊤)) = 1#1; rw [decide_eq_false hn]; decide)
  refine ⟨fun e => ?_, fun e => ?_⟩
  · rw [e] at h; simp at h
  · rw [e] at h; simp at h

/-- The precondition's queries and keys are finite. -/
theorem fin_args (q k v : FVec Ideal Cert.Pre_finite_scores.S512x256 .f32)
    (h : @Cert.Pre_finite_scores.fn preFacts Ideal _ q k v = fun _ => 1#1) : (∀ i, Fin' (q i)) ∧ ∀ i, Fin' (k i) := by
  have : Subsingleton Cert.Pre_finite_scores.S_.Idx := ⟨fun a b => funext fun k => k.elim0⟩
  obtain ⟨h0, h1⟩ := IntOp.andi_eq_one.1 (congrFun h fun k => k.elim0)
  exact ⟨fun i => fin_of_lt _ (Host.reduce_andi_all _ _ _ _ (fun k => k.elim0) h0 i), fun i => fin_of_lt _ (Host.reduce_andi_all _ _ _ _ (fun k => k.elim0) h1 i)⟩

variable (q k v : FVec Ideal S512x256 .f32)

/-- An argument split by sequence and head. -/
def splitT : FVec Ideal S2x256x4x64 .f32 := shapeCast _ q shapeCasts_S512x256_S2x256x4x64

/-- It at an entry. -/
theorem splitT_apply (b : Fin 2) (r : Fin 256) (h : Fin 4) (d : Fin 64) : splitT q (ValueIdx.ix4 b r h d) = q (ValueIdx.ix2 (rowOf b r) (colOf h d)) := by
  refine shapeCast_apply _ _ _ _ ?_
  rw [Shape.rowMajor_val_two, Shape.rowMajor_val_four]
  show (b.val * 256 + r.val) * 256 + (d.val + 64 * h.val) = ((b.val * 256 + r.val) * 4 + h.val) * 64 + d.val
  omega

/-- The reference's scores. -/
def scoresT : FVec Ideal S2x4x256x256 .f32 :=
  mulf (Host.dotGeneral dot_S2x256x4x64_S2x256x4x64_S2x4x256x256_3_3_1_1_02_02 none (splitT q) (splitT k)) (broadcastInDim S2x4x256x256 ![] bcast_S_S2x4x256x256 (constant S_ .f32 0x3E000000#32))

/-- One of them. -/
theorem scoresT_apply (b : Fin 2) (h : Fin 4) (r j : Fin 256) : scoresT q k (ValueIdx.ix4 b h r j) = scoreOf q k b h r j := by
  unfold scoresT scoreOf
  refine congrArg₂ (· * ·) ?_ rfl
  show FloatOps.dotGeneral _ none _ (splitT q) (splitT k) (ValueIdx.ix4 b h r j) = _
  rw [Ideal.dotGeneral_apply, ← Equiv.sum_comp (ValueIdx.contrEquiv1 dot_S2x256x4x64_S2x256x4x64_S2x4x256x256_3_3_1_1_02_02 64 rfl rfl).symm]
  refine Finset.sum_congr rfl fun d _ => ?_
  have hk := ValueIdx.contrEquiv1_symm_val dot_S2x256x4x64_S2x256x4x64_S2x4x256x256_3_3_1_1_02_02 64 rfl rfl d
  rw [← splitT_apply q b r h d, ← splitT_apply k b j h d]
  refine congrArg₂ (· * ·) (congrArg (splitT q) ?_) (congrArg (splitT k) ?_)
  · funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact hk
  · funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact hk

variable (s : FVec Ideal S2x4x256x256 .f32)

/-- The reference's weights of the scores. -/
def weightsT : FVec Ideal S2x4x256x256 .f32 :=
  Host.exp (subf s (broadcastInDim S2x4x256x256 ![0, 1, 2, 3] bcast_S2x4x256x1_S2x4x256x256_0_1_2_3 (broadcastInDim S2x4x256x1 ![0, 1, 2] bcast_S2x4x256_S2x4x256x1_0_1_2
    (maximumf (broadcastInDim S2x4x256 ![] bcast_S_S2x4x256 (constant S_ .f32 0xFF800000#32)) (Host.reduce FloatOps.maximumf s (constant S_ .f32 0xFF800000#32) reducesTo_S2x4x256x256_S2x4x256_d3 h_S_)))))

/-- A value of each row, spread over the row. -/
theorem spread_apply (z : FVec Ideal S2x4x256 .f32) (b : Fin 2) (h : Fin 4) (r j : Fin 256) :
    broadcastInDim S2x4x256x256 ![0, 1, 2, 3] bcast_S2x4x256x1_S2x4x256x256_0_1_2_3 (broadcastInDim S2x4x256x1 ![0, 1, 2] bcast_S2x4x256_S2x4x256x1_0_1_2 z) (ValueIdx.ix4 b h r j)
      = z (ValueIdx.ix3 b h r) := by
  pointwise
  rfl

/-- A weight. -/
theorem weightsT_apply (b : Fin 2) (h : Fin 4) (r j : Fin 256) :
    weightsT s (ValueIdx.ix4 b h r j) = Ideal.exp (s (ValueIdx.ix4 b h r j) - mx fun j => s (ValueIdx.ix4 b h r j)) := by
  unfold weightsT
  refine congrArg (fun z => Ideal.exp (s (ValueIdx.ix4 b h r j) - z)) ((spread_apply _ b h r j).trans ?_)
  show max (Ideal.ofBits .f32 0xFF800000#32) (Host.reduce FloatOps.maximumf s _ _ _ (ValueIdx.ix3 b h r)) = _
  rw [neg_inf, max_eq_right bot_le, Host.reduce_eq_fold_single (a := 3) FloatOps.maximumf s _ reducesTo_S2x4x256x256_S2x4x256_d3 (by decide) h_S_]
  refine congrArg (Finset.fold max (Ideal.ofBits .f32 0xFF800000#32) · Finset.univ) (funext fun l => congrArg s ?_)
  funext a; match a with | ⟨0, _⟩ => rfl | ⟨1, _⟩ => rfl | ⟨2, _⟩ => rfl | ⟨3, _⟩ => rfl

/-- The reference's weights over their sums. -/
def sharesT (p : FVec Ideal S2x4x256x256 .f32) : FVec Ideal S2x4x256x256 .f32 :=
  Host.divf p (broadcastInDim S2x4x256x256 ![0, 1, 2, 3] bcast_S2x4x256x1_S2x4x256x256_0_1_2_3 (broadcastInDim S2x4x256x1 ![0, 1, 2] bcast_S2x4x256_S2x4x256x1_0_1_2
    (Host.reduceAdd p (constant S_ .f32 0x00000000#32) reducesTo_S2x4x256x256_S2x4x256_d3 h_S_)))

/-- A share. -/
theorem sharesT_apply (p : FVec Ideal S2x4x256x256 .f32) (b : Fin 2) (h : Fin 4) (r j : Fin 256) :
    sharesT p (ValueIdx.ix4 b h r j) = Ideal.div (p (ValueIdx.ix4 b h r j)) (∑ j, p (ValueIdx.ix4 b h r j)) := by
  unfold sharesT
  refine congrArg (Ideal.div (p (ValueIdx.ix4 b h r j))) ((spread_apply _ b h r j).trans ?_)
  refine (Ideal.hostReduceAdd_single (a := 3) reducesTo_S2x4x256x256_S2x4x256_d3 (by decide) _ _ _).trans ?_
  show Ideal.ofBits .f32 0x00000000#32 + _ = _
  rw [Ideal.ofBits_zero_f32, zero_add]
  refine Finset.sum_congr rfl fun l _ => congrArg p ?_
  funext a; match a with | ⟨0, _⟩ => rfl | ⟨1, _⟩ => rfl | ⟨2, _⟩ => rfl | ⟨3, _⟩ => rfl

/-- The reference's values weighted by the shares. -/
def sumsT (v : FVec Ideal S512x256 .f32) (p : FVec Ideal S2x4x256x256 .f32) : FVec Ideal S2x4x64x256 .f32 :=
  Host.dotGeneral dot_S2x256x4x64_S2x4x256x256_S2x4x64x256_1_3_3_2_02_01 none (splitT v) p

/-- One of them. -/
theorem sumsT_apply (p : FVec Ideal S2x4x256x256 .f32) (b : Fin 2) (h : Fin 4) (d : Fin 64) (r : Fin 256) :
    sumsT v p (ValueIdx.ix4 b h d r) = ∑ j : Fin 256, v (ValueIdx.ix2 (rowOf b j) (colOf h d)) * p (ValueIdx.ix4 b h r j) := by
  show FloatOps.dotGeneral _ none _ (splitT v) p (ValueIdx.ix4 b h d r) = _
  rw [Ideal.dotGeneral_apply, ← Equiv.sum_comp (ValueIdx.contrEquiv1 dot_S2x256x4x64_S2x4x256x256_S2x4x64x256_1_3_3_2_02_01 256 rfl rfl).symm]
  refine Finset.sum_congr rfl fun j _ => ?_
  have hk := ValueIdx.contrEquiv1_symm_val dot_S2x256x4x64_S2x4x256x256_S2x4x64x256_1_3_3_2_02_01 256 rfl rfl j
  rw [← splitT_apply v b j h d]
  refine congrArg₂ (· * ·) (congrArg (splitT v) ?_) (congrArg p ?_)
  · funext ax; apply Fin.ext
    match ax with
    | ⟨0, _⟩ => simp [DotDims.lhsIdx]; rfl
    | ⟨1, _⟩ => simp [DotDims.lhsIdx]; exact hk
    | ⟨2, _⟩ => simp [DotDims.lhsIdx]; rfl
    | ⟨3, _⟩ => simp [DotDims.lhsIdx]; rfl
  · funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact hk

/-- The reference's result. -/
def outT (v : FVec Ideal S512x256 .f32) (p : FVec Ideal S2x4x256x256 .f32) : FVec Ideal S512x256 .bf16 :=
  truncf .bf16 (shapeCast _ (transpose S2x256x4x64 [0, 3, 1, 2] (sumsT v p) transposes_S2x4x64x256_S2x256x4x64_0_3_1_2) shapeCasts_S2x256x4x64_S512x256) bitsLt_bf16_f32

/-- It at an entry. -/
theorem outT_apply (p : FVec Ideal S2x4x256x256 .f32) (i : S512x256.Idx) (b : Fin 2) (h : Fin 4) (d : Fin 64) (r : Fin 256)
    (h0 : (i 0).val = b.val * 256 + r.val) (h1 : (i 1).val = h.val * 64 + d.val) : outT v p i = sumsT v p (ValueIdx.ix4 b h d r) := by
  show shapeCast _ (transpose S2x256x4x64 [0, 3, 1, 2] (sumsT v p) transposes_S2x4x64x256_S2x256x4x64_0_3_1_2) shapeCasts_S2x256x4x64_S512x256 i = _
  refine (shapeCast_apply _ _ _ (ValueIdx.ix4 b r h d) ?_).trans ?_
  · rw [Shape.rowMajor_val_two, Shape.rowMajor_val_four]
    show ((b.val * 256 + r.val) * 4 + h.val) * 64 + d.val = (i 0).val * 256 + (i 1).val
    omega
  · pointwise
    rfl

/-- Finite queries and keys have finite scores. -/
theorem fin_score (hq : ∀ i, Fin' (q i)) (hk : ∀ i, Fin' (k i)) (b : Fin 2) (h : Fin 4) (r j : Fin 256) : Fin' (scoreOf q k b h r j) := by
  refine fin_mul (fin_sum _ _ fun d => fin_mul (hq _) (hk _)) ?_
  rw [eighth]
  exact ⟨EReal.coe_ne_bot _, EReal.coe_ne_top _⟩

/-- The reference's sum of shares of the values is the attention. -/
theorem ref_eq (hq : ∀ i, Fin' (q i)) (hk : ∀ i, Fin' (k i)) (b : Fin 2) (h : Fin 4) (d : Fin 64) (r : Fin 256) :
    sumsT v (sharesT (weightsT (scoresT q k))) (ValueIdx.ix4 b h d r) = attn (scoreOf q k b h r) fun j => v (ValueIdx.ix2 (rowOf b j) (colOf h d)) := by
  rw [sumsT_apply]
  simp only [sharesT_apply, weightsT_apply, scoresT_apply]
  exact attn_eq _ _ (fin_score q k hq hk b h r)

/-- The context attention kernel and its reference, over the extended reals, end with the same result. -/
theorem algebraic : Cert.algebraic_Kernel7Ideal_Reference7Ideal_pre_finite_scores (hPre_finite_scores := preFacts) := by
  intro m g m' g' hpre hargs
  refine ⟨out m, ?_, ?_⟩
  · exact (θ_run _ _ _).mono (fun r h c => ⟨(h c).1.trans (final m c), (h c).2⟩) (Cert.Kernel7Ideal.Value.run_blocks m g)
  · refine (θ_run _ _ _).mono (fun r h c => ⟨(h c).1.trans ?_, (h c).2⟩) (Cert.Reference7Ideal.Value.run m' g')
    obtain ⟨h0, h1, h2⟩ := hargs c
    rw [h0, h1, h2]
    obtain ⟨hq, hk⟩ := fin_args _ _ _ (hpre c)
    funext i
    have i0 : (i 0).val < 512 := (i 0).isLt
    have i1 : (i 1).val < 256 := (i 1).isLt
    show outT (argV m c) (sharesT (weightsT (scoresT (argQ m c) (argK m c)))) i = out m c i
    refine (outT_apply _ _ i ⟨(i 0).val / 256, by omega⟩ ⟨(i 1).val / 64, by omega⟩ ⟨(i 1).val % 64, Nat.mod_lt _ (by decide)⟩ ⟨(i 0).val % 256, Nat.mod_lt _ (by decide)⟩
      (by show _ = _ / 256 * 256 + _ % 256; omega) (by show _ = _ / 64 * 64 + _ % 64; omega)).trans ?_
    refine (ref_eq _ _ _ hq hk _ _ _ _).trans ?_
    refine congrArg (attn _) (funext fun j => congrArg (fun n : Fin 256 => argV m c (ValueIdx.ix2 (rowOf ⟨(i 0).val / 256, by omega⟩ j) n)) (Fin.ext ?_))
    show (i 1).val % 64 + 64 * ((i 1).val / 64) = (i 1).val
    omega

end Cert.CtxRef

end
-- ==== Proof.FfnCtx.lean ====
module

public import proofs.«01_k».proof.Proof.Ffn
public import proofs.«01_k».proof.Proof.Gen.Kernel8Ideal.Value
public import proofs.«01_k».proof.Proof.Gen.Reference8Ideal.Run
public import Idealize.ShloMosaic.Lib.StackMember

@[expose] public section

set_option maxRecDepth 16384

noncomputable section

namespace Cert.FfnCtx

open Idealize.ShloMosaic Idealize.ShloMosaic.TcCoe Idealize.SL.Sem
open Idealize.ShloMosaic.StackMember (dotGeneral_plain_apply)
open Cert.Ffn (gated ffn)
open scoped BigOperators

section Kernel

open Cert.Kernel8Ideal Cert.Kernel8Ideal.Gen

variable (m : (ℓ : Loc nD τ sig) → Buf (Elt Ideal) ℓ) (c : Dev nD)

/-- The argument arrays as the program is launched. -/
abbrev argH : FVec Ideal S512x1024 .f32 := m ((c : Thread nD τ).loc main_arg0)
abbrev argX : FVec Ideal S512x1024 .f32 := m ((c : Thread nD τ).loc main_arg1)
abbrev argMod : FVec Ideal S8x6144 .f32 := m ((c : Thread nD τ).loc main_arg2)
abbrev argW1 : FVec Ideal S1024x2816 .f32 := m ((c : Thread nD τ).loc main_arg3)
abbrev argW3 : FVec Ideal S1024x2816 .f32 := m ((c : Thread nD τ).loc main_arg4)
abbrev argW2 : FVec Ideal S2816x1024 .f32 := m ((c : Thread nD τ).loc main_arg5)

/-- The result's entry at row `n`, column `e`: the gate is that of the third row of the modulation. -/
def outOf (h x : FVec Ideal S512x1024 .f32) (md : FVec Ideal S8x6144 .f32) (w1 w3 : FVec Ideal S1024x2816 .f32) (w2 : FVec Ideal S2816x1024 .f32) (n : Fin 512) (e : Fin 1024) : EReal :=
  x (ValueIdx.ix2 n e) + md (ValueIdx.ix2 2 ⟨5120 + e.val, by omega⟩)
    * ffn (fun k => h (ValueIdx.ix2 n k)) (fun k f => w1 (ValueIdx.ix2 k f)) (fun k f => w3 (ValueIdx.ix2 k f)) (fun f => w2 (ValueIdx.ix2 f e))

/-- The whole result. -/
def out : FVec Ideal S512x1024 .f32 := fun i => outOf (argH m c) (argX m c) (argMod m c) (argW1 m c) (argW3 m c) (argW2 m c) (i 0) (i 1)

/-- Where the windows stand. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The launch reads the whole rows (a cast to a narrower float is the identity here). -/
theorem blk_h (t : Fin cfg0.N) : (iblk m c 0 t : FVec Ideal S512x1024 .bf16) = argH m c := by
  have e : V m c main_v0 = argH m c := by
    show StableHlo.after hostOps0 (fun b => m (c, b)) main_v0 = _
    unfold hostOps0; after_results; rfl
  unfold iblk
  show ((cfg0.win 0).blk t).view.read (Elt Ideal) (V m c main_v0) = _
  rw [e]
  blk_ext! [idx t]

/-- The whole residual. -/
theorem blk_x (t : Fin cfg0.N) : (iblk m c 1 t : FVec Ideal S512x1024 .f32) = argX m c := by
  unfold iblk
  show ((cfg0.win 1).blk t).view.read (Elt Ideal) (V m c main_arg1) = _
  rw [V_main_arg1]
  blk_ext! [idx t]

/-- The whole modulation. -/
theorem blk_mod (t : Fin cfg0.N) : (iblk m c 2 t : FVec Ideal S8x6144 .f32) = argMod m c := by
  unfold iblk
  show ((cfg0.win 2).blk t).view.read (Elt Ideal) (V m c main_arg2) = _
  rw [V_main_arg2]
  blk_ext! [idx t]

/-- The whole first weight. -/
theorem blk_w1 (t : Fin cfg0.N) : (iblk m c 3 t : FVec Ideal S1024x2816 .bf16) = argW1 m c := by
  have e : V m c main_v1 = argW1 m c := by
    show StableHlo.after hostOps0 (fun b => m (c, b)) main_v1 = _
    unfold hostOps0; after_results; rfl
  unfold iblk
  show ((cfg0.win 3).blk t).view.read (Elt Ideal) (V m c main_v1) = _
  rw [e]
  blk_ext! [idx t]

/-- The whole third weight. -/
theorem blk_w3 (t : Fin cfg0.N) : (iblk m c 4 t : FVec Ideal S1024x2816 .bf16) = argW3 m c := by
  have e : V m c main_v2 = argW3 m c := by
    show StableHlo.after hostOps0 (fun b => m (c, b)) main_v2 = _
    unfold hostOps0; after_results; rfl
  unfold iblk
  show ((cfg0.win 4).blk t).view.read (Elt Ideal) (V m c main_v2) = _
  rw [e]
  blk_ext! [idx t]

/-- The whole second weight. -/
theorem blk_w2 (t : Fin cfg0.N) : (iblk m c 5 t : FVec Ideal S2816x1024 .bf16) = argW2 m c := by
  have e : V m c main_v3 = argW2 m c := by
    show StableHlo.after hostOps0 (fun b => m (c, b)) main_v3 = _
    unfold hostOps0; after_results; rfl
  unfold iblk
  show ((cfg0.win 5).blk t).view.read (Elt Ideal) (V m c main_v3) = _
  rw [e]
  blk_ext! [idx t]

/-- The body computes what the latent tokens' call does. -/
theorem pay_eq (h : FVec Ideal S512x1024 .bf16) (w1a w3a w1b w3b : FVec Ideal S1024x1408 .bf16) (w2 : FVec Ideal S2816x1024 .bf16) (md : FVec Ideal S1x6144 .f32) (x : FVec Ideal S512x1024 .f32) :
    k0_pay1 (F := Ideal) h w1a w3a w1b w3b w2 md x = Cert.Kernel2Ideal.Gen.k0_pay1 (F := Ideal) (Cert.Kernel2Ideal.Gen.k0_pay2 (F := Ideal) h w1a w3a w1b w3b w2) md x := by
  unfold k0_pay1 Cert.Kernel2Ideal.Gen.k0_pay1 Cert.Kernel2Ideal.Gen.k0_pay2
  simp only [shapeCast_self]
  rfl

/-- The body's value is that of the latent tokens' call, of the third row of the modulation. -/
theorem out_eq (h : FVec Ideal S512x1024 .bf16) (x : FVec Ideal S512x1024 .f32) (md : FVec Ideal S8x6144 .f32) (w1 w3 : FVec Ideal S1024x2816 .bf16) (w2 : FVec Ideal S2816x1024 .bf16)
    (n : Fin 512) (e : Fin 1024) : out0_6 (F := Ideal) h x md w1 w3 w2 (ValueIdx.ix2 n e) = outOf h x md w1 w3 w2 n e := by
  unfold out0_6
  frame_out
  rw [pay_eq]
  refine (Cert.Ffn.pay h w1 w3 w2 (View.ld (Val := Elt Ideal) (e' := .f32) md r0_4) x n e).trans ?_
  unfold outOf
  refine congrArg₂ (· + ·) rfl (congrArg₂ (· * ·) ?_ rfl)
  refine View.ld_unit_apply_of _ _ _ _ _ _ fun a => ?_
  match a with | ⟨0, _⟩ => rfl | ⟨1, _⟩ => exact (Nat.zero_add _).symm

/-- The launch leaves the result at `out`. -/
theorem final : (Gen.dats m 0 c).arrAt 6 cfg0.N = out m c := by
  refine (Gen.dats m 0 c).arrAt_eq_of_covers 6 _ (by decide +kernel) fun t hf y => ?_
  have h0 : ((((cfg0.win 6).blk t).view.emb y) 0).val = (y 0).val := by blk_simp [idx t]
  have h1 : ((((cfg0.win 6).blk t).view.emb y) 1).val = (y 1).val := by blk_simp [idx t]
  blk_simp
  rw [after0_6, blk_h, blk_x, blk_mod, blk_w1, blk_w3, blk_w2]
  refine (congrArg _ (ValueIdx.eq_ix2 y)).trans ((out_eq _ _ _ _ _ _ (y 0) (y 1)).trans ?_)
  unfold out
  rw [show (((cfg0.win 6).blk t).view.emb y) 0 = y 0 from Fin.ext h0, show (((cfg0.win 6).blk t).view.emb y) 1 = y 1 from Fin.ext h1]

end Kernel

section Reference

open Cert.Reference8Ideal Cert.Reference8Ideal.Gen

variable (h x : FVec Ideal S512x1024 .f32) (md : FVec Ideal S8x6144 .f32) (w1 w3 : FVec Ideal S1024x2816 .f32) (w2 : FVec Ideal S2816x1024 .f32)

/-- The reference's gated units. -/
def units : FVec Ideal S512x2816 .f32 :=
  mulf (mulf (Host.dotGeneral dot_S512x1024_S1024x2816_S512x2816_1_0_0_1_n_n none h w1) (Host.divf (broadcastInDim S512x2816 ![] bcast_S_S512x2816 (constant S_ .f32 0x3F800000#32)) (addf (broadcastInDim S512x2816 ![] bcast_S_S512x2816 (constant S_ .f32 0x3F800000#32)) (Host.exp (Host.negf (Host.dotGeneral dot_S512x1024_S1024x2816_S512x2816_1_0_0_1_n_n none h w1))))))
    (Host.dotGeneral dot_S512x1024_S1024x2816_S512x2816_1_0_0_1_n_n none h w3)

/-- The gate's row, of the third row of the modulation. -/
def gateT : FVec Ideal S512x1024 .f32 :=
  broadcastInDim S512x1024 ![0, 1] bcast_S1x1024_S512x1024_0_1 (broadcastInDim S1x1024 ![1] bcast_S1024_S1x1024_1 (extractStridedSlice S1024 ![5120] (shapeCast _ (extractStridedSlice S1x6144 ![2, 0] md slices_S8x6144_S1x6144_2_0) shapeCasts_S1x6144_S6144) slices_S6144_S1024_5120))

/-- The reference's result. -/
def term : FVec Ideal S512x1024 .f32 :=
  addf x (mulf (gateT md) (Host.dotGeneral dot_S512x2816_S2816x1024_S512x1024_1_0_0_1_n_n none (units h w1 w3) w2))

/-- A gated unit of the reference. -/
theorem units_apply (n : Fin 512) (f : Fin 2816) : units h w1 w3 (ValueIdx.ix2 n f)
    = gated (fun k => h (ValueIdx.ix2 n k)) (fun k => w1 (ValueIdx.ix2 k f)) (fun k => w3 (ValueIdx.ix2 k f)) := by
  have e (w : FVec Ideal S1024x2816 .f32) : Host.dotGeneral dot_S512x1024_S1024x2816_S512x2816_1_0_0_1_n_n none h w (ValueIdx.ix2 n f)
      = ∑ k, h (ValueIdx.ix2 n k) * w (ValueIdx.ix2 k f) :=
    dotGeneral_plain_apply (m := 512) (k := 1024) (n := 2816) none h w n f
  unfold units
  show (Host.dotGeneral dot_S512x1024_S1024x2816_S512x2816_1_0_0_1_n_n none h w1 _ * Ideal.div (Ideal.ofBits .f32 0x3F800000#32) (Ideal.ofBits .f32 0x3F800000#32 + Ideal.exp (-(Host.dotGeneral dot_S512x1024_S1024x2816_S512x2816_1_0_0_1_n_n none h w1 _)))) * Host.dotGeneral dot_S512x1024_S1024x2816_S512x2816_1_0_0_1_n_n none h w3 _ = _
  rw [e, e, Ideal.ofBits_one_f32]; rfl

/-- The gate at a column. -/
theorem gateT_apply (n : Fin 512) (e : Fin 1024) : gateT md (ValueIdx.ix2 n e) = md (ValueIdx.ix2 2 ⟨5120 + e.val, by omega⟩) := by
  have hs : shapeCast S6144 (extractStridedSlice S1x6144 ![2, 0] md slices_S8x6144_S1x6144_2_0) shapeCasts_S1x6144_S6144 (ValueIdx.ix1 (n := 6144) ⟨5120 + e.val, by omega⟩)
      = md (ValueIdx.ix2 2 ⟨5120 + e.val, by omega⟩) := by
    refine (shapeCast_apply _ _ _ (ValueIdx.ix2 (n0 := 1) (n1 := 6144) 0 ⟨5120 + e.val, by omega⟩) ?_).trans (congrArg md ?_)
    · rw [Shape.rowMajor_val_two, Shape.rowMajor_val_one]
      show 0 * 6144 + (5120 + e.val) = 5120 + e.val
      omega
    · funext a; apply Fin.ext; match a with | ⟨0, _⟩ => rfl | ⟨1, _⟩ => exact Nat.zero_add _
  refine Eq.trans ?_ hs
  unfold gateT
  generalize shapeCast S6144 (extractStridedSlice S1x6144 ![2, 0] md slices_S8x6144_S1x6144_2_0) shapeCasts_S1x6144_S6144 = z
  pointwise
  refine congrArg z ?_
  funext a; apply Fin.ext; match a with | ⟨0, _⟩ => rfl

/-- The reference's result at an entry. -/
theorem term_apply (n : Fin 512) (e : Fin 1024) : term h x md w1 w3 w2 (ValueIdx.ix2 n e) = outOf h x md w1 w3 w2 n e := by
  unfold outOf ffn
  refine congrArg₂ (· + ·) rfl (congrArg₂ (· * ·) (gateT_apply md n e) ?_)
  refine (dotGeneral_plain_apply (m := 512) (k := 2816) (n := 1024) none (units h w1 w3) w2 n e).trans ?_
  exact Finset.sum_congr rfl fun f _ => congrArg (· * w2 (ValueIdx.ix2 f e)) (units_apply h w1 w3 n f)

/-- The context tokens' feed-forward kernel and its reference, over the extended reals, end with the same result. -/
theorem algebraic : Cert.algebraic_Kernel8Ideal_Reference8Ideal := by
  intro m g m' g' _ hargs
  refine ⟨out m, ?_, ?_⟩
  · exact (θ_run _ _ _).mono (fun r h c => ⟨(h c).1.trans (final m c), (h c).2⟩) (Cert.Kernel8Ideal.Value.run_blocks m g)
  · refine (θ_run _ _ _).mono (fun r h c => ⟨(h c).1.trans ?_, (h c).2⟩) (Cert.Reference8Ideal.Value.run m' g')
    obtain ⟨h0, h1, h2, h3, h4, h5⟩ := hargs c
    rw [h0, h1, h2, h3, h4, h5]
    funext i
    refine (congrArg _ (ValueIdx.eq_ix2 i)).trans ?_
    exact term_apply (argH m c) (argX m c) (argMod m c) (argW1 m c) (argW3 m c) (argW2 m c) (i 0) (i 1)

end Reference

end Cert.FfnCtx

end
-- ==== Proof.lean ====
module

public import proofs.«01_k».proof.Defs
public import proofs.«01_k».proof.Proof.NaFrame
public import proofs.«01_k».proof.Proof.NaBits
public import proofs.«01_k».proof.Proof.FfnRef
public import proofs.«01_k».proof.Proof.MoeRef
public import proofs.«01_k».proof.Proof.InProjRef
public import proofs.«01_k».proof.Proof.MixOutRef
public import proofs.«01_k».proof.Proof.Mod
public import proofs.«01_k».proof.Proof.CtxAttnRef
public import proofs.«01_k».proof.Proof.FfnCtx
public import proofs.«01_k».proof.Proof.Gen.Kernel
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3Ideal.Skeleton
public import proofs.«01_k».proof.Proof.Gen.Kernel3Ideal.Launch
public import proofs.«01_k».proof.Proof.Gen.Kernel3
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import Idealize.ShloMosaic.Adequacy
public import Idealize.ShloMosaic.Init

@[expose] public section

noncomputable section

namespace Cert.Proof

open Idealize.ShloMosaic Idealize.SL.Sem

/-- The attention kernel's frame over the extended reals. -/
theorem frame_kernel_ideal : Cert.quiescent_KernelIdeal := fun m ρ _ => Cert.Na.frame_any m ρ

/-- The attention reference's frame over the extended reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The feed-forward kernel's frame at the machine's floats. -/
theorem frame_kernel2 : Cert.quiescent_Kernel2 := fun m ρ _ => Cert.Kernel2.Gen.frame m ρ

/-- The feed-forward kernel's frame over the extended reals. -/
theorem frame_kernel2_ideal : Cert.quiescent_Kernel2Ideal := fun m ρ _ => Cert.Kernel2Ideal.Gen.frame m ρ

/-- The feed-forward reference's frame over the extended reals. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The input projection kernel's frame at the machine's floats. -/
theorem frame_kernel4 : Cert.quiescent_Kernel4 := fun m ρ _ => Cert.Kernel4.Gen.frame m ρ

/-- The input projection kernel's frame over the extended reals. -/
theorem frame_kernel4_ideal : Cert.quiescent_Kernel4Ideal := fun m ρ _ => Cert.Kernel4Ideal.Gen.frame m ρ

/-- The input projection reference's frame over the extended reals. -/
theorem frame_reference4 : Cert.quiescent_Reference4Ideal := fun m ρ _ =>
  (θ_run Cert.Reference4Ideal.defs _ _).mono
    (fun r h => ⟨fun c => (h c).2.2.2.2.2.2.2.2, sem_eq_zero_of_no_sems (by decide) r.2⟩) (Cert.Reference4Ideal.Value.run m ρ)

/-- The output projection kernel's frame over the extended reals. -/
theorem frame_kernel5_ideal : Cert.quiescent_Kernel5Ideal := fun m ρ _ => Cert.Kernel5Ideal.Gen.frame m ρ

/-- The output projection reference's frame over the extended reals. -/
theorem frame_reference5 : Cert.quiescent_Reference5Ideal := fun m ρ _ =>
  (θ_run Cert.Reference5Ideal.defs _ _).mono
    (fun r h => ⟨fun c => (h c).2.2, sem_eq_zero_of_no_sems (by decide) r.2⟩) (Cert.Reference5Ideal.Value.run m ρ)

/-- The modulation kernel's frame at the machine's floats. -/
theorem frame_kernel6 : Cert.quiescent_Kernel6 := fun m ρ _ => Cert.Kernel6.Gen.frame m ρ

/-- The modulation kernel's frame over the extended reals. -/
theorem frame_kernel6_ideal : Cert.quiescent_Kernel6Ideal := fun m ρ _ => Cert.Kernel6Ideal.Gen.frame m ρ

/-- The modulation reference's frame over the extended reals. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The context attention kernel's frame at the machine's floats. -/
theorem frame_kernel7 : Cert.quiescent_Kernel7 := fun m ρ _ => Cert.Kernel7.Gen.frame m ρ

/-- The context attention kernel's frame over the extended reals. -/
theorem frame_kernel7_ideal : Cert.quiescent_Kernel7Ideal := fun m ρ _ => Cert.Kernel7Ideal.Gen.frame m ρ

/-- The context attention reference's frame over the extended reals. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- The context tokens' feed-forward kernel's frame at the machine's floats. -/
theorem frame_kernel8 : Cert.quiescent_Kernel8 := fun m ρ _ => Cert.Kernel8.Gen.frame m ρ

/-- The context tokens' feed-forward kernel's frame over the extended reals. -/
theorem frame_kernel8_ideal : Cert.quiescent_Kernel8Ideal := fun m ρ _ => Cert.Kernel8Ideal.Gen.frame m ρ

/-- The context tokens' feed-forward reference's frame over the extended reals. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Moe.preFacts, Cert.CtxRef.preFacts,
    Cert.Na.frame_kernel, frame_kernel_ideal, frame_reference,
    frame_kernel2, frame_kernel2_ideal, frame_reference2,
    Cert.Moe.frame_kernel3, Cert.Moe.frame_kernel3_ideal, Cert.Moe.frame_reference3,
    frame_kernel4, frame_kernel4_ideal, frame_reference4,
    frame_kernel5_ideal, frame_reference5,
    frame_kernel6, frame_kernel6_ideal, frame_reference6,
    frame_kernel7, frame_kernel7_ideal, fun m ρ _ => frame_kernel7_ideal m ρ trivial, frame_reference7, fun m ρ _ => frame_reference7 m ρ trivial,
    frame_kernel8, frame_kernel8_ideal, frame_reference8,
    trivial, trivial, Cert.FfnRef.algebraic, trivial, Cert.MoeRef.algebraic,
    trivial, Cert.InProjRef.algebraic, Cert.MixOutRef.algebraic,
    trivial, Cert.Mod.algebraic, trivial, Cert.CtxRef.algebraic,
    trivial, Cert.FfnCtx.algebraic⟩

end Cert.Proof

end
